-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_ids_in_range [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_ids_in_range [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel)
    ∧ quiescent_KernelIdeal (hKernelIdeal := hKernelIdeal)
    ∧ quiescent_KernelIdeal_pre_ids_in_range (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal_pre_ids_in_range (hKernelIdeal := hKernelIdeal) (hReferenceIdeal := hReferenceIdeal) (hPre_ids_in_range := hPre_ids_in_range)
-- ==== Pre_ids_in_range.lean ====
abbrev S16x12288 : Shape := ⟨2, ![16, 12288]⟩
abbrev S16 : Shape := ⟨1, ![16]⟩
abbrev S12288x32000 : Shape := ⟨2, ![12288, 32000]⟩
abbrev S32000 : Shape := ⟨1, ![32000]⟩
abbrev S16x1024 : Shape := ⟨2, ![16, 1024]⟩
abbrev S16x20 : Shape := ⟨2, ![16, 20]⟩
abbrev S_ : Shape := ⟨0, ![]⟩

class Facts : Prop where
  bcast_S_S16x1024 : S_.BroadcastsInDim S16x1024 (![] : Fin 0 → Fin S16x1024.rank)
  bcast_S_S16x20 : S_.BroadcastsInDim S16x20 (![] : Fin 0 → Fin S16x20.rank)

variable [Facts]

def fn {F : FTy → Type} [FloatOps F] (main_arg0 : FVec F S16x12288 .fp8e4m3) (main_arg1 : FVec F S16 .f32) (main_arg2 : FVec F S12288x32000 .fp8e4m3) (main_arg3 : FVec F S32000 .f32) (main_arg4 : IVec S16x1024 32) (main_arg5 : IVec S16 32) (main_arg6 : FVec F S16 .f32) (main_arg7 : FVec F S16 .f32) (main_arg8 : FVec F S16 .f32) (main_arg9 : IVec S16x20 32) : IVec S16x1024 1 × IVec S16x20 1 × IVec S16x20 1 :=
  let main_c : IVec S_ 32 := constantI S_ 32 0#32
  let main_v0 : IVec S16x1024 32 := broadcastInDim S16x1024 ![] bcast_S_S16x1024 main_c
  let main_v1 : IVec S16x1024 1 := cmpi .sge main_arg4 main_v0
  let main_c_0 : IVec S_ 32 := constantI S_ 32 0#32
  let main_v2 : IVec S16x20 32 := broadcastInDim S16x20 ![] bcast_S_S16x20 main_c_0
  let main_v3 : IVec S16x20 1 := cmpi .sge main_arg9 main_v2
  let main_c_1 : IVec S_ 32 := constantI S_ 32 32000#32
  let main_v4 : IVec S16x20 32 := broadcastInDim S16x20 ![] bcast_S_S16x20 main_c_1
  let main_v5 : IVec S16x20 1 := cmpi .slt main_arg9 main_v4
  (main_v1, main_v3, main_v5)
-- ==== Kernel.lean ====
abbrev S16x12288 : Shape := ⟨2, ![16, 12288]⟩
abbrev S16 : Shape := ⟨1, ![16]⟩
abbrev S12288x32000 : Shape := ⟨2, ![12288, 32000]⟩
abbrev S32000 : Shape := ⟨1, ![32000]⟩
abbrev S16x1024 : Shape := ⟨2, ![16, 1024]⟩
abbrev S16x20 : Shape := ⟨2, ![16, 20]⟩
abbrev S1x32000 : Shape := ⟨2, ![1, 32000]⟩
abbrev S1x16 : Shape := ⟨2, ![1, 16]⟩
abbrev S16x32000 : Shape := ⟨2, ![16, 32000]⟩
abbrev S1x640 : Shape := ⟨2, ![1, 640]⟩
abbrev S12288x640 : Shape := ⟨2, ![12288, 640]⟩
abbrev S16x640 : Shape := ⟨2, ![16, 640]⟩
abbrev S32x12288 : Shape := ⟨2, ![32, 12288]⟩
abbrev S4096x128 : Shape := ⟨2, ![4096, 128]⟩
abbrev S4x16x128 : Shape := ⟨3, ![4, 16, 128]⟩
abbrev S16x128 : Shape := ⟨2, ![16, 128]⟩
abbrev S1 : Shape := ⟨1, ![1]⟩
abbrev S1x16x128 : Shape := ⟨3, ![1, 16, 128]⟩
abbrev S1x1024 : Shape := ⟨2, ![1, 1024]⟩
abbrev S256x1024 : Shape := ⟨2, ![256, 1024]⟩
abbrev S128x1024 : Shape := ⟨2, ![128, 1024]⟩
abbrev S256x128 : Shape := ⟨2, ![256, 128]⟩
abbrev S32x640 : Shape := ⟨2, ![32, 640]⟩
abbrev S16x108 : Shape := ⟨2, ![16, 108]⟩
abbrev S1x128 : Shape := ⟨2, ![1, 128]⟩
abbrev S16x128x1 : Shape := ⟨3, ![16, 128, 1]⟩
abbrev S16x1 : Shape := ⟨2, ![16, 1]⟩
abbrev S128 : Shape := ⟨1, ![128]⟩

abbrev nBuf : Space → Nat
  | .hbm => 14
  | .vmem => 17
  | .smem => 5
  | _ => 0

abbrev bufTy : (tb : Table) → Fin (tcTables nBuf tb) → BufTy
  | .hbm, ⟨0, _⟩ => ⟨S16x12288, .fp8e4m3⟩
  | .hbm, ⟨1, _⟩ => ⟨S16, .f32⟩
  | .hbm, ⟨2, _⟩ => ⟨S12288x32000, .fp8e4m3⟩
  | .hbm, ⟨3, _⟩ => ⟨S32000, .f32⟩
  | .hbm, ⟨4, _⟩ => ⟨S16x1024, .i32⟩
  | .hbm, ⟨5, _⟩ => ⟨S16, .i32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S16x20, .i32⟩
  | .hbm, ⟨10, _⟩ => ⟨S1x32000, .f32⟩
  | .hbm, ⟨11, _⟩ => ⟨S1x16, .f32⟩
  | .hbm, ⟨12, _⟩ => ⟨S16x20, .f32⟩
  | .hbm, ⟨13, _⟩ => ⟨S16x32000, .f32⟩
  | .local _ .vmem, ⟨0, _⟩ => ⟨S16x12288, .fp8e4m3⟩
  | .local _ .vmem, ⟨1, _⟩ => ⟨S16x1024, .i32⟩
  | .local _ .vmem, ⟨2, _⟩ => ⟨S16x20, .i32⟩
  | .local _ .vmem, ⟨3, _⟩ => ⟨S1x640, .f32⟩
  | .local _ .vmem, ⟨4, _⟩ => ⟨S1x640, .f32⟩
  | .local _ .vmem, ⟨5, _⟩ => ⟨S12288x640, .fp8e4m3⟩
  | .local _ .vmem, ⟨6, _⟩ => ⟨S12288x640, .fp8e4m3⟩
  | .local _ .vmem, ⟨7, _⟩ => ⟨S1x16, .f32⟩
  | .local _ .vmem, ⟨8, _⟩ => ⟨S16x20, .f32⟩
  | .local _ .vmem, ⟨9, _⟩ => ⟨S16x640, .f32⟩
  | .local _ .vmem, ⟨10, _⟩ => ⟨S16x640, .f32⟩
  | .local _ .vmem, ⟨11, _⟩ => ⟨S32x12288, .fp8e4m3⟩
  | .local _ .vmem, ⟨12, _⟩ => ⟨S4096x128, .f32⟩
  | .local _ .vmem, ⟨13, _⟩ => ⟨S4x16x128, .f32⟩
  | .local _ .vmem, ⟨14, _⟩ => ⟨S16x128, .f32⟩
  | .local _ .vmem, ⟨15, _⟩ => ⟨S16x128, .f32⟩
  | .local _ .vmem, ⟨16, _⟩ => ⟨S16x128, .f32⟩
  | .local _ .smem, ⟨0, _⟩ => ⟨S16, .i32⟩
  | .local _ .smem, ⟨1, _⟩ => ⟨S16, .f32⟩
  | .local _ .smem, ⟨2, _⟩ => ⟨S16, .f32⟩
  | .local _ .smem, ⟨3, _⟩ => ⟨S16, .f32⟩
  | .local _ .smem, ⟨4, _⟩ => ⟨S16, .f32⟩
  | _, _ => ⟨S16x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev cc0_stg5_0 : Ref sig .tc := ⟨.vmem, 0, rfl⟩
abbrev cc0_stg6_0 : Ref sig .tc := ⟨.vmem, 1, rfl⟩
abbrev cc0_stg7_0 : Ref sig .tc := ⟨.vmem, 2, rfl⟩
abbrev cc0_stg8_0 : Ref sig .tc := ⟨.vmem, 3, rfl⟩
abbrev cc0_stg8_1 : Ref sig .tc := ⟨.vmem, 4, rfl⟩
abbrev cc0_stg9_0 : Ref sig .tc := ⟨.vmem, 5, rfl⟩
abbrev cc0_stg9_1 : Ref sig .tc := ⟨.vmem, 6, rfl⟩
abbrev cc0_stg10_0 : Ref sig .tc := ⟨.vmem, 7, rfl⟩
abbrev cc0_stg11_0 : Ref sig .tc := ⟨.vmem, 8, rfl⟩
abbrev cc0_stg12_0 : Ref sig .tc := ⟨.vmem, 9, rfl⟩
abbrev cc0_stg12_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9
abbrev cc0_sem9_0 : DmaSem sig := 10
abbrev cc0_sem9_1 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![50], ![false]⟩

def k0_off1 (i : grid0.Coords) (c0_i32_18 : BitVec 32) : Fin 2 → Nat :=
  let arg0 : BitVec 32 := BitVec.ofNat 32 (i 0).val
  let c5_i32 : BitVec 32 := 5#32
  let v23 : BitVec 32 := Scalar.muli arg0 c5_i32
  let v24 : BitVec 32 := Scalar.addi v23 c0_i32_18
  let c16_i32 : BitVec 32 := 16#32
  let v31 : BitVec 32 := Scalar.muli v24 c16_i32
  let v32 : Index := Scalar.indexCast v31
  let c0_21 : Index := 0#32
  ![v32.toNat, 0]
def k0_cond2 (i : grid0.Coords) : BitVec 1 :=
  let arg0 : BitVec 32 := BitVec.ofNat 32 (i 0).val
  let c49_i32 : BitVec 32 := 49#32
  let v237 : BitVec 1 := Scalar.cmpi .eq arg0 c49_i32
  let v238 : BitVec 32 := Scalar.extui v237
  let c0_i32_82 : BitVec 32 := 0#32
  let v239 : BitVec 1 := Scalar.cmpi .ne v238 c0_i32_82
  v239

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x12288 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x20 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S12288x640 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x20 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S16x640 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S16x12288 : Shape := ⟨2, ![16, 12288]⟩
abbrev S16 : Shape := ⟨1, ![16]⟩
abbrev S12288x32000 : Shape := ⟨2, ![12288, 32000]⟩
abbrev S32000 : Shape := ⟨1, ![32000]⟩
abbrev S16x1024 : Shape := ⟨2, ![16, 1024]⟩
abbrev S16x20 : Shape := ⟨2, ![16, 20]⟩
abbrev S16x32000 : Shape := ⟨2, ![16, 32000]⟩
abbrev S16x1 : Shape := ⟨2, ![16, 1]⟩
abbrev S1x32000 : Shape := ⟨2, ![1, 32000]⟩
abbrev S1024 : Shape := ⟨1, ![1024]⟩
abbrev S1x1024 : Shape := ⟨2, ![1, 1024]⟩
abbrev S_ : Shape := ⟨0, ![]⟩
abbrev S16x1024x1 : Shape := ⟨3, ![16, 1024, 1]⟩
abbrev S16x1024x2 : Shape := ⟨3, ![16, 1024, 2]⟩
abbrev S16x20x1 : Shape := ⟨3, ![16, 20, 1]⟩
abbrev S1 : Shape := ⟨1, ![1]⟩
abbrev S1x1x1 : Shape := ⟨3, ![1, 1, 1]⟩
abbrev S1x16 : Shape := ⟨2, ![1, 16]⟩

abbrev nBuf : Space → Nat
  | .hbm => 105
  | .vmem => 3
  | .smem => 0
  | _ => 0

abbrev bufTy : (tb : Table) → Fin (tcTables nBuf tb) → BufTy
  | .hbm, ⟨0, _⟩ => ⟨S16x12288, .fp8e4m3⟩
  | .hbm, ⟨1, _⟩ => ⟨S16, .f32⟩
  | .hbm, ⟨2, _⟩ => ⟨S12288x32000, .fp8e4m3⟩
  | .hbm, ⟨3, _⟩ => ⟨S32000, .f32⟩
  | .hbm, ⟨4, _⟩ => ⟨S16x1024, .i32⟩
  | .hbm, ⟨5, _⟩ => ⟨S16, .i32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S16x20, .i32⟩
  | .hbm, ⟨10, _⟩ => ⟨S16x32000, .f32⟩
  | .hbm, ⟨11, _⟩ => ⟨S16x1, .f32⟩
  | .hbm, ⟨12, _⟩ => ⟨S16x32000, .f32⟩
  | .hbm, ⟨13, _⟩ => ⟨S16x32000, .f32⟩
  | .hbm, ⟨14, _⟩ => ⟨S1x32000, .f32⟩
  | .hbm, ⟨15, _⟩ => ⟨S16x32000, .f32⟩
  | .hbm, ⟨16, _⟩ => ⟨S16x32000, .f32⟩
  | .hbm, ⟨17, _⟩ => ⟨S1024, .i32⟩
  | .hbm, ⟨18, _⟩ => ⟨S1x1024, .i32⟩
  | .hbm, ⟨19, _⟩ => ⟨S16x1, .i32⟩
  | .hbm, ⟨20, _⟩ => ⟨S16x1024, .i32⟩
  | .hbm, ⟨21, _⟩ => ⟨S16x1024, .i32⟩
  | .hbm, ⟨22, _⟩ => ⟨S16x1024, .i1⟩
  | .hbm, ⟨23, _⟩ => ⟨S16x1024, .f32⟩
  | .hbm, ⟨24, _⟩ => ⟨S16, .i32⟩
  | .hbm, ⟨25, _⟩ => ⟨S16x1, .i32⟩
  | .hbm, ⟨26, _⟩ => ⟨S16x1024, .i32⟩
  | .hbm, ⟨27, _⟩ => ⟨S_, .f32⟩
  | .hbm, ⟨28, _⟩ => ⟨S16x32000, .f32⟩
  | .hbm, ⟨29, _⟩ => ⟨S_, .i32⟩
  | .hbm, ⟨30, _⟩ => ⟨S16x1024, .i32⟩
  | .hbm, ⟨31, _⟩ => ⟨S16x1024, .i1⟩
  | .hbm, ⟨32, _⟩ => ⟨S_, .i32⟩
  | .hbm, ⟨33, _⟩ => ⟨S16x1024, .i32⟩
  | .hbm, ⟨34, _⟩ => ⟨S16x1024, .i32⟩
  | .hbm, ⟨35, _⟩ => ⟨S16x1024, .i32⟩
  | .hbm, ⟨36, _⟩ => ⟨S_, .i32⟩
  | .hbm, ⟨37, _⟩ => ⟨S16x1024, .i32⟩
  | .hbm, ⟨38, _⟩ => ⟨S16x1024, .i1⟩
  | .hbm, ⟨39, _⟩ => ⟨S_, .i32⟩
  | .hbm, ⟨40, _⟩ => ⟨S16x1024, .i32⟩
  | .hbm, ⟨41, _⟩ => ⟨S16x1024, .i32⟩
  | .hbm, ⟨42, _⟩ => ⟨S16x1024, .i32⟩
  | .hbm, ⟨43, _⟩ => ⟨S16x1024x1, .i32⟩
  | .hbm, ⟨44, _⟩ => ⟨S16x1024x1, .i32⟩
  | .hbm, ⟨45, _⟩ => ⟨S16x1024x2, .i32⟩
  | .hbm, ⟨46, _⟩ => ⟨S16x32000, .f32⟩
  | .hbm, ⟨47, _⟩ => ⟨S_, .f32⟩
  | .hbm, ⟨48, _⟩ => ⟨S16x32000, .f32⟩
  | .hbm, ⟨49, _⟩ => ⟨S16x32000, .i1⟩
  | .hbm, ⟨50, _⟩ => ⟨S16x1, .f32⟩
  | .hbm, ⟨51, _⟩ => ⟨S_, .f32⟩
  | .hbm, ⟨52, _⟩ => ⟨S16x32000, .f32⟩
  | .hbm, ⟨53, _⟩ => ⟨S16x32000, .i1⟩
  | .hbm, ⟨54, _⟩ => ⟨S16x32000, .f32⟩
  | .hbm, ⟨55, _⟩ => ⟨S16x32000, .f32⟩
  | .hbm, ⟨56, _⟩ => ⟨S16x32000, .f32⟩
  | .hbm, ⟨57, _⟩ => ⟨S16x32000, .f32⟩
  | .hbm, ⟨58, _⟩ => ⟨S16x32000, .f32⟩
  | .hbm, ⟨59, _⟩ => ⟨S16x32000, .f32⟩
  | .hbm, ⟨60, _⟩ => ⟨S16x1, .f32⟩
  | .hbm, ⟨61, _⟩ => ⟨S16x32000, .f32⟩
  | .hbm, ⟨62, _⟩ => ⟨S16x32000, .f32⟩
  | .hbm, ⟨63, _⟩ => ⟨S16x32000, .f32⟩
  | .hbm, ⟨64, _⟩ => ⟨S16x32000, .f32⟩
  | .hbm, ⟨65, _⟩ => ⟨S16x1, .f32⟩
  | .hbm, ⟨66, _⟩ => ⟨S16x32000, .f32⟩
  | .hbm, ⟨67, _⟩ => ⟨S16x32000, .f32⟩
  | .hbm, ⟨68, _⟩ => ⟨S16x32000, .f32⟩
  | .hbm, ⟨69, _⟩ => ⟨S_, .f32⟩
  | .hbm, ⟨70, _⟩ => ⟨S16, .f32⟩
  | .hbm, ⟨71, _⟩ => ⟨S16x1, .f32⟩
  | .hbm, ⟨72, _⟩ => ⟨S16x32000, .f32⟩
  | .hbm, ⟨73, _⟩ => ⟨S16x32000, .f32⟩
  | .hbm, ⟨74, _⟩ => ⟨S16x32000, .f32⟩
  | .hbm, ⟨75, _⟩ => ⟨S_, .f32⟩
  | .hbm, ⟨76, _⟩ => ⟨S16, .f32⟩
  | .hbm, ⟨77, _⟩ => ⟨S16, .f32⟩
  | .hbm, ⟨78, _⟩ => ⟨S16, .f32⟩
  | .hbm, ⟨79, _⟩ => ⟨S_, .i32⟩
  | .hbm, ⟨80, _⟩ => ⟨S16x20, .i32⟩
  | .hbm, ⟨81, _⟩ => ⟨S16x20, .i1⟩
  | .hbm, ⟨82, _⟩ => ⟨S_, .i32⟩
  | .hbm, ⟨83, _⟩ => ⟨S16x20, .i32⟩
  | .hbm, ⟨84, _⟩ => ⟨S16x20, .i32⟩
  | .hbm, ⟨85, _⟩ => ⟨S16x20, .i32⟩
  | .hbm, ⟨86, _⟩ => ⟨S16x20x1, .i32⟩
  | .hbm, ⟨87, _⟩ => ⟨S1, .i32⟩
  | .hbm, ⟨88, _⟩ => ⟨S_, .i32⟩
  | .hbm, ⟨89, _⟩ => ⟨S16x20x1, .i32⟩
  | .hbm, ⟨90, _⟩ => ⟨S16x20x1, .i1⟩
  | .hbm, ⟨91, _⟩ => ⟨S1x1x1, .i32⟩
  | .hbm, ⟨92, _⟩ => ⟨S16x20x1, .i32⟩
  | .hbm, ⟨93, _⟩ => ⟨S16x20x1, .i1⟩
  | .hbm, ⟨94, _⟩ => ⟨S16x20x1, .i1⟩
  | .hbm, ⟨95, _⟩ => ⟨S_, .i1⟩
  | .hbm, ⟨96, _⟩ => ⟨S16x20, .i1⟩
  | .hbm, ⟨97, _⟩ => ⟨S16x20, .f32⟩
  | .hbm, ⟨98, _⟩ => ⟨S_, .f32⟩
  | .hbm, ⟨99, _⟩ => ⟨S16x20, .f32⟩
  | .hbm, ⟨100, _⟩ => ⟨S16x20, .f32⟩
  | .hbm, ⟨101, _⟩ => ⟨S16x1, .f32⟩
  | .hbm, ⟨102, _⟩ => ⟨S16x20, .f32⟩
  | .hbm, ⟨103, _⟩ => ⟨S16x20, .f32⟩
  | .hbm, ⟨104, _⟩ => ⟨S1x16, .f32⟩
  | .local _ .vmem, ⟨0, _⟩ => ⟨S16x12288, .fp8e4m3⟩
  | .local _ .vmem, ⟨1, _⟩ => ⟨S12288x32000, .fp8e4m3⟩
  | .local _ .vmem, ⟨2, _⟩ => ⟨S16x32000, .f32⟩
  | _, _ => ⟨S16x12288, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_5 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_6 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_call2_c : Ref sig .tc := ⟨.hbm, 79, rfl⟩
abbrev main_call2_v0 : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_c_1 : Ref sig .tc := ⟨.hbm, 87, rfl⟩
abbrev main_call2_c_2 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_c_3 : Ref sig .tc := ⟨.hbm, 95, rfl⟩
abbrev main_call2_v12 : Ref sig .tc := ⟨.hbm, 96, rfl⟩
abbrev main_call2_v13 : Ref sig .tc := ⟨.hbm, 97, rfl⟩
abbrev main_call2_cst : Ref sig .tc := ⟨.hbm, 98, rfl⟩
abbrev main_call2_v14 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x32000 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x32000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Body.Runs.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 50 = 0 :=
  (fun t => by
    have ht : t.val < 50 := Nat.lt_of_lt_of_eq t.isLt N_0
    have e0 : (grid0.coords t 0).val = t.val / 1 % 50 := Pipeline.Grid.coords_val t 0 (by decide) rfl
    simp only [cond0_0, e0]
    word_cmp
   : ∀ t : Fin grid0.N, cond0_0 (grid0.coords t) ↔ t.val % 50 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 50 = 49 :=
  (fun t => by
    have ht : t.val < 50 := Nat.lt_of_lt_of_eq t.isLt N_0
    have e0 : (grid0.coords t 0).val = t.val / 1 % 50 := Pipeline.Grid.coords_val t 0 (by decide) rfl
    simp only [cond0_1, k0_cond2, e0]
    word_cmp
   : ∀ t : Fin grid0.N, cond0_1 (grid0.coords t) ↔ t.val % 50 = 49)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 12 is never idle (an output stored at every point, under no condition). -/
theorem liveAt0_12 : ∀ t : Fin cfg0.N, cfg0.idle 12 (grid0.coords t) = false := fun _ => rfl
/-- At the points of case A the printed configuration (`Cfg.idle`) calls output 10 idle: the case stores nothing into it. -/
theorem idleAt0_10_A : ∀ t : Fin cfg0.N, cond0_0 (grid0.coords t) → ¬cond0_1 (grid0.coords t) → cfg0.idle 10 (grid0.coords t) = true := by decide +kernel
/-- At the points of case A the pipeline does not write output 10's block back. -/
theorem noFlush0_10_A : ∀ t : Fin cfg0.N, cond0_0 (grid0.coords t) → ¬cond0_1 (grid0.coords t) → (cfg0.win 10).flush t = false := by decide +kernel
/-- At the points of case B the printed configuration (`Cfg.idle`) calls output 10 idle: the case stores nothing into it. -/
theorem idleAt0_10_B : ∀ t : Fin cfg0.N, ¬cond0_0 (grid0.coords t) → ¬cond0_1 (grid0.coords t) → cfg0.idle 10 (grid0.coords t) = true := by decide +kernel
/-- At the points of case B the pipeline does not write output 10's block back. -/
theorem noFlush0_10_B : ∀ t : Fin cfg0.N, ¬cond0_0 (grid0.coords t) → ¬cond0_1 (grid0.coords t) → (cfg0.win 10).flush t = false := by decide +kernel
/-- At the points of case C the printed configuration (`Cfg.idle`) calls output 10 live: the case stores into it. -/
theorem liveAt0_10_C : ∀ t : Fin cfg0.N, ¬cond0_0 (grid0.coords t) → cond0_1 (grid0.coords t) → cfg0.idle 10 (grid0.coords t) = false := by decide +kernel
/-- At the points of case A the printed configuration (`Cfg.idle`) calls output 11 idle: the case stores nothing into it. -/
theorem idleAt0_11_A : ∀ t : Fin cfg0.N, cond0_0 (grid0.coords t) → ¬cond0_1 (grid0.coords t) → cfg0.idle 11 (grid0.coords t) = true := by decide +kernel
/-- At the points of case A the pipeline does not write output 11's block back. -/
theorem noFlush0_11_A : ∀ t : Fin cfg0.N, cond0_0 (grid0.coords t) → ¬cond0_1 (grid0.coords t) → (cfg0.win 11).flush t = false := by decide +kernel
/-- At the points of case B the printed configuration (`Cfg.idle`) calls output 11 idle: the case stores nothing into it. -/
theorem idleAt0_11_B : ∀ t : Fin cfg0.N, ¬cond0_0 (grid0.coords t) → ¬cond0_1 (grid0.coords t) → cfg0.idle 11 (grid0.coords t) = true := by decide +kernel
/-- At the points of case B the pipeline does not write output 11's block back. -/
theorem noFlush0_11_B : ∀ t : Fin cfg0.N, ¬cond0_0 (grid0.coords t) → ¬cond0_1 (grid0.coords t) → (cfg0.win 11).flush t = false := by decide +kernel
/-- At the points of case C the printed configuration (`Cfg.idle`) calls output 11 live: the case stores into it. -/
theorem liveAt0_11_C : ∀ t : Fin cfg0.N, ¬cond0_0 (grid0.coords t) → cond0_1 (grid0.coords t) → cfg0.idle 11 (grid0.coords t) = false := by decide +kernel

/-! ## The kernel body on any staging memrefs: a subtype the run finds -/

/-- One staging buffer of output window 10, through which its contents are stated (`View.read_writes_of_cover`: the
    choice does not matter). -/
abbrev VO0_10 : View sig .tc .vmem S1x16 .f32 := (Memref.whole cc0_stg10_0 : Memref sig .tc .vmem S1x16 .f32).view
/-- One staging buffer of output window 11, through which its contents are stated (`View.read_writes_of_cover`: the
    choice does not matter). -/
abbrev VO0_11 : View sig .tc .vmem S16x20 .f32 := (Memref.whole cc0_stg11_0 : Memref sig .tc .vmem S16x20 .f32).view
/-- One staging buffer of output window 12, through which its contents are stated (`View.read_writes_of_cover`: the
    choice does not matter). -/
abbrev VO0_12 : View sig .tc .vmem S16x640 .f32 := (Memref.whole cc0_stg12_0 : Memref sig .tc .vmem S16x640 .f32).view
/-- Each window's current staging memref at point `t`, spelled as the pipeline passes it (`bodyAt0`), and its wholeness. -/
abbrev ms0_0 (t : Fin cfg0.N) : Memref sig .tc .smem S16 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S16 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x12288 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x1024 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x20 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x640 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S12288x640 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x16 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S16x20 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S16x640 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S32x12288 .fp8e4m3 := Memref.whole cc0_scratch0
abbrev scM0_1 : Memref sig .tc .vmem S4096x128 .f32 := Memref.whole cc0_scratch1
abbrev scM0_2 : Memref sig .tc .vmem S4x16x128 .f32 := Memref.whole cc0_scratch2
abbrev scM0_3 : Memref sig .tc .vmem S16x128 .f32 := Memref.whole cc0_scratch3
abbrev scM0_4 : Memref sig .tc .vmem S16x128 .f32 := Memref.whole cc0_scratch4
abbrev scM0_5 : Memref sig .tc .vmem S16x128 .f32 := Memref.whole cc0_scratch5
/-- The scratch `arg14` the kernel carries between points, as a view: what it holds is stated through it. -/
abbrev VS0_0 : View sig .tc .vmem S32x12288 .fp8e4m3 := scM0_0.view
/-- The scratch `arg15` the kernel carries between points, as a view: what it holds is stated through it. -/
abbrev VS0_1 : View sig .tc .vmem S4096x128 .f32 := scM0_1.view
/-- The scratch `arg16` the kernel carries between points, as a view: what it holds is stated through it. -/
abbrev VS0_2 : View sig .tc .vmem S4x16x128 .f32 := scM0_2.view
/-- The scratch `arg17` the kernel carries between points, as a view: what it holds is stated through it. -/
abbrev VS0_3 : View sig .tc .vmem S16x128 .f32 := scM0_3.view
/-- The scratch `arg18` the kernel carries between points, as a view: what it holds is stated through it. -/
abbrev VS0_4 : View sig .tc .vmem S16x128 .f32 := scM0_4.view
/-- The scratch `arg19` the kernel carries between points, as a view: what it holds is stated through it. -/
abbrev VS0_5 : View sig .tc .vmem S16x128 .f32 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Gen

end
-- ==== Proof.Body.Prog.lean ====
module

public import proofs.«01_k».proof.Proof.Body.Runs

@[expose] public section

set_option maxRecDepth 16384

/-! The kernel's body in two pieces: what its first point alone does (the scratch filled: the padded activations, the
columns, the running statistics and the histogram), and what every point does (the product, the five tiles of logits,
the running statistics) — with, at the last point, the results. -/

noncomputable section

namespace Cert.KernelIdeal.Gen

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

/-- What the first point does before anything else: the scratch is filled. -/
def initP (i : grid0.Coords) (arg1 : Memref sig .tc .smem S16 .i32) (harg1 : arg1.IsWhole) (arg2 : Memref sig .tc .smem S16 .f32) (harg2 : arg2.IsWhole) (arg3 : Memref sig .tc .smem S16 .f32) (harg3 : arg3.IsWhole) (arg4 : Memref sig .tc .smem S16 .f32) (harg4 : arg4.IsWhole) (arg5 : Memref sig .tc .smem S16 .f32) (harg5 : arg5.IsWhole) (arg6 : Memref sig .tc .vmem S16x12288 .fp8e4m3) (harg6 : arg6.IsWhole) (arg7 : Memref sig .tc .vmem S16x1024 .i32) (harg7 : arg7.IsWhole) (arg8 : Memref sig .tc .vmem S16x20 .i32) (harg8 : arg8.IsWhole) (arg9 : Memref sig .tc .vmem S1x640 .f32) (harg9 : arg9.IsWhole) (arg10 : Memref sig .tc .vmem S12288x640 .fp8e4m3) (harg10 : arg10.IsWhole) (arg11 : Memref sig .tc .vmem S1x16 .f32) (harg11 : arg11.IsWhole) (arg12 : Memref sig .tc .vmem S16x20 .f32) (harg12 : arg12.IsWhole) (arg13 : Memref sig .tc .vmem S16x640 .f32) (harg13 : arg13.IsWhole) (arg14 : Memref sig .tc .vmem S32x12288 .fp8e4m3) (harg14 : arg14.IsWhole) (arg15 : Memref sig .tc .vmem S4096x128 .f32) (harg15 : arg15.IsWhole) (arg16 : Memref sig .tc .vmem S4x16x128 .f32) (harg16 : arg16.IsWhole) (arg17 : Memref sig .tc .vmem S16x128 .f32) (harg17 : arg17.IsWhole) (arg18 : Memref sig .tc .vmem S16x128 .f32) (harg18 : arg18.IsWhole) (arg19 : Memref sig .tc .vmem S16x128 .f32) (harg19 : arg19.IsWhole) :
    Prog (TpuEff nD τ sig (Elt F) Λ₀ .tc) PUnit := do
  let ⟨v248, v280⟩ : Σ' (v248 : IVec S16x128 32), FVec F S16x128 .f32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let ⟨v320, v322⟩ : Σ' (v320 : FVec F S16x128 .f32), IVec S16x128 1 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v248 v280
  let ⟨v329, v361, v363⟩ : Σ' (v329 : IVec S16x128 32) (v361 : FVec F S16x128 .f32), IVec S16x128 1 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v320 v322
  let v406 : FVec F S16x128 .f32 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v329 v361 v363
  let ⟨v410, v447, c8_i32_150⟩ : Σ' (v410 : IVec S16x128 32) (v447 : FVec F S16x128 .f32), BitVec 32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v406
  let v487 : FVec F S16x128 .f32 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v410 v447 c8_i32_150
  let ⟨v491, v528, v530, v531⟩ : Σ' (v491 : IVec S16x128 32) (v528 : FVec F S16x128 .f32) (v530 : IVec S16x128 1), Elt F .f32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v487
  let v572 : FVec F S16x128 .f32 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v491 v528 v530 v531
  let ⟨v584, v585, v586⟩ : Σ' (v584 : IVec S1x1024 32) (v585 : IVec S256x1024 32), IVec S128x1024 32 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v572
  let ⟨v649, v654, cst_235⟩ : Σ' (v649 : FVec F S256x1024 .bf16) (v654 : FVec F S128x1024 .bf16), FVec F S256x128 .f32 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v584 v585 v586
  let ⟨v692, v695⟩ : Σ' (v692 : IVec S1x1024 32), IVec S256x1024 32 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v584 v585 v586 v649 v654 cst_235
  let ⟨v731, v734, v736, c_m1_i32_269⟩ : Σ' (v731 : Vec F S1x1024 .i32) (v734 : IVec S1x1024 1) (v736 : IVec S1x1024 32), BitVec 32 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v584 v585 v586 v692 v695
  let v779 : Vec F S1x1024 .i32 ← k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v584 v585 v586 v731 v734 v736 c_m1_i32_269
  let v823 : FVec F S256x128 .f32 ← k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v584 v585 v586 v779
  let ⟨v860, v865⟩ : Σ' (v860 : IVec S1x1024 32), FVec F S256x1024 .bf16 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v584 v585 v586 v823
  let ⟨v899, v906⟩ : Σ' (v899 : Vec F S1x1024 .i32), IVec S1x1024 32 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v584 v585 v586 v860 v865
  let ⟨v947, v948⟩ : Σ' (v947 : Vec F S1x1024 .i32), Elt F .i32 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v584 v585 v586 v899 v906
  let v968 : Vec F S256x128 .f32 ← Prog.lift (.load arg15 (⟨![15, 0], S256x128.size, ![16, 1], inb_S4096x128_S256x128_15_0_s_16_1⟩ : LoadRect S4096x128) (View.loadsAt_vmem h_S256x128))
  Prog.lift (.store arg15 ⟨(⟨![15, 0], S256x128.size, ![16, 1], inb_S4096x128_S256x128_15_0_s_16_1⟩ : LoadRect S4096x128), spos_16_1⟩ (k0_pay54 v584 v585 v586 v947 v948) Finset.univ (View.stores_vmem_bits_univ h_S256x128 rfl) (.inl rfl))
  pure ⟨⟩

/-- The loads every point starts with, and the tile's product. -/
def loadsP (i : grid0.Coords) (arg1 : Memref sig .tc .smem S16 .i32) (harg1 : arg1.IsWhole) (arg2 : Memref sig .tc .smem S16 .f32) (harg2 : arg2.IsWhole) (arg3 : Memref sig .tc .smem S16 .f32) (harg3 : arg3.IsWhole) (arg4 : Memref sig .tc .smem S16 .f32) (harg4 : arg4.IsWhole) (arg5 : Memref sig .tc .smem S16 .f32) (harg5 : arg5.IsWhole) (arg6 : Memref sig .tc .vmem S16x12288 .fp8e4m3) (harg6 : arg6.IsWhole) (arg7 : Memref sig .tc .vmem S16x1024 .i32) (harg7 : arg7.IsWhole) (arg8 : Memref sig .tc .vmem S16x20 .i32) (harg8 : arg8.IsWhole) (arg9 : Memref sig .tc .vmem S1x640 .f32) (harg9 : arg9.IsWhole) (arg10 : Memref sig .tc .vmem S12288x640 .fp8e4m3) (harg10 : arg10.IsWhole) (arg11 : Memref sig .tc .vmem S1x16 .f32) (harg11 : arg11.IsWhole) (arg12 : Memref sig .tc .vmem S16x20 .f32) (harg12 : arg12.IsWhole) (arg13 : Memref sig .tc .vmem S16x640 .f32) (harg13 : arg13.IsWhole) (arg14 : Memref sig .tc .vmem S32x12288 .fp8e4m3) (harg14 : arg14.IsWhole) (arg15 : Memref sig .tc .vmem S4096x128 .f32) (harg15 : arg15.IsWhole) (arg16 : Memref sig .tc .vmem S4x16x128 .f32) (harg16 : arg16.IsWhole) (arg17 : Memref sig .tc .vmem S16x128 .f32) (harg17 : arg17.IsWhole) (arg18 : Memref sig .tc .vmem S16x128 .f32) (harg18 : arg18.IsWhole) (arg19 : Memref sig .tc .vmem S16x128 .f32) (harg19 : arg19.IsWhole) :
    Prog (TpuEff nD τ sig (Elt F) Λ₀ .tc) (Σ' (arg0 : BitVec 32) (v6 : FVec F S16x640 .f32) (v8 : FVec F S16x128 .f32) (v10 : FVec F S16x128 .f32) (v12 : FVec F S16x128 .f32) (v14 : FVec F S16x128 .f32) (v19 : IVec S16x128 32) (v21 : IVec S16x128 32) (v22 : Vec F S16x128 .f32) (v24 : BitVec 32) (v26 : FVec F S16x128 .f32), Vec F S1x128 .f32) := do
  let arg0 : BitVec 32 := BitVec.ofNat 32 (i 0).val
  let v3 : Vec F S32x12288 .fp8e4m3 ← Prog.lift (.load arg14 (Rect.unit (s := S32x12288) ![0, 0] S32x12288.size inb_S32x12288_S32x12288_0_0).toLoadRect (View.loadsAt_vmem h_S32x12288))
  let v4 : Vec F S12288x640 .fp8e4m3 ← Prog.lift (.load arg10 (Rect.unit (s := S12288x640) ![0, 0] S12288x640.size inb_S12288x640_S12288x640_0_0).toLoadRect (View.loadsAt_vmem h_S12288x640))
  let v7 : Vec F S1x16x128 .f32 ← Prog.lift (.load arg16 (Rect.unit (s := S4x16x128) ![0, 0, 0] S1x16x128.size inb_S4x16x128_S1x16x128_0_0_0).toLoadRect (View.loadsAt_vmem h_S1x16x128))
  let v9 : Vec F S1x16x128 .f32 ← Prog.lift (.load arg16 (Rect.unit (s := S4x16x128) ![1, 0, 0] S1x16x128.size inb_S4x16x128_S1x16x128_1_0_0).toLoadRect (View.loadsAt_vmem h_S1x16x128))
  let v11 : Vec F S1x16x128 .f32 ← Prog.lift (.load arg16 (Rect.unit (s := S4x16x128) ![2, 0, 0] S1x16x128.size inb_S4x16x128_S1x16x128_2_0_0).toLoadRect (View.loadsAt_vmem h_S1x16x128))
  let v13 : Vec F S1x16x128 .f32 ← Prog.lift (.load arg16 (Rect.unit (s := S4x16x128) ![3, 0, 0] S1x16x128.size inb_S4x16x128_S1x16x128_3_0_0).toLoadRect (View.loadsAt_vmem h_S1x16x128))
  let v15 : Vec F S16x20 .i32 ← Prog.lift (.load arg8 (Rect.unit (s := S16x20) ![0, 0] S16x20.size inb_S16x20_S16x20_0_0).toLoadRect (View.loadsAt_vmem h_S16x20))
  let v22 : Vec F S16x128 .f32 ← Prog.lift (.load arg19 (Rect.unit (s := S16x128) ![0, 0] S16x128.size inb_S16x128_S16x128_0_0).toLoadRect (View.loadsAt_vmem h_S16x128))
  let v23 : BitVec 32 := Scalar.muli arg0 5#32
  let v24 : BitVec 32 := Scalar.addi v23 0#32
  let v27 : Vec F S1x128 .f32 ← Prog.lift (.load arg9 (Rect.unit (s := S1x640) ![0, 0] S1x128.size inb_S1x640_S1x128_0_0).toLoadRect (View.loadsAt_vmem h_S1x128))
  pure ⟨arg0, k0_pay55 v3 v4, k0_pay56 v7, k0_pay57 v9, k0_pay58 v11, k0_pay59 v13, k0_pay61 v15, k0_pay62 v15, v22, v24, k0_pay63 v3 v4 v7, v27⟩

/-- What every point does, the scratch filled. -/
def stepP (i : grid0.Coords) (arg1 : Memref sig .tc .smem S16 .i32) (harg1 : arg1.IsWhole) (arg2 : Memref sig .tc .smem S16 .f32) (harg2 : arg2.IsWhole) (arg3 : Memref sig .tc .smem S16 .f32) (harg3 : arg3.IsWhole) (arg4 : Memref sig .tc .smem S16 .f32) (harg4 : arg4.IsWhole) (arg5 : Memref sig .tc .smem S16 .f32) (harg5 : arg5.IsWhole) (arg6 : Memref sig .tc .vmem S16x12288 .fp8e4m3) (harg6 : arg6.IsWhole) (arg7 : Memref sig .tc .vmem S16x1024 .i32) (harg7 : arg7.IsWhole) (arg8 : Memref sig .tc .vmem S16x20 .i32) (harg8 : arg8.IsWhole) (arg9 : Memref sig .tc .vmem S1x640 .f32) (harg9 : arg9.IsWhole) (arg10 : Memref sig .tc .vmem S12288x640 .fp8e4m3) (harg10 : arg10.IsWhole) (arg11 : Memref sig .tc .vmem S1x16 .f32) (harg11 : arg11.IsWhole) (arg12 : Memref sig .tc .vmem S16x20 .f32) (harg12 : arg12.IsWhole) (arg13 : Memref sig .tc .vmem S16x640 .f32) (harg13 : arg13.IsWhole) (arg14 : Memref sig .tc .vmem S32x12288 .fp8e4m3) (harg14 : arg14.IsWhole) (arg15 : Memref sig .tc .vmem S4096x128 .f32) (harg15 : arg15.IsWhole) (arg16 : Memref sig .tc .vmem S4x16x128 .f32) (harg16 : arg16.IsWhole) (arg17 : Memref sig .tc .vmem S16x128 .f32) (harg17 : arg17.IsWhole) (arg18 : Memref sig .tc .vmem S16x128 .f32) (harg18 : arg18.IsWhole) (arg19 : Memref sig .tc .vmem S16x128 .f32) (harg19 : arg19.IsWhole) :
    Prog (TpuEff nD τ sig (Elt F) Λ₀ .tc) PUnit := do
  let ⟨arg0, v6, v8, v10, v12, v14, v19, v21, v22, v24, v26, v27⟩ : Σ' (arg0 : BitVec 32) (v6 : FVec F S16x640 .f32) (v8 : FVec F S16x128 .f32) (v10 : FVec F S16x128 .f32) (v12 : FVec F S16x128 .f32) (v14 : FVec F S16x128 .f32) (v19 : IVec S16x128 32) (v21 : IVec S16x128 32) (v22 : Vec F S16x128 .f32) (v24 : BitVec 32) (v26 : FVec F S16x128 .f32), Vec F S1x128 .f32 ← loadsP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let ⟨v46, v58, v60, v66, v69, v70⟩ : Σ' (v46 : FVec F S16x128 .f32) (v58 : FVec F S16x128 .f32) (v60 : BitVec 32) (v66 : FVec F S16x128 .f32) (v69 : Vec F S16x128 .f32), FVec F S16x128 .f32 ← k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v6 v8 v10 v12 v14 v19 v21 v22 v24 v26 v27
  let ⟨v82, v94, v96, v107, v115⟩ : Σ' (v82 : FVec F S16x128 .f32) (v94 : FVec F S16x128 .f32) (v96 : BitVec 32) (v107 : IVec S16x128 1), FVec F S16x128 .f32 ← k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v6 v8 v10 v12 v14 v19 v21 v58 v60 v66 v69 v70
  let ⟨v118, v130, v154, v157⟩ : Σ' (v118 : FVec F S16x128 .f32) (v130 : FVec F S16x128 .f32) (v154 : FVec F S16x128 .f32), IVec S16x128 1 ← k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v6 v8 v10 v12 v14 v19 v21 v94 v96 v107 v115
  let ⟨v166, v190, v193, v201⟩ : Σ' (v166 : FVec F S16x128 .f32) (v190 : FVec F S16x128 .f32) (v193 : IVec S16x128 1), FVec F S16x128 .f32 ← k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v6 v8 v10 v12 v14 v19 v21 v130 v154 v157
  let v203 : Vec F S16x128 .f32 ← Prog.lift (.load arg19 (Rect.unit (s := S16x128) ![0, 0] S16x128.size inb_S16x128_S16x128_0_0).toLoadRect (View.loadsAt_vmem h_S16x128))
  Prog.lift (.store arg19 (Rect.unit (s := S16x128) ![0, 0] S16x128.size inb_S16x128_S16x128_0_0) (k0_pay2 v166 v193 v201) Finset.univ (View.stores_vmem_bits_univ h_S16x128 rfl) (.inl rfl))
  let v206 : Vec F S16x128 .f32 ← Prog.lift (.load arg17 (Rect.unit (s := S16x128) ![0, 0] S16x128.size inb_S16x128_S16x128_0_0).toLoadRect (View.loadsAt_vmem h_S16x128))
  let v212 : Vec F S16x128 .f32 ← Prog.lift (.load arg18 (Rect.unit (s := S16x128) ![0, 0] S16x128.size inb_S16x128_S16x128_0_0).toLoadRect (View.loadsAt_vmem h_S16x128))
  let v231 : Vec F S16x128 .f32 ← Prog.lift (.load arg17 (Rect.unit (s := S16x128) ![0, 0] S16x128.size inb_S16x128_S16x128_0_0).toLoadRect (View.loadsAt_vmem h_S16x128))
  Prog.lift (.store arg17 (Rect.unit (s := S16x128) ![0, 0] S16x128.size inb_S16x128_S16x128_0_0) (k0_pay5 v46 v82 v118 v154 v190 v206) Finset.univ (View.stores_vmem_bits_univ h_S16x128 rfl) (.inl rfl))
  let v234 : Vec F S16x128 .f32 ← Prog.lift (.load arg18 (Rect.unit (s := S16x128) ![0, 0] S16x128.size inb_S16x128_S16x128_0_0).toLoadRect (View.loadsAt_vmem h_S16x128))
  Prog.lift (.store arg18 (Rect.unit (s := S16x128) ![0, 0] S16x128.size inb_S16x128_S16x128_0_0) (k0_pay6 v46 v82 v118 v154 v190 v206 v212) Finset.univ (View.stores_vmem_bits_univ h_S16x128 rfl) (.inl rfl))
  if k0_h2 : k0_cond2 i = 1#1 then do
    let v253 : Vec F S16x20 .f32 ← Prog.lift (.load arg12 (Rect.unit (s := S16x20) ![0, 0] S16x20.size inb_S16x20_S16x20_0_0).toLoadRect (View.loadsAt_vmem h_S16x20))
    Prog.lift (.store arg12 (Rect.unit (s := S16x20) ![0, 0] S16x20.size inb_S16x20_S16x20_0_0) (k0_pay8 v46 v82 v118 v154 v166 v190 v193 v201 v206 v212) Finset.univ (View.stores_vmem_bits_univ h_S16x20 rfl) (.inl rfl))
    let v264 : Vec F S1x16 .f32 ← Prog.lift (.load arg11 (Rect.unit (s := S1x16) ![0, 0] S1x16.size inb_S1x16_S1x16_0_0).toLoadRect (View.loadsAt_vmem h_S1x16))
    Prog.lift (.store arg11 (Rect.unit (s := S1x16) ![0, 0] S1x16.size inb_S1x16_S1x16_0_0) (k0_pay9 v46 v82 v118 v154 v190 v206 v212) Finset.univ (View.stores_vmem_bits_univ h_S1x16 rfl) (.inl rfl))
    pure ⟨⟩
  else do
    pure ⟨⟩
  pure ⟨⟩

set_option maxRecDepth 65536 in
/-- At the first point the body is the filling of the scratch, then the step. -/
theorem body_init (i : grid0.Coords) (arg1 : Memref sig .tc .smem S16 .i32) (harg1 : arg1.IsWhole) (arg2 : Memref sig .tc .smem S16 .f32) (harg2 : arg2.IsWhole) (arg3 : Memref sig .tc .smem S16 .f32) (harg3 : arg3.IsWhole) (arg4 : Memref sig .tc .smem S16 .f32) (harg4 : arg4.IsWhole) (arg5 : Memref sig .tc .smem S16 .f32) (harg5 : arg5.IsWhole) (arg6 : Memref sig .tc .vmem S16x12288 .fp8e4m3) (harg6 : arg6.IsWhole) (arg7 : Memref sig .tc .vmem S16x1024 .i32) (harg7 : arg7.IsWhole) (arg8 : Memref sig .tc .vmem S16x20 .i32) (harg8 : arg8.IsWhole) (arg9 : Memref sig .tc .vmem S1x640 .f32) (harg9 : arg9.IsWhole) (arg10 : Memref sig .tc .vmem S12288x640 .fp8e4m3) (harg10 : arg10.IsWhole) (arg11 : Memref sig .tc .vmem S1x16 .f32) (harg11 : arg11.IsWhole) (arg12 : Memref sig .tc .vmem S16x20 .f32) (harg12 : arg12.IsWhole) (arg13 : Memref sig .tc .vmem S16x640 .f32) (harg13 : arg13.IsWhole) (arg14 : Memref sig .tc .vmem S32x12288 .fp8e4m3) (harg14 : arg14.IsWhole) (arg15 : Memref sig .tc .vmem S4096x128 .f32) (harg15 : arg15.IsWhole) (arg16 : Memref sig .tc .vmem S4x16x128 .f32) (harg16 : arg16.IsWhole) (arg17 : Memref sig .tc .vmem S16x128 .f32) (harg17 : arg17.IsWhole) (arg18 : Memref sig .tc .vmem S16x128 .f32) (harg18 : arg18.IsWhole) (arg19 : Memref sig .tc .vmem S16x128 .f32) (harg19 : arg19.IsWhole) (hc : cond0_0 i) :
    cc0_head_penalties (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = (initP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 >>= fun _ => stepP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) := by
  show _ = (initP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19).bind (fun _ => stepP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
  rw [cc0_head_penalties_eq_skeleton]; unfold cc0_head_penalties_skel stepP
  rw [k0_part18_eq_skeleton]; unfold k0_part18_skel loadsP initP
  have hc' := hc
  unfold cond0_0 at hc'
  simp only [hc', dite_true, Prog.bind_assoc]
  rfl

set_option maxRecDepth 65536 in
/-- At every other point the body is the step. -/
theorem body_step (i : grid0.Coords) (arg1 : Memref sig .tc .smem S16 .i32) (harg1 : arg1.IsWhole) (arg2 : Memref sig .tc .smem S16 .f32) (harg2 : arg2.IsWhole) (arg3 : Memref sig .tc .smem S16 .f32) (harg3 : arg3.IsWhole) (arg4 : Memref sig .tc .smem S16 .f32) (harg4 : arg4.IsWhole) (arg5 : Memref sig .tc .smem S16 .f32) (harg5 : arg5.IsWhole) (arg6 : Memref sig .tc .vmem S16x12288 .fp8e4m3) (harg6 : arg6.IsWhole) (arg7 : Memref sig .tc .vmem S16x1024 .i32) (harg7 : arg7.IsWhole) (arg8 : Memref sig .tc .vmem S16x20 .i32) (harg8 : arg8.IsWhole) (arg9 : Memref sig .tc .vmem S1x640 .f32) (harg9 : arg9.IsWhole) (arg10 : Memref sig .tc .vmem S12288x640 .fp8e4m3) (harg10 : arg10.IsWhole) (arg11 : Memref sig .tc .vmem S1x16 .f32) (harg11 : arg11.IsWhole) (arg12 : Memref sig .tc .vmem S16x20 .f32) (harg12 : arg12.IsWhole) (arg13 : Memref sig .tc .vmem S16x640 .f32) (harg13 : arg13.IsWhole) (arg14 : Memref sig .tc .vmem S32x12288 .fp8e4m3) (harg14 : arg14.IsWhole) (arg15 : Memref sig .tc .vmem S4096x128 .f32) (harg15 : arg15.IsWhole) (arg16 : Memref sig .tc .vmem S4x16x128 .f32) (harg16 : arg16.IsWhole) (arg17 : Memref sig .tc .vmem S16x128 .f32) (harg17 : arg17.IsWhole) (arg18 : Memref sig .tc .vmem S16x128 .f32) (harg18 : arg18.IsWhole) (arg19 : Memref sig .tc .vmem S16x128 .f32) (harg19 : arg19.IsWhole) (hc : ¬cond0_0 i) :
    cc0_head_penalties (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = stepP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  rw [cc0_head_penalties_eq_skeleton]; unfold cc0_head_penalties_skel stepP
  rw [k0_part18_eq_skeleton]; unfold k0_part18_skel loadsP
  have hc' := hc
  unfold cond0_0 at hc'
  simp only [hc', dite_false, Prog.bind_assoc]

end Cert.KernelIdeal.Gen

end
-- ==== Proof.Body.RunA.lean ====
module

public import proofs.«01_k».proof.Proof.Body.Prog

@[expose] public section

set_option maxRecDepth 16384

/-! The filling of the scratch, run. -/

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The filling of the scratch at the first point. The memrefs it only reads keep their contents; those it stores into hold the pieces written, which the run finds. -/
def initRun (c : Dev nD) (i : grid0.Coords) (arg1 : Memref sig .tc .smem S16 .i32) (harg1 : arg1.IsWhole) (arg2 : Memref sig .tc .smem S16 .f32) (harg2 : arg2.IsWhole) (arg3 : Memref sig .tc .smem S16 .f32) (harg3 : arg3.IsWhole) (arg4 : Memref sig .tc .smem S16 .f32) (harg4 : arg4.IsWhole) (arg5 : Memref sig .tc .smem S16 .f32) (harg5 : arg5.IsWhole) (arg6 : Memref sig .tc .vmem S16x12288 .fp8e4m3) (harg6 : arg6.IsWhole) (arg7 : Memref sig .tc .vmem S16x1024 .i32) (harg7 : arg7.IsWhole) (arg8 : Memref sig .tc .vmem S16x20 .i32) (harg8 : arg8.IsWhole) (arg9 : Memref sig .tc .vmem S1x640 .f32) (harg9 : arg9.IsWhole) (arg10 : Memref sig .tc .vmem S12288x640 .fp8e4m3) (harg10 : arg10.IsWhole) (arg11 : Memref sig .tc .vmem S1x16 .f32) (harg11 : arg11.IsWhole) (arg12 : Memref sig .tc .vmem S16x20 .f32) (harg12 : arg12.IsWhole) (arg13 : Memref sig .tc .vmem S16x640 .f32) (harg13 : arg13.IsWhole) (arg14 : Memref sig .tc .vmem S32x12288 .fp8e4m3) (harg14 : arg14.IsWhole) (arg15 : Memref sig .tc .vmem S4096x128 .f32) (harg15 : arg15.IsWhole) (arg16 : Memref sig .tc .vmem S4x16x128 .f32) (harg16 : arg16.IsWhole) (arg17 : Memref sig .tc .vmem S16x128 .f32) (harg17 : arg17.IsWhole) (arg18 : Memref sig .tc .vmem S16x128 .f32) (harg18 : arg18.IsWhole) (arg19 : Memref sig .tc .vmem S16x128 .f32) (harg19 : arg19.IsWhole)
    (x0 : Vec F S16 .i32) (x1 : Vec F S16 .f32) (x2 : Vec F S16 .f32) (x3 : Vec F S16 .f32) (x4 : Vec F S16 .f32) (x5 : Vec F S16x12288 .fp8e4m3) (x6 : Vec F S16x1024 .i32) :
    Σ' (LS0 : List (View.Piece (Elt F) S32x12288 .fp8e4m3)), Σ' (LS1 : List (View.Piece (Elt F) S4096x128 .f32)), Σ' (LS2 : List (View.Piece (Elt F) S4x16x128 .f32)), Σ' (LS3 : List (View.Piece (Elt F) S16x128 .f32)), Σ' (LS4 : List (View.Piece (Elt F) S16x128 .f32)), { LS5 : List (View.Piece (Elt F) S16x128 .f32) //

      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ (∃ f, arg19.view.loc (c : Thread nD τ) ↦[arg19.view.set]{fullShare} arg19.view.writes (Elt F) f LS5)) -∗ K ⟨⟩))
          ⊢ wp frame (wpE (defs₀ (F := F)) Variants.none c none) E (initP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun E K => ?run⟩
  case run =>
    unfold initP
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H14]; · iexists _; iexact H14
    isplitl [H15]; · iexists _; iexact H15
    isplitl [H16]; · iexists _; iexact H16
    isplitl [H17]; · iexists _; iexact H17
    isplitl [H18]; · iexists _; iexact H18
    iexists _; iexact H19

end Cert.KernelIdeal.Gen

end
-- ==== Proof.Body.RunB.lean ====
module

public import proofs.«01_k».proof.Proof.Body.Prog

@[expose] public section

set_option maxRecDepth 16384

/-! The step, run at a point that is not the last. -/

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The step at a point that is not the last. The memrefs it only reads keep their contents; those it stores into hold the pieces written, which the run finds. -/
def stepRunB (c : Dev nD) (i : grid0.Coords) (arg1 : Memref sig .tc .smem S16 .i32) (harg1 : arg1.IsWhole) (arg2 : Memref sig .tc .smem S16 .f32) (harg2 : arg2.IsWhole) (arg3 : Memref sig .tc .smem S16 .f32) (harg3 : arg3.IsWhole) (arg4 : Memref sig .tc .smem S16 .f32) (harg4 : arg4.IsWhole) (arg5 : Memref sig .tc .smem S16 .f32) (harg5 : arg5.IsWhole) (arg6 : Memref sig .tc .vmem S16x12288 .fp8e4m3) (harg6 : arg6.IsWhole) (arg7 : Memref sig .tc .vmem S16x1024 .i32) (harg7 : arg7.IsWhole) (arg8 : Memref sig .tc .vmem S16x20 .i32) (harg8 : arg8.IsWhole) (arg9 : Memref sig .tc .vmem S1x640 .f32) (harg9 : arg9.IsWhole) (arg10 : Memref sig .tc .vmem S12288x640 .fp8e4m3) (harg10 : arg10.IsWhole) (arg11 : Memref sig .tc .vmem S1x16 .f32) (harg11 : arg11.IsWhole) (arg12 : Memref sig .tc .vmem S16x20 .f32) (harg12 : arg12.IsWhole) (arg13 : Memref sig .tc .vmem S16x640 .f32) (harg13 : arg13.IsWhole) (arg14 : Memref sig .tc .vmem S32x12288 .fp8e4m3) (harg14 : arg14.IsWhole) (arg15 : Memref sig .tc .vmem S4096x128 .f32) (harg15 : arg15.IsWhole) (arg16 : Memref sig .tc .vmem S4x16x128 .f32) (harg16 : arg16.IsWhole) (arg17 : Memref sig .tc .vmem S16x128 .f32) (harg17 : arg17.IsWhole) (arg18 : Memref sig .tc .vmem S16x128 .f32) (harg18 : arg18.IsWhole) (arg19 : Memref sig .tc .vmem S16x128 .f32) (harg19 : arg19.IsWhole) (hc1 : ¬cond0_1 i)
    (x7 : Vec F S16x20 .i32) (x8 : Vec F S1x640 .f32) (x9 : Vec F S12288x640 .fp8e4m3) (xs0 : Vec F S32x12288 .fp8e4m3) (xs1 : Vec F S4096x128 .f32) (xs2 : Vec F S4x16x128 .f32) (xs3 : Vec F S16x128 .f32) (xs4 : Vec F S16x128 .f32) (xs5 : Vec F S16x128 .f32) :
    Σ' (L12 : List (View.Piece (Elt F) S16x640 .f32)), Σ' (LS3 : List (View.Piece (Elt F) S16x128 .f32)), Σ' (LS4 : List (View.Piece (Elt F) S16x128 .f32)), { LS5 : List (View.Piece (Elt F) S16x128 .f32) //

      ∀ (E : Set ℕ) (K : PUnit → sProp 𝕄),
        iprop(owns (c : Thread nD τ) arg8 fullShare x7 ∗ owns (c : Thread nD τ) arg9 fullShare x8 ∗ owns (c : Thread nD τ) arg10 fullShare x9 ∗ (∃ d, owns (c : Thread nD τ) arg13 fullShare d) ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4 ∗ owns (c : Thread nD τ) arg19 fullShare xs5
            ∗ (iprop(owns (c : Thread nD τ) arg8 fullShare x7 ∗ owns (c : Thread nD τ) arg9 fullShare x8 ∗ owns (c : Thread nD τ) arg10 fullShare x9 ∗ (∃ f, arg13.view.loc (c : Thread nD τ) ↦[arg13.view.set]{fullShare} arg13.view.writes (Elt F) f L12) ∗ owns (c : Thread nD τ) arg14 fullShare xs0 ∗ owns (c : Thread nD τ) arg15 fullShare xs1 ∗ owns (c : Thread nD τ) arg16 fullShare xs2 ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ (∃ f, arg19.view.loc (c : Thread nD τ) ↦[arg19.view.set]{fullShare} arg19.view.writes (Elt F) f LS5)) -∗ K ⟨⟩))
          ⊢ wp frame (wpE (defs₀ (F := F)) Variants.none c none) E (stepP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun E K => ?run⟩
  case run =>
    unfold stepP loadsP
    simp only [k0_part19_eq_skeleton, k0_part20_eq_skeleton, k0_part21_eq_skeleton, k0_part22_eq_skeleton]
    unfold owns
    iintro ⟨⟨%f8, %hf8, H8⟩, ⟨%f9, %hf9, H9⟩, ⟨%f10, %hf10, H10⟩, ⟨%d13, %f13, -, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg8.eq_unread hf8; obtain rfl := harg9.eq_unread hf9; obtain rfl := harg10.eq_unread hf10; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := sl_exact hc1)
    sl_step
    iapply Hk
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H13]; · iexists _; iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]; · iexists _; iexact H17
    isplitl [H18]; · iexists _; iexact H18
    iexists _; iexact H19

end Cert.KernelIdeal.Gen

end
-- ==== Proof.Body.RunC.lean ====
module

public import proofs.«01_k».proof.Proof.Body.Prog

@[expose] public section

set_option maxRecDepth 16384

/-! The step, run at the last point. -/

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The step at the last point: the results are stored. The memrefs it only reads keep their contents; those it stores into hold the pieces written, which the run finds. -/
def stepRunC (c : Dev nD) (i : grid0.Coords) (arg1 : Memref sig .tc .smem S16 .i32) (harg1 : arg1.IsWhole) (arg2 : Memref sig .tc .smem S16 .f32) (harg2 : arg2.IsWhole) (arg3 : Memref sig .tc .smem S16 .f32) (harg3 : arg3.IsWhole) (arg4 : Memref sig .tc .smem S16 .f32) (harg4 : arg4.IsWhole) (arg5 : Memref sig .tc .smem S16 .f32) (harg5 : arg5.IsWhole) (arg6 : Memref sig .tc .vmem S16x12288 .fp8e4m3) (harg6 : arg6.IsWhole) (arg7 : Memref sig .tc .vmem S16x1024 .i32) (harg7 : arg7.IsWhole) (arg8 : Memref sig .tc .vmem S16x20 .i32) (harg8 : arg8.IsWhole) (arg9 : Memref sig .tc .vmem S1x640 .f32) (harg9 : arg9.IsWhole) (arg10 : Memref sig .tc .vmem S12288x640 .fp8e4m3) (harg10 : arg10.IsWhole) (arg11 : Memref sig .tc .vmem S1x16 .f32) (harg11 : arg11.IsWhole) (arg12 : Memref sig .tc .vmem S16x20 .f32) (harg12 : arg12.IsWhole) (arg13 : Memref sig .tc .vmem S16x640 .f32) (harg13 : arg13.IsWhole) (arg14 : Memref sig .tc .vmem S32x12288 .fp8e4m3) (harg14 : arg14.IsWhole) (arg15 : Memref sig .tc .vmem S4096x128 .f32) (harg15 : arg15.IsWhole) (arg16 : Memref sig .tc .vmem S4x16x128 .f32) (harg16 : arg16.IsWhole) (arg17 : Memref sig .tc .vmem S16x128 .f32) (harg17 : arg17.IsWhole) (arg18 : Memref sig .tc .vmem S16x128 .f32) (harg18 : arg18.IsWhole) (arg19 : Memref sig .tc .vmem S16x128 .f32) (harg19 : arg19.IsWhole) (hc1 : cond0_1 i)
    (x7 : Vec F S16x20 .i32) (x8 : Vec F S1x640 .f32) (x9 : Vec F S12288x640 .fp8e4m3) (xs0 : Vec F S32x12288 .fp8e4m3) (xs1 : Vec F S4096x128 .f32) (xs2 : Vec F S4x16x128 .f32) (xs3 : Vec F S16x128 .f32) (xs4 : Vec F S16x128 .f32) (xs5 : Vec F S16x128 .f32) :
    Σ' (L10 : List (View.Piece (Elt F) S1x16 .f32)), Σ' (L11 : List (View.Piece (Elt F) S16x20 .f32)), Σ' (L12 : List (View.Piece (Elt F) S16x640 .f32)), Σ' (LS3 : List (View.Piece (Elt F) S16x128 .f32)), Σ' (LS4 : List (View.Piece (Elt F) S16x128 .f32)), { LS5 : List (View.Piece (Elt F) S16x128 .f32) //

      ∀ (E : Set ℕ) (K : PUnit → sProp 𝕄),
        iprop(owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4 ∗ owns (c : Thread nD τ) arg19 fullShare xs5
            ∗ (iprop(owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ owns (c : Thread nD τ) arg14 fullShare xs0 ∗ owns (c : Thread nD τ) arg15 fullShare xs1 ∗ owns (c : Thread nD τ) arg16 fullShare xs2 ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ (∃ f, arg19.view.loc (c : Thread nD τ) ↦[arg19.view.set]{fullShare} arg19.view.writes (Elt F) f LS5)) -∗ K ⟨⟩))
          ⊢ wp frame (wpE (defs₀ (F := F)) Variants.none c none) E (stepP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun E K => ?run⟩
  case run =>
    unfold stepP loadsP
    simp only [k0_part19_eq_skeleton, k0_part20_eq_skeleton, k0_part21_eq_skeleton, k0_part22_eq_skeleton]
    unfold owns
    iintro ⟨⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg8.eq_unread hf8; obtain rfl := harg9.eq_unread hf9; obtain rfl := harg10.eq_unread hf10; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := sl_exact hc1)
    sl_step
    iapply Hk
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexists _; iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]; · iexists _; iexact H17
    isplitl [H18]; · iexists _; iexact H18
    iexists _; iexact H19

end Cert.KernelIdeal.Gen

end
-- ==== Proof.Body.State.lean ====
module

public import proofs.«01_k».proof.Proof.Body.RunA
public import proofs.«01_k».proof.Proof.Body.RunB
public import proofs.«01_k».proof.Proof.Body.RunC
public import Idealize.ShloMosaic.Lib.Pipeline.FrameBody
public import Idealize.ShloMosaic.Lib.Ring
public import Idealize.ShloMosaic.Lib.Claim

@[expose] public section

set_option maxRecDepth 16384

/-! What the scratch holds before and after each point, what each window's buffer holds after it, the proof data of the
pipeline, the body's obligation, the run and the frame. -/

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A memref whose pieces cover it is owned at what the pieces read, whichever view reads them. -/
theorem owns_of_cover {sp sp' : Space} {s : Shape} {e : EltTy} (c : Dev nD) (mm : Memref sig .tc sp s e) (v : View sig .tc sp' s e)
    (L : List (View.Piece (Elt F) s e)) (h : ∀ y, ∃ pc ∈ L, y ∈ pc.1.set) :
    (iprop(∃ f, mm.view.loc (c : Thread nD τ) ↦[mm.view.set]{fullShare} mm.view.writes (Elt F) f L) : sProp 𝕄)
      ⊢ owns (c : Thread nD τ) mm fullShare (v.read (Elt F) (v.writes (Elt F) v.junk L)) := by
  iintro ⟨%g, H⟩
  unfold owns; iexists _; isplitr
  swap; · iexact H
  ipureintro; exact View.read_writes_of_cover _ _ _ _ _ h

/-- The six scratch buffers' contents. -/
structure St (F : FTy → Type) [FloatOps F] where
  s0 : Vec F S32x12288 .fp8e4m3
  s1 : Vec F S4096x128 .f32
  s2 : Vec F S4x16x128 .f32
  s3 : Vec F S16x128 .f32
  s4 : Vec F S16x128 .f32
  s5 : Vec F S16x128 .f32

/-- The filling's run at point `t`, on the pipeline's own memrefs. -/
abbrev initAt (c : Dev nD) (t : Fin cfg0.N) :=
  initRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t)

/-- The step's run at point `t` from scratch `s`, when `t` is not the last. -/
abbrev stepBAt (c : Dev nD) (t : Fin cfg0.N) (h : ¬cond0_1 (grid0.coords t)) (s : St F) :=
  stepRunB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) h (iblk m c 7 t) (iblk m c 8 t) (iblk m c 9 t) s.s0 s.s1 s.s2 s.s3 s.s4 s.s5

/-- The step's run at the last point from scratch `s`. -/
abbrev stepCAt (c : Dev nD) (t : Fin cfg0.N) (h : cond0_1 (grid0.coords t)) (s : St F) :=
  stepRunC (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) h (iblk m c 7 t) (iblk m c 8 t) (iblk m c 9 t) s.s0 s.s1 s.s2 s.s3 s.s4 s.s5

/-! ## The pieces cover the buffers -/

theorem icov0 (c : Dev nD) (t : Fin cfg0.N) (y : S32x12288.Idx) : ∃ pc ∈ (initAt m c t).1, y ∈ pc.1.set :=
  View.cover_of_tiledL (initAt m c t).1 S32x12288.size (by sl_kernel_rfl) y
theorem icov2 (c : Dev nD) (t : Fin cfg0.N) (y : S4x16x128.Idx) : ∃ pc ∈ (initAt m c t).2.2.1, y ∈ pc.1.set :=
  View.cover_of_tiledL (initAt m c t).2.2.1 S1x16x128.size (by sl_kernel_rfl) y
theorem icov3 (c : Dev nD) (t : Fin cfg0.N) (y : S16x128.Idx) : ∃ pc ∈ (initAt m c t).2.2.2.1, y ∈ pc.1.set :=
  View.cover_of_tiledL (initAt m c t).2.2.2.1 S16x128.size (by sl_kernel_rfl) y
theorem icov4 (c : Dev nD) (t : Fin cfg0.N) (y : S16x128.Idx) : ∃ pc ∈ (initAt m c t).2.2.2.2.1, y ∈ pc.1.set :=
  View.cover_of_tiledL (initAt m c t).2.2.2.2.1 S16x128.size (by sl_kernel_rfl) y
theorem icov5 (c : Dev nD) (t : Fin cfg0.N) (y : S16x128.Idx) : ∃ pc ∈ (initAt m c t).2.2.2.2.2.1, y ∈ pc.1.set :=
  View.cover_of_tiledL (initAt m c t).2.2.2.2.2.1 S16x128.size (by sl_kernel_rfl) y
theorem bcov12 (c : Dev nD) (t : Fin cfg0.N) (h : ¬cond0_1 (grid0.coords t)) (s : St F) (y : S16x640.Idx) : ∃ pc ∈ (stepBAt m c t h s).1, y ∈ pc.1.set :=
  View.cover_of_tiledL (stepBAt m c t h s).1 S16x128.size (by sl_kernel_rfl) y
theorem bcovS3 (c : Dev nD) (t : Fin cfg0.N) (h : ¬cond0_1 (grid0.coords t)) (s : St F) (y : S16x128.Idx) : ∃ pc ∈ (stepBAt m c t h s).2.1, y ∈ pc.1.set :=
  View.cover_of_tiledL (stepBAt m c t h s).2.1 S16x128.size (by sl_kernel_rfl) y
theorem bcovS4 (c : Dev nD) (t : Fin cfg0.N) (h : ¬cond0_1 (grid0.coords t)) (s : St F) (y : S16x128.Idx) : ∃ pc ∈ (stepBAt m c t h s).2.2.1, y ∈ pc.1.set :=
  View.cover_of_tiledL (stepBAt m c t h s).2.2.1 S16x128.size (by sl_kernel_rfl) y
theorem bcovS5 (c : Dev nD) (t : Fin cfg0.N) (h : ¬cond0_1 (grid0.coords t)) (s : St F) (y : S16x128.Idx) : ∃ pc ∈ (stepBAt m c t h s).2.2.2.1, y ∈ pc.1.set :=
  View.cover_of_tiledL (stepBAt m c t h s).2.2.2.1 S16x128.size (by sl_kernel_rfl) y
theorem ccov10 (c : Dev nD) (t : Fin cfg0.N) (h : cond0_1 (grid0.coords t)) (s : St F) (y : S1x16.Idx) : ∃ pc ∈ (stepCAt m c t h s).1, y ∈ pc.1.set :=
  View.cover_of_tiledL (stepCAt m c t h s).1 S1x16.size (by sl_kernel_rfl) y
theorem ccov11 (c : Dev nD) (t : Fin cfg0.N) (h : cond0_1 (grid0.coords t)) (s : St F) (y : S16x20.Idx) : ∃ pc ∈ (stepCAt m c t h s).2.1, y ∈ pc.1.set :=
  View.cover_of_tiledL (stepCAt m c t h s).2.1 S16x20.size (by sl_kernel_rfl) y
theorem ccov12 (c : Dev nD) (t : Fin cfg0.N) (h : cond0_1 (grid0.coords t)) (s : St F) (y : S16x640.Idx) : ∃ pc ∈ (stepCAt m c t h s).2.2.1, y ∈ pc.1.set :=
  View.cover_of_tiledL (stepCAt m c t h s).2.2.1 S16x128.size (by sl_kernel_rfl) y
theorem ccovS3 (c : Dev nD) (t : Fin cfg0.N) (h : cond0_1 (grid0.coords t)) (s : St F) (y : S16x128.Idx) : ∃ pc ∈ (stepCAt m c t h s).2.2.2.1, y ∈ pc.1.set :=
  View.cover_of_tiledL (stepCAt m c t h s).2.2.2.1 S16x128.size (by sl_kernel_rfl) y
theorem ccovS4 (c : Dev nD) (t : Fin cfg0.N) (h : cond0_1 (grid0.coords t)) (s : St F) (y : S16x128.Idx) : ∃ pc ∈ (stepCAt m c t h s).2.2.2.2.1, y ∈ pc.1.set :=
  View.cover_of_tiledL (stepCAt m c t h s).2.2.2.2.1 S16x128.size (by sl_kernel_rfl) y
theorem ccovS5 (c : Dev nD) (t : Fin cfg0.N) (h : cond0_1 (grid0.coords t)) (s : St F) (y : S16x128.Idx) : ∃ pc ∈ (stepCAt m c t h s).2.2.2.2.2.1, y ∈ pc.1.set :=
  View.cover_of_tiledL (stepCAt m c t h s).2.2.2.2.2.1 S16x128.size (by sl_kernel_rfl) y

/-- The sixteen rows' histograms interleave: row `16 * h + b` of the counts is row `h` of piece `b`. -/
theorem icov1 (c : Dev nD) (t : Fin cfg0.N) (y : S4096x128.Idx) : ∃ pc ∈ (initAt m c t).2.1, y ∈ pc.1.set := by
  have h0 : (y 0).val < 4096 := (y 0).isLt
  have h1 : (y 1).val < 128 := (y 1).isLt
  have key : ∀ b : Fin 16, ∃ pc ∈ (initAt m c t).2.1, ∃ hb : _, pc.1 = (⟨⟨![b.val, 0], S256x128.size, ![16, 1], hb⟩, spos_16_1⟩ : Rect S4096x128) := by
    intro b
    fin_cases b
    · exact ⟨_, List.mem_of_getElem (i := 15) (h := by exact (by decide : 15 < 16)) rfl, _, rfl⟩
    · exact ⟨_, List.mem_of_getElem (i := 14) (h := by exact (by decide : 14 < 16)) rfl, _, rfl⟩
    · exact ⟨_, List.mem_of_getElem (i := 13) (h := by exact (by decide : 13 < 16)) rfl, _, rfl⟩
    · exact ⟨_, List.mem_of_getElem (i := 12) (h := by exact (by decide : 12 < 16)) rfl, _, rfl⟩
    · exact ⟨_, List.mem_of_getElem (i := 11) (h := by exact (by decide : 11 < 16)) rfl, _, rfl⟩
    · exact ⟨_, List.mem_of_getElem (i := 10) (h := by exact (by decide : 10 < 16)) rfl, _, rfl⟩
    · exact ⟨_, List.mem_of_getElem (i := 9) (h := by exact (by decide : 9 < 16)) rfl, _, rfl⟩
    · exact ⟨_, List.mem_of_getElem (i := 8) (h := by exact (by decide : 8 < 16)) rfl, _, rfl⟩
    · exact ⟨_, List.mem_of_getElem (i := 7) (h := by exact (by decide : 7 < 16)) rfl, _, rfl⟩
    · exact ⟨_, List.mem_of_getElem (i := 6) (h := by exact (by decide : 6 < 16)) rfl, _, rfl⟩
    · exact ⟨_, List.mem_of_getElem (i := 5) (h := by exact (by decide : 5 < 16)) rfl, _, rfl⟩
    · exact ⟨_, List.mem_of_getElem (i := 4) (h := by exact (by decide : 4 < 16)) rfl, _, rfl⟩
    · exact ⟨_, List.mem_of_getElem (i := 3) (h := by exact (by decide : 3 < 16)) rfl, _, rfl⟩
    · exact ⟨_, List.mem_of_getElem (i := 2) (h := by exact (by decide : 2 < 16)) rfl, _, rfl⟩
    · exact ⟨_, List.mem_of_getElem (i := 1) (h := by exact (by decide : 1 < 16)) rfl, _, rfl⟩
    · exact ⟨_, List.mem_of_getElem (i := 0) (h := by exact (by decide : 0 < 16)) rfl, _, rfl⟩
  obtain ⟨pc, hm, hb, e⟩ := key ⟨(y 0).val % 16, Nat.mod_lt _ (by decide)⟩
  refine ⟨pc, hm, ?_⟩
  rw [e]
  refine (LoadRect.mem_set _).mpr ?_
  intro a
  fin_cases a
  · exact ⟨(y 0).val / 16, show (y 0).val / 16 < 256 by omega, show (y 0).val = (y 0).val % 16 + 16 * ((y 0).val / 16) by omega⟩
  · exact ⟨(y 1).val, show (y 1).val < 128 from h1, show (y 1).val = 0 + 1 * (y 1).val by omega⟩

/-! ## The scratch, point by point -/

/-- The scratch after the filling. -/
def initSt (c : Dev nD) (t : Fin cfg0.N) : St F where
  s0 := VS0_0.read (Elt F) (VS0_0.writes (Elt F) VS0_0.junk ((initAt m c t).1))
  s1 := VS0_1.read (Elt F) (VS0_1.writes (Elt F) VS0_1.junk ((initAt m c t).2.1))
  s2 := VS0_2.read (Elt F) (VS0_2.writes (Elt F) VS0_2.junk ((initAt m c t).2.2.1))
  s3 := VS0_3.read (Elt F) (VS0_3.writes (Elt F) VS0_3.junk ((initAt m c t).2.2.2.1))
  s4 := VS0_4.read (Elt F) (VS0_4.writes (Elt F) VS0_4.junk ((initAt m c t).2.2.2.2.1))
  s5 := VS0_5.read (Elt F) (VS0_5.writes (Elt F) VS0_5.junk ((initAt m c t).2.2.2.2.2.1))

theorem own_init0 (c : Dev nD) (t : Fin cfg0.N) :
    (iprop(∃ f, scM0_0.view.loc (c : Thread nD τ) ↦[scM0_0.view.set]{fullShare} scM0_0.view.writes (Elt F) f (initAt m c t).1) : sProp 𝕄)
      ⊢ owns (c : Thread nD τ) scM0_0 fullShare (initSt m c t).s0 := by
  dsimp only [initSt]
  exact owns_of_cover c scM0_0 VS0_0 _ (icov0 m c t)

theorem own_init1 (c : Dev nD) (t : Fin cfg0.N) :
    (iprop(∃ f, scM0_1.view.loc (c : Thread nD τ) ↦[scM0_1.view.set]{fullShare} scM0_1.view.writes (Elt F) f (initAt m c t).2.1) : sProp 𝕄)
      ⊢ owns (c : Thread nD τ) scM0_1 fullShare (initSt m c t).s1 := by
  dsimp only [initSt]
  exact owns_of_cover c scM0_1 VS0_1 _ (icov1 m c t)

theorem own_init2 (c : Dev nD) (t : Fin cfg0.N) :
    (iprop(∃ f, scM0_2.view.loc (c : Thread nD τ) ↦[scM0_2.view.set]{fullShare} scM0_2.view.writes (Elt F) f (initAt m c t).2.2.1) : sProp 𝕄)
      ⊢ owns (c : Thread nD τ) scM0_2 fullShare (initSt m c t).s2 := by
  dsimp only [initSt]
  exact owns_of_cover c scM0_2 VS0_2 _ (icov2 m c t)

theorem own_init3 (c : Dev nD) (t : Fin cfg0.N) :
    (iprop(∃ f, scM0_3.view.loc (c : Thread nD τ) ↦[scM0_3.view.set]{fullShare} scM0_3.view.writes (Elt F) f (initAt m c t).2.2.2.1) : sProp 𝕄)
      ⊢ owns (c : Thread nD τ) scM0_3 fullShare (initSt m c t).s3 := by
  dsimp only [initSt]
  exact owns_of_cover c scM0_3 VS0_3 _ (icov3 m c t)

theorem own_init4 (c : Dev nD) (t : Fin cfg0.N) :
    (iprop(∃ f, scM0_4.view.loc (c : Thread nD τ) ↦[scM0_4.view.set]{fullShare} scM0_4.view.writes (Elt F) f (initAt m c t).2.2.2.2.1) : sProp 𝕄)
      ⊢ owns (c : Thread nD τ) scM0_4 fullShare (initSt m c t).s4 := by
  dsimp only [initSt]
  exact owns_of_cover c scM0_4 VS0_4 _ (icov4 m c t)

theorem own_init5 (c : Dev nD) (t : Fin cfg0.N) :
    (iprop(∃ f, scM0_5.view.loc (c : Thread nD τ) ↦[scM0_5.view.set]{fullShare} scM0_5.view.writes (Elt F) f (initAt m c t).2.2.2.2.2.1) : sProp 𝕄)
      ⊢ owns (c : Thread nD τ) scM0_5 fullShare (initSt m c t).s5 := by
  dsimp only [initSt]
  exact owns_of_cover c scM0_5 VS0_5 _ (icov5 m c t)

/-- The scratch after the step at a point that is not the last, from scratch `s`: three of the six buffers change. -/
def stepStB (c : Dev nD) (t : Fin cfg0.N) (h : ¬cond0_1 (grid0.coords t)) (s : St F) : St F where
  s0 := s.s0
  s1 := s.s1
  s2 := s.s2
  s3 := VS0_3.read (Elt F) (VS0_3.writes (Elt F) VS0_3.junk ((stepBAt m c t h s).2.1))
  s4 := VS0_4.read (Elt F) (VS0_4.writes (Elt F) VS0_4.junk ((stepBAt m c t h s).2.2.1))
  s5 := VS0_5.read (Elt F) (VS0_5.writes (Elt F) VS0_5.junk ((stepBAt m c t h s).2.2.2.1))

/-- The scratch after the step at the last point, from scratch `s`. -/
def stepStC (c : Dev nD) (t : Fin cfg0.N) (h : cond0_1 (grid0.coords t)) (s : St F) : St F where
  s0 := s.s0
  s1 := s.s1
  s2 := s.s2
  s3 := VS0_3.read (Elt F) (VS0_3.writes (Elt F) VS0_3.junk ((stepCAt m c t h s).2.2.2.1))
  s4 := VS0_4.read (Elt F) (VS0_4.writes (Elt F) VS0_4.junk ((stepCAt m c t h s).2.2.2.2.1))
  s5 := VS0_5.read (Elt F) (VS0_5.writes (Elt F) VS0_5.junk ((stepCAt m c t h s).2.2.2.2.2.1))

open Classical in
/-- The scratch after the step at point `t`, from scratch `s`. -/
def stepSt (c : Dev nD) (t : Fin cfg0.N) (s : St F) : St F :=
  if h : cond0_1 (grid0.coords t) then stepStC m c t h s else stepStB m c t h s

theorem stepSt_C (c : Dev nD) (t : Fin cfg0.N) (h : cond0_1 (grid0.coords t)) (s : St F) : stepSt m c t s = stepStC m c t h s := dif_pos h

theorem stepSt_B (c : Dev nD) (t : Fin cfg0.N) (h : ¬cond0_1 (grid0.coords t)) (s : St F) : stepSt m c t s = stepStB m c t h s := dif_neg h

/-- The scratch the step at point `n` starts from: at the first point after the filling. -/
def stB (c : Dev nD) : (n : ℕ) → n < cfg0.N → St F
  | 0, h => initSt m c ⟨0, h⟩
  | n + 1, h => stepSt m c ⟨n, Nat.lt_of_succ_lt h⟩ (stB c n (Nat.lt_of_succ_lt h))

/-- The scratch after point `n`. -/
def stA (c : Dev nD) (n : ℕ) (h : n < cfg0.N) : St F := stepSt m c ⟨n, h⟩ (stB m c n h)

theorem stB_zero (c : Dev nD) (t : Fin cfg0.N) (h : t.val = 0) : stB m c t.val t.isLt = initSt m c t := by
  obtain ⟨n, hn⟩ := t; simp only at h; subst h; rfl

theorem stB_pos (c : Dev nD) (t : Fin cfg0.N) (h : t.val ≠ 0) : stB m c t.val t.isLt = stA m c (t.val - 1) (by have := t.isLt; omega) := by
  obtain ⟨n, hn⟩ := t
  cases n with
  | zero => exact absurd rfl h
  | succ n => rfl

open Classical in
/-- What the body leaves in the block of logits at point `t`. -/
def out12 (c : Dev nD) (t : Fin cfg0.N) : Vec F S16x640 .f32 :=
  if h : cond0_1 (grid0.coords t) then VO0_12.read (Elt F) (VO0_12.writes (Elt F) VO0_12.junk ((stepCAt m c t h (stB m c t.val t.isLt)).2.2.1)) else VO0_12.read (Elt F) (VO0_12.writes (Elt F) VO0_12.junk ((stepBAt m c t h (stB m c t.val t.isLt)).1))

open Classical in
/-- What the body leaves in the block of the logsumexps at the last point. -/
def out10 (c : Dev nD) (t : Fin cfg0.N) : Vec F S1x16 .f32 :=
  if h : cond0_1 (grid0.coords t) then VO0_10.read (Elt F) (VO0_10.writes (Elt F) VO0_10.junk ((stepCAt m c t h (stB m c t.val t.isLt)).1)) else VO0_10.read (Elt F) VO0_10.junk

open Classical in
/-- What the body leaves in the block of the candidates at the last point. -/
def out11 (c : Dev nD) (t : Fin cfg0.N) : Vec F S16x20 .f32 :=
  if h : cond0_1 (grid0.coords t) then VO0_11.read (Elt F) (VO0_11.writes (Elt F) VO0_11.junk ((stepCAt m c t h (stB m c t.val t.isLt)).2.1)) else VO0_11.read (Elt F) VO0_11.junk

theorem out12_B (c : Dev nD) (t : Fin cfg0.N) (h : ¬cond0_1 (grid0.coords t)) :
    out12 m c t = VO0_12.read (Elt F) (VO0_12.writes (Elt F) VO0_12.junk ((stepBAt m c t h (stB m c t.val t.isLt)).1)) := dif_neg h

theorem out10_C (c : Dev nD) (t : Fin cfg0.N) (h : cond0_1 (grid0.coords t)) :
    out10 m c t = VO0_10.read (Elt F) (VO0_10.writes (Elt F) VO0_10.junk ((stepCAt m c t h (stB m c t.val t.isLt)).1)) := dif_pos h

theorem out11_C (c : Dev nD) (t : Fin cfg0.N) (h : cond0_1 (grid0.coords t)) :
    out11 m c t = VO0_11.read (Elt F) (VO0_11.writes (Elt F) VO0_11.junk ((stepCAt m c t h (stB m c t.val t.isLt)).2.1)) := dif_pos h

theorem out12_C (c : Dev nD) (t : Fin cfg0.N) (h : cond0_1 (grid0.coords t)) :
    out12 m c t = VO0_12.read (Elt F) (VO0_12.writes (Elt F) VO0_12.junk ((stepCAt m c t h (stB m c t.val t.isLt)).2.2.1)) := dif_pos h

/-! ## The region's invariant and the proof data -/

/-- The six scratch buffers owned at `s`, the generator register at some state. -/
def owned (c : Dev nD) (s : St F) : sProp 𝕄 :=
  iprop(iprop(owns (c : Thread nD τ) scM0_0 fullShare s.s0 ∗ owns (c : Thread nD τ) scM0_1 fullShare s.s1 ∗ owns (c : Thread nD τ) scM0_2 fullShare s.s2 ∗ owns (c : Thread nD τ) scM0_3 fullShare s.s3 ∗ owns (c : Thread nD τ) scM0_4 fullShare s.s4 ∗ owns (c : Thread nD τ) scM0_5 fullShare s.s5) ∗ (∃ r, prngReg c r))

/-- Before the first point the scratch is at anything; after point `n` at `stA`. -/
def PhiS (c : Dev nD) : (n : ℕ) → n ≤ cfg0.N → sProp 𝕄
  | 0, _ => Pipeline.ΦA spec0 c
  | n + 1, hn => owned c (stA m c n hn)

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) : PhiS m c n h = owned c (stA m c (n - 1) (by omega)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 m c t
    | ⟨11, _⟩ => out11 m c t
    | ⟨12, _⟩ => out12 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out10 m c t := by dsimp only [dats]
theorem after0_11 (c : Dev nD) (t : Fin cfg0.N) : (dats m 0 c).after 11 t = out11 m c t := by dsimp only [dats]
theorem after0_12 (c : Dev nD) (t : Fin cfg0.N) : (dats m 0 c).after 12 t = out12 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 3200000 in
theorem sound_first (c : Dev nD) (t : Fin cfg0.N) (h0 : cond0_0 (grid0.coords t)) (h1 : ¬cond0_1 (grid0.coords t)) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = owned c (stA m c t.val t.isLt) from rfl]
  have e0 : (dats m 0 c).leavesExact 0 t = owns (c : Thread nD τ) (ms0_0 t) fullShare (iblk m c 0 t) := by
    unfold Dat.leavesExact; rw [liveAt0_0 t, after0_0]
  have e1 : (dats m 0 c).leavesExact 1 t = owns (c : Thread nD τ) (ms0_1 t) fullShare (iblk m c 1 t) := by
    unfold Dat.leavesExact; rw [liveAt0_1 t, after0_1]
  have e2 : (dats m 0 c).leavesExact 2 t = owns (c : Thread nD τ) (ms0_2 t) fullShare (iblk m c 2 t) := by
    unfold Dat.leavesExact; rw [liveAt0_2 t, after0_2]
  have e3 : (dats m 0 c).leavesExact 3 t = owns (c : Thread nD τ) (ms0_3 t) fullShare (iblk m c 3 t) := by
    unfold Dat.leavesExact; rw [liveAt0_3 t, after0_3]
  have e4 : (dats m 0 c).leavesExact 4 t = owns (c : Thread nD τ) (ms0_4 t) fullShare (iblk m c 4 t) := by
    unfold Dat.leavesExact; rw [liveAt0_4 t, after0_4]
  have e5 : (dats m 0 c).leavesExact 5 t = owns (c : Thread nD τ) (ms0_5 t) fullShare (iblk m c 5 t) := by
    unfold Dat.leavesExact; rw [liveAt0_5 t, after0_5]
  have e6 : (dats m 0 c).leavesExact 6 t = owns (c : Thread nD τ) (ms0_6 t) fullShare (iblk m c 6 t) := by
    unfold Dat.leavesExact; rw [liveAt0_6 t, after0_6]
  have e7 : (dats m 0 c).leavesExact 7 t = owns (c : Thread nD τ) (ms0_7 t) fullShare (iblk m c 7 t) := by
    unfold Dat.leavesExact; rw [liveAt0_7 t, after0_7]
  have e8 : (dats m 0 c).leavesExact 8 t = owns (c : Thread nD τ) (ms0_8 t) fullShare (iblk m c 8 t) := by
    unfold Dat.leavesExact; rw [liveAt0_8 t, after0_8]
  have e9 : (dats m 0 c).leavesExact 9 t = owns (c : Thread nD τ) (ms0_9 t) fullShare (iblk m c 9 t) := by
    unfold Dat.leavesExact; rw [liveAt0_9 t, after0_9]
  have e12 : (dats m 0 c).leavesExact 12 t = owns (c : Thread nD τ) (ms0_12 t) fullShare (out12 m c t) := by
    unfold Dat.leavesExact; rw [liveAt0_12 t, after0_12]
  have e10 := Dat.leavesExact_idle (dats m 0 c) 10 t (idleAt0_10_A t h0 h1) (noFlush0_10_A t h0 h1)
  have e11 := Dat.leavesExact_idle (dats m 0 c) 11 t (idleAt0_11_A t h0 h1) (noFlush0_11_A t h0 h1)
  rw [e0, e1, e2, e3, e4, e5, e6, e7, e8, e9, e10, e11, e12]
  rw [PhiS_castSucc m c t, PhiS_zero m c _ _ hz, PhiA0_eq]
  rw [out12_B m c t h1]
  unfold owned stA
  rw [stepSt_B m c t h1, stB_zero m c t hz]
  dsimp only [stepStB]
  rw [body_init _ _ _ _ _ _ _ _ _ _ _ _ _ _ _ _ _ _ _ _ _ _ _ _ _ _ _ _ _ _ _ _ _ _ _ _ _ _ _ h0, wp_bind]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((initAt m c t).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  iapply ((stepBAt m c t h1 (initSt m c t)).2.2.2.2 Set.univ _)
  isplitl [H7]; · iexact H7
  isplitl [H8]; · iexact H8
  isplitl [H9]; · iexact H9
  isplitl [H12]; · iexists _; iexact H12
  isplitl [HS0]; · iapply (own_init0 m c t); iexact HS0
  isplitl [HS1]; · iapply (own_init1 m c t); iexact HS1
  isplitl [HS2]; · iapply (own_init2 m c t); iexact HS2
  isplitl [HS3]; · iapply (own_init3 m c t); iexact HS3
  isplitl [HS4]; · iapply (own_init4 m c t); iexact HS4
  isplitl [HS5]; · iapply (own_init5 m c t); iexact HS5
  iintro ⟨H7, H8, H9, H12, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iapply (owns_of_cover c _ VS0_3 _ (bcovS3 m c t h1 (initSt m c t))); iexact HS3
      isplitl [HS4]; · iapply (owns_of_cover c _ VS0_4 _ (bcovS4 m c t h1 (initSt m c t))); iexact HS4
      iapply (owns_of_cover c _ VS0_5 _ (bcovS5 m c t h1 (initSt m c t))); iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iapply (owns_of_cover c _ VO0_12 _ (bcov12 m c t h1 (initSt m c t))); iexact H12

set_option maxHeartbeats 3200000 in
theorem sound_mid (c : Dev nD) (t : Fin cfg0.N) (h0 : ¬cond0_0 (grid0.coords t)) (h1 : ¬cond0_1 (grid0.coords t)) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = owned c (stA m c t.val t.isLt) from rfl]
  have e0 : (dats m 0 c).leavesExact 0 t = owns (c : Thread nD τ) (ms0_0 t) fullShare (iblk m c 0 t) := by
    unfold Dat.leavesExact; rw [liveAt0_0 t, after0_0]
  have e1 : (dats m 0 c).leavesExact 1 t = owns (c : Thread nD τ) (ms0_1 t) fullShare (iblk m c 1 t) := by
    unfold Dat.leavesExact; rw [liveAt0_1 t, after0_1]
  have e2 : (dats m 0 c).leavesExact 2 t = owns (c : Thread nD τ) (ms0_2 t) fullShare (iblk m c 2 t) := by
    unfold Dat.leavesExact; rw [liveAt0_2 t, after0_2]
  have e3 : (dats m 0 c).leavesExact 3 t = owns (c : Thread nD τ) (ms0_3 t) fullShare (iblk m c 3 t) := by
    unfold Dat.leavesExact; rw [liveAt0_3 t, after0_3]
  have e4 : (dats m 0 c).leavesExact 4 t = owns (c : Thread nD τ) (ms0_4 t) fullShare (iblk m c 4 t) := by
    unfold Dat.leavesExact; rw [liveAt0_4 t, after0_4]
  have e5 : (dats m 0 c).leavesExact 5 t = owns (c : Thread nD τ) (ms0_5 t) fullShare (iblk m c 5 t) := by
    unfold Dat.leavesExact; rw [liveAt0_5 t, after0_5]
  have e6 : (dats m 0 c).leavesExact 6 t = owns (c : Thread nD τ) (ms0_6 t) fullShare (iblk m c 6 t) := by
    unfold Dat.leavesExact; rw [liveAt0_6 t, after0_6]
  have e7 : (dats m 0 c).leavesExact 7 t = owns (c : Thread nD τ) (ms0_7 t) fullShare (iblk m c 7 t) := by
    unfold Dat.leavesExact; rw [liveAt0_7 t, after0_7]
  have e8 : (dats m 0 c).leavesExact 8 t = owns (c : Thread nD τ) (ms0_8 t) fullShare (iblk m c 8 t) := by
    unfold Dat.leavesExact; rw [liveAt0_8 t, after0_8]
  have e9 : (dats m 0 c).leavesExact 9 t = owns (c : Thread nD τ) (ms0_9 t) fullShare (iblk m c 9 t) := by
    unfold Dat.leavesExact; rw [liveAt0_9 t, after0_9]
  have e12 : (dats m 0 c).leavesExact 12 t = owns (c : Thread nD τ) (ms0_12 t) fullShare (out12 m c t) := by
    unfold Dat.leavesExact; rw [liveAt0_12 t, after0_12]
  have e10 := Dat.leavesExact_idle (dats m 0 c) 10 t (idleAt0_10_B t h0 h1) (noFlush0_10_B t h0 h1)
  have e11 := Dat.leavesExact_idle (dats m 0 c) 11 t (idleAt0_11_B t h0 h1) (noFlush0_11_B t h0 h1)
  rw [e0, e1, e2, e3, e4, e5, e6, e7, e8, e9, e10, e11, e12]
  rw [PhiS_castSucc m c t, PhiS_pos m c _ _ hz, ← stB_pos m c t hz]
  rw [out12_B m c t h1]
  unfold owned
  rw [show stA m c t.val t.isLt = stepStB m c t h1 (stB m c t.val t.isLt) from stepSt_B m c t h1 _]
  dsimp only [stepStB]
  rw [body_step _ _ _ _ _ _ _ _ _ _ _ _ _ _ _ _ _ _ _ _ _ _ _ _ _ _ _ _ _ _ _ _ _ _ _ _ _ _ _ h0]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((stepBAt m c t h1 (stB m c t.val t.isLt)).2.2.2.2 Set.univ _)
  isplitl [H7]; · iexact H7
  isplitl [H8]; · iexact H8
  isplitl [H9]; · iexact H9
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  iintro ⟨H7, H8, H9, H12, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iapply (owns_of_cover c _ VS0_3 _ (bcovS3 m c t h1 (stB m c t.val t.isLt))); iexact HS3
      isplitl [HS4]; · iapply (owns_of_cover c _ VS0_4 _ (bcovS4 m c t h1 (stB m c t.val t.isLt))); iexact HS4
      iapply (owns_of_cover c _ VS0_5 _ (bcovS5 m c t h1 (stB m c t.val t.isLt))); iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iapply (owns_of_cover c _ VO0_12 _ (bcov12 m c t h1 (stB m c t.val t.isLt))); iexact H12

set_option maxHeartbeats 3200000 in
theorem sound_last (c : Dev nD) (t : Fin cfg0.N) (h0 : ¬cond0_0 (grid0.coords t)) (h1 : cond0_1 (grid0.coords t)) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = owned c (stA m c t.val t.isLt) from rfl]
  have e0 : (dats m 0 c).leavesExact 0 t = owns (c : Thread nD τ) (ms0_0 t) fullShare (iblk m c 0 t) := by
    unfold Dat.leavesExact; rw [liveAt0_0 t, after0_0]
  have e1 : (dats m 0 c).leavesExact 1 t = owns (c : Thread nD τ) (ms0_1 t) fullShare (iblk m c 1 t) := by
    unfold Dat.leavesExact; rw [liveAt0_1 t, after0_1]
  have e2 : (dats m 0 c).leavesExact 2 t = owns (c : Thread nD τ) (ms0_2 t) fullShare (iblk m c 2 t) := by
    unfold Dat.leavesExact; rw [liveAt0_2 t, after0_2]
  have e3 : (dats m 0 c).leavesExact 3 t = owns (c : Thread nD τ) (ms0_3 t) fullShare (iblk m c 3 t) := by
    unfold Dat.leavesExact; rw [liveAt0_3 t, after0_3]
  have e4 : (dats m 0 c).leavesExact 4 t = owns (c : Thread nD τ) (ms0_4 t) fullShare (iblk m c 4 t) := by
    unfold Dat.leavesExact; rw [liveAt0_4 t, after0_4]
  have e5 : (dats m 0 c).leavesExact 5 t = owns (c : Thread nD τ) (ms0_5 t) fullShare (iblk m c 5 t) := by
    unfold Dat.leavesExact; rw [liveAt0_5 t, after0_5]
  have e6 : (dats m 0 c).leavesExact 6 t = owns (c : Thread nD τ) (ms0_6 t) fullShare (iblk m c 6 t) := by
    unfold Dat.leavesExact; rw [liveAt0_6 t, after0_6]
  have e7 : (dats m 0 c).leavesExact 7 t = owns (c : Thread nD τ) (ms0_7 t) fullShare (iblk m c 7 t) := by
    unfold Dat.leavesExact; rw [liveAt0_7 t, after0_7]
  have e8 : (dats m 0 c).leavesExact 8 t = owns (c : Thread nD τ) (ms0_8 t) fullShare (iblk m c 8 t) := by
    unfold Dat.leavesExact; rw [liveAt0_8 t, after0_8]
  have e9 : (dats m 0 c).leavesExact 9 t = owns (c : Thread nD τ) (ms0_9 t) fullShare (iblk m c 9 t) := by
    unfold Dat.leavesExact; rw [liveAt0_9 t, after0_9]
  have e12 : (dats m 0 c).leavesExact 12 t = owns (c : Thread nD τ) (ms0_12 t) fullShare (out12 m c t) := by
    unfold Dat.leavesExact; rw [liveAt0_12 t, after0_12]
  have e10 : (dats m 0 c).leavesExact 10 t = owns (c : Thread nD τ) (ms0_10 t) fullShare (out10 m c t) := by
    unfold Dat.leavesExact; rw [liveAt0_10_C t h0 h1, after0_10]
  have e11 : (dats m 0 c).leavesExact 11 t = owns (c : Thread nD τ) (ms0_11 t) fullShare (out11 m c t) := by
    unfold Dat.leavesExact; rw [liveAt0_11_C t h0 h1, after0_11]
  rw [e0, e1, e2, e3, e4, e5, e6, e7, e8, e9, e10, e11, e12]
  rw [PhiS_castSucc m c t, PhiS_pos m c _ _ hz, ← stB_pos m c t hz]
  rw [out12_C m c t h1, out10_C m c t h1, out11_C m c t h1]
  unfold owned
  rw [show stA m c t.val t.isLt = stepStC m c t h1 (stB m c t.val t.isLt) from stepSt_C m c t h1 _]
  dsimp only [stepStC]
  rw [body_step _ _ _ _ _ _ _ _ _ _ _ _ _ _ _ _ _ _ _ _ _ _ _ _ _ _ _ _ _ _ _ _ _ _ _ _ _ _ _ h0]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((stepCAt m c t h1 (stB m c t.val t.isLt)).2.2.2.2.2.2 Set.univ _)
  isplitl [H7]; · iexact H7
  isplitl [H8]; · iexact H8
  isplitl [H9]; · iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  iintro ⟨H7, H8, H9, H10, H11, H12, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iapply (owns_of_cover c _ VS0_3 _ (ccovS3 m c t h1 (stB m c t.val t.isLt))); iexact HS3
      isplitl [HS4]; · iapply (owns_of_cover c _ VS0_4 _ (ccovS4 m c t h1 (stB m c t.val t.isLt))); iexact HS4
      iapply (owns_of_cover c _ VS0_5 _ (ccovS5 m c t h1 (stB m c t.val t.isLt))); iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (owns_of_cover c _ VO0_10 _ (ccov10 m c t h1 (stB m c t.val t.isLt))); iexact H10
  isplitl [H11]; · iapply (owns_of_cover c _ VO0_11 _ (ccov11 m c t h1 (stB m c t.val t.isLt))); iexact H11
  iapply (owns_of_cover c _ VO0_12 _ (ccov12 m c t h1 (stB m c t.val t.isLt))); iexact H12

theorem sound_body (c : Dev nD) (t : Fin cfg0.N) :
    bodyPre m c t ⊢ wp frame (wpE (defs₀ (F := F)) Variants.none c none) Set.univ (bodyAt0 t) (fun _ => bodyPost m c t) := by
  have hN : t.val < 50 := lt_of_lt_of_eq t.isLt (show cfg0.N = 50 from N_0)
  by_cases h0 : cond0_0 (grid0.coords t)
  · have e0 := (hcond0_0 t).mp h0
    exact sound_first m c t h0 (fun h => by have := (hcond0_1 t).mp h; omega) (by omega)
  · have hz : t.val ≠ 0 := fun h => h0 ((hcond0_0 t).mpr (by omega))
    by_cases h1 : cond0_1 (grid0.coords t)
    · exact sound_last m c t h0 h1 hz
    · exact sound_mid m c t h0 h1 hz

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scratch at anything back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  unfold owned
  iintro ⟨⟨HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 50 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Gen

end
-- ==== Proof.BodyK.Runs.lean ====
module

public import proofs.«01_k».proof.Proof.Gen.Kernel.Frame
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 50 = 0 :=
  (fun t => by
    have ht : t.val < 50 := Nat.lt_of_lt_of_eq t.isLt N_0
    have e0 : (grid0.coords t 0).val = t.val / 1 % 50 := Pipeline.Grid.coords_val t 0 (by decide) rfl
    simp only [cond0_0, e0]
    word_cmp
   : ∀ t : Fin grid0.N, cond0_0 (grid0.coords t) ↔ t.val % 50 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 50 = 49 :=
  (fun t => by
    have ht : t.val < 50 := Nat.lt_of_lt_of_eq t.isLt N_0
    have e0 : (grid0.coords t 0).val = t.val / 1 % 50 := Pipeline.Grid.coords_val t 0 (by decide) rfl
    simp only [cond0_1, k0_cond2, e0]
    word_cmp
   : ∀ t : Fin grid0.N, cond0_1 (grid0.coords t) ↔ t.val % 50 = 49)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 12 is never idle (an output stored at every point, under no condition). -/
theorem liveAt0_12 : ∀ t : Fin cfg0.N, cfg0.idle 12 (grid0.coords t) = false := fun _ => rfl
/-- At the points of case A the printed configuration (`Cfg.idle`) calls output 10 idle: the case stores nothing into it. -/
theorem idleAt0_10_A : ∀ t : Fin cfg0.N, cond0_0 (grid0.coords t) → ¬cond0_1 (grid0.coords t) → cfg0.idle 10 (grid0.coords t) = true := by decide +kernel
/-- At the points of case A the pipeline does not write output 10's block back. -/
theorem noFlush0_10_A : ∀ t : Fin cfg0.N, cond0_0 (grid0.coords t) → ¬cond0_1 (grid0.coords t) → (cfg0.win 10).flush t = false := by decide +kernel
/-- At the points of case B the printed configuration (`Cfg.idle`) calls output 10 idle: the case stores nothing into it. -/
theorem idleAt0_10_B : ∀ t : Fin cfg0.N, ¬cond0_0 (grid0.coords t) → ¬cond0_1 (grid0.coords t) → cfg0.idle 10 (grid0.coords t) = true := by decide +kernel
/-- At the points of case B the pipeline does not write output 10's block back. -/
theorem noFlush0_10_B : ∀ t : Fin cfg0.N, ¬cond0_0 (grid0.coords t) → ¬cond0_1 (grid0.coords t) → (cfg0.win 10).flush t = false := by decide +kernel
/-- At the points of case C the printed configuration (`Cfg.idle`) calls output 10 live: the case stores into it. -/
theorem liveAt0_10_C : ∀ t : Fin cfg0.N, ¬cond0_0 (grid0.coords t) → cond0_1 (grid0.coords t) → cfg0.idle 10 (grid0.coords t) = false := by decide +kernel
/-- At the points of case A the printed configuration (`Cfg.idle`) calls output 11 idle: the case stores nothing into it. -/
theorem idleAt0_11_A : ∀ t : Fin cfg0.N, cond0_0 (grid0.coords t) → ¬cond0_1 (grid0.coords t) → cfg0.idle 11 (grid0.coords t) = true := by decide +kernel
/-- At the points of case A the pipeline does not write output 11's block back. -/
theorem noFlush0_11_A : ∀ t : Fin cfg0.N, cond0_0 (grid0.coords t) → ¬cond0_1 (grid0.coords t) → (cfg0.win 11).flush t = false := by decide +kernel
/-- At the points of case B the printed configuration (`Cfg.idle`) calls output 11 idle: the case stores nothing into it. -/
theorem idleAt0_11_B : ∀ t : Fin cfg0.N, ¬cond0_0 (grid0.coords t) → ¬cond0_1 (grid0.coords t) → cfg0.idle 11 (grid0.coords t) = true := by decide +kernel
/-- At the points of case B the pipeline does not write output 11's block back. -/
theorem noFlush0_11_B : ∀ t : Fin cfg0.N, ¬cond0_0 (grid0.coords t) → ¬cond0_1 (grid0.coords t) → (cfg0.win 11).flush t = false := by decide +kernel
/-- At the points of case C the printed configuration (`Cfg.idle`) calls output 11 live: the case stores into it. -/
theorem liveAt0_11_C : ∀ t : Fin cfg0.N, ¬cond0_0 (grid0.coords t) → cond0_1 (grid0.coords t) → cfg0.idle 11 (grid0.coords t) = false := by decide +kernel

/-! ## The kernel body on any staging memrefs: a subtype the run finds -/

/-- One staging buffer of output window 10, through which its contents are stated (`View.read_writes_of_cover`: the
    choice does not matter). -/
abbrev VO0_10 : View sig .tc .vmem S1x16 .f32 := (Memref.whole cc0_stg10_0 : Memref sig .tc .vmem S1x16 .f32).view
/-- One staging buffer of output window 11, through which its contents are stated (`View.read_writes_of_cover`: the
    choice does not matter). -/
abbrev VO0_11 : View sig .tc .vmem S16x20 .f32 := (Memref.whole cc0_stg11_0 : Memref sig .tc .vmem S16x20 .f32).view
/-- One staging buffer of output window 12, through which its contents are stated (`View.read_writes_of_cover`: the
    choice does not matter). -/
abbrev VO0_12 : View sig .tc .vmem S16x640 .f32 := (Memref.whole cc0_stg12_0 : Memref sig .tc .vmem S16x640 .f32).view
/-- Each window's current staging memref at point `t`, spelled as the pipeline passes it (`bodyAt0`), and its wholeness. -/
abbrev ms0_0 (t : Fin cfg0.N) : Memref sig .tc .smem S16 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S16 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x12288 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x1024 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x20 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x640 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S12288x640 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x16 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S16x20 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S16x640 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S32x12288 .fp8e4m3 := Memref.whole cc0_scratch0
abbrev scM0_1 : Memref sig .tc .vmem S4096x128 .f32 := Memref.whole cc0_scratch1
abbrev scM0_2 : Memref sig .tc .vmem S4x16x128 .f32 := Memref.whole cc0_scratch2
abbrev scM0_3 : Memref sig .tc .vmem S16x128 .f32 := Memref.whole cc0_scratch3
abbrev scM0_4 : Memref sig .tc .vmem S16x128 .f32 := Memref.whole cc0_scratch4
abbrev scM0_5 : Memref sig .tc .vmem S16x128 .f32 := Memref.whole cc0_scratch5
/-- The scratch `arg14` the kernel carries between points, as a view: what it holds is stated through it. -/
abbrev VS0_0 : View sig .tc .vmem S32x12288 .fp8e4m3 := scM0_0.view
/-- The scratch `arg15` the kernel carries between points, as a view: what it holds is stated through it. -/
abbrev VS0_1 : View sig .tc .vmem S4096x128 .f32 := scM0_1.view
/-- The scratch `arg16` the kernel carries between points, as a view: what it holds is stated through it. -/
abbrev VS0_2 : View sig .tc .vmem S4x16x128 .f32 := scM0_2.view
/-- The scratch `arg17` the kernel carries between points, as a view: what it holds is stated through it. -/
abbrev VS0_3 : View sig .tc .vmem S16x128 .f32 := scM0_3.view
/-- The scratch `arg18` the kernel carries between points, as a view: what it holds is stated through it. -/
abbrev VS0_4 : View sig .tc .vmem S16x128 .f32 := scM0_4.view
/-- The scratch `arg19` the kernel carries between points, as a view: what it holds is stated through it. -/
abbrev VS0_5 : View sig .tc .vmem S16x128 .f32 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Gen

end
-- ==== Proof.BodyK.Prog.lean ====
module

public import proofs.«01_k».proof.Proof.BodyK.Runs

@[expose] public section

set_option maxRecDepth 16384

/-! The kernel's body in two pieces: what its first point alone does (the scratch filled: the padded activations, the
columns, the running statistics and the histogram), and what every point does (the product, the five tiles of logits,
the running statistics) — with, at the last point, the results. -/

noncomputable section

namespace Cert.Kernel.Gen

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

/-- What the first point does before anything else: the scratch is filled. -/
def initP (i : grid0.Coords) (arg1 : Memref sig .tc .smem S16 .i32) (harg1 : arg1.IsWhole) (arg2 : Memref sig .tc .smem S16 .f32) (harg2 : arg2.IsWhole) (arg3 : Memref sig .tc .smem S16 .f32) (harg3 : arg3.IsWhole) (arg4 : Memref sig .tc .smem S16 .f32) (harg4 : arg4.IsWhole) (arg5 : Memref sig .tc .smem S16 .f32) (harg5 : arg5.IsWhole) (arg6 : Memref sig .tc .vmem S16x12288 .fp8e4m3) (harg6 : arg6.IsWhole) (arg7 : Memref sig .tc .vmem S16x1024 .i32) (harg7 : arg7.IsWhole) (arg8 : Memref sig .tc .vmem S16x20 .i32) (harg8 : arg8.IsWhole) (arg9 : Memref sig .tc .vmem S1x640 .f32) (harg9 : arg9.IsWhole) (arg10 : Memref sig .tc .vmem S12288x640 .fp8e4m3) (harg10 : arg10.IsWhole) (arg11 : Memref sig .tc .vmem S1x16 .f32) (harg11 : arg11.IsWhole) (arg12 : Memref sig .tc .vmem S16x20 .f32) (harg12 : arg12.IsWhole) (arg13 : Memref sig .tc .vmem S16x640 .f32) (harg13 : arg13.IsWhole) (arg14 : Memref sig .tc .vmem S32x12288 .fp8e4m3) (harg14 : arg14.IsWhole) (arg15 : Memref sig .tc .vmem S4096x128 .f32) (harg15 : arg15.IsWhole) (arg16 : Memref sig .tc .vmem S4x16x128 .f32) (harg16 : arg16.IsWhole) (arg17 : Memref sig .tc .vmem S16x128 .f32) (harg17 : arg17.IsWhole) (arg18 : Memref sig .tc .vmem S16x128 .f32) (harg18 : arg18.IsWhole) (arg19 : Memref sig .tc .vmem S16x128 .f32) (harg19 : arg19.IsWhole) :
    Prog (TpuEff nD τ sig (Elt F) Λ₀ .tc) PUnit := do
  let ⟨v248, v280⟩ : Σ' (v248 : IVec S16x128 32), FVec F S16x128 .f32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let ⟨v320, v322⟩ : Σ' (v320 : FVec F S16x128 .f32), IVec S16x128 1 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v248 v280
  let ⟨v329, v361, v363⟩ : Σ' (v329 : IVec S16x128 32) (v361 : FVec F S16x128 .f32), IVec S16x128 1 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v320 v322
  let v406 : FVec F S16x128 .f32 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v329 v361 v363
  let ⟨v410, v447, c8_i32_150⟩ : Σ' (v410 : IVec S16x128 32) (v447 : FVec F S16x128 .f32), BitVec 32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v406
  let v487 : FVec F S16x128 .f32 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v410 v447 c8_i32_150
  let ⟨v491, v528, v530, v531⟩ : Σ' (v491 : IVec S16x128 32) (v528 : FVec F S16x128 .f32) (v530 : IVec S16x128 1), Elt F .f32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v487
  let v572 : FVec F S16x128 .f32 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v491 v528 v530 v531
  let ⟨v584, v585, v586⟩ : Σ' (v584 : IVec S1x1024 32) (v585 : IVec S256x1024 32), IVec S128x1024 32 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v572
  let ⟨v649, v654, cst_235⟩ : Σ' (v649 : FVec F S256x1024 .bf16) (v654 : FVec F S128x1024 .bf16), FVec F S256x128 .f32 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v584 v585 v586
  let ⟨v692, v695⟩ : Σ' (v692 : IVec S1x1024 32), IVec S256x1024 32 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v584 v585 v586 v649 v654 cst_235
  let ⟨v731, v734, v736, c_m1_i32_269⟩ : Σ' (v731 : Vec F S1x1024 .i32) (v734 : IVec S1x1024 1) (v736 : IVec S1x1024 32), BitVec 32 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v584 v585 v586 v692 v695
  let v779 : Vec F S1x1024 .i32 ← k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v584 v585 v586 v731 v734 v736 c_m1_i32_269
  let v823 : FVec F S256x128 .f32 ← k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v584 v585 v586 v779
  let ⟨v860, v865⟩ : Σ' (v860 : IVec S1x1024 32), FVec F S256x1024 .bf16 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v584 v585 v586 v823
  let ⟨v899, v906⟩ : Σ' (v899 : Vec F S1x1024 .i32), IVec S1x1024 32 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v584 v585 v586 v860 v865
  let ⟨v947, v948⟩ : Σ' (v947 : Vec F S1x1024 .i32), Elt F .i32 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v584 v585 v586 v899 v906
  let v968 : Vec F S256x128 .f32 ← Prog.lift (.load arg15 (⟨![15, 0], S256x128.size, ![16, 1], inb_S4096x128_S256x128_15_0_s_16_1⟩ : LoadRect S4096x128) (View.loadsAt_vmem h_S256x128))
  Prog.lift (.store arg15 ⟨(⟨![15, 0], S256x128.size, ![16, 1], inb_S4096x128_S256x128_15_0_s_16_1⟩ : LoadRect S4096x128), spos_16_1⟩ (k0_pay54 v584 v585 v586 v947 v948) Finset.univ (View.stores_vmem_bits_univ h_S256x128 rfl) (.inl rfl))
  pure ⟨⟩

/-- The loads every point starts with, and the tile's product. -/
def loadsP (i : grid0.Coords) (arg1 : Memref sig .tc .smem S16 .i32) (harg1 : arg1.IsWhole) (arg2 : Memref sig .tc .smem S16 .f32) (harg2 : arg2.IsWhole) (arg3 : Memref sig .tc .smem S16 .f32) (harg3 : arg3.IsWhole) (arg4 : Memref sig .tc .smem S16 .f32) (harg4 : arg4.IsWhole) (arg5 : Memref sig .tc .smem S16 .f32) (harg5 : arg5.IsWhole) (arg6 : Memref sig .tc .vmem S16x12288 .fp8e4m3) (harg6 : arg6.IsWhole) (arg7 : Memref sig .tc .vmem S16x1024 .i32) (harg7 : arg7.IsWhole) (arg8 : Memref sig .tc .vmem S16x20 .i32) (harg8 : arg8.IsWhole) (arg9 : Memref sig .tc .vmem S1x640 .f32) (harg9 : arg9.IsWhole) (arg10 : Memref sig .tc .vmem S12288x640 .fp8e4m3) (harg10 : arg10.IsWhole) (arg11 : Memref sig .tc .vmem S1x16 .f32) (harg11 : arg11.IsWhole) (arg12 : Memref sig .tc .vmem S16x20 .f32) (harg12 : arg12.IsWhole) (arg13 : Memref sig .tc .vmem S16x640 .f32) (harg13 : arg13.IsWhole) (arg14 : Memref sig .tc .vmem S32x12288 .fp8e4m3) (harg14 : arg14.IsWhole) (arg15 : Memref sig .tc .vmem S4096x128 .f32) (harg15 : arg15.IsWhole) (arg16 : Memref sig .tc .vmem S4x16x128 .f32) (harg16 : arg16.IsWhole) (arg17 : Memref sig .tc .vmem S16x128 .f32) (harg17 : arg17.IsWhole) (arg18 : Memref sig .tc .vmem S16x128 .f32) (harg18 : arg18.IsWhole) (arg19 : Memref sig .tc .vmem S16x128 .f32) (harg19 : arg19.IsWhole) :
    Prog (TpuEff nD τ sig (Elt F) Λ₀ .tc) (Σ' (arg0 : BitVec 32) (v6 : FVec F S16x640 .f32) (v8 : FVec F S16x128 .f32) (v10 : FVec F S16x128 .f32) (v12 : FVec F S16x128 .f32) (v14 : FVec F S16x128 .f32) (v19 : IVec S16x128 32) (v21 : IVec S16x128 32) (v22 : Vec F S16x128 .f32) (v24 : BitVec 32) (v26 : FVec F S16x128 .f32), Vec F S1x128 .f32) := do
  let arg0 : BitVec 32 := BitVec.ofNat 32 (i 0).val
  let v3 : Vec F S32x12288 .fp8e4m3 ← Prog.lift (.load arg14 (Rect.unit (s := S32x12288) ![0, 0] S32x12288.size inb_S32x12288_S32x12288_0_0).toLoadRect (View.loadsAt_vmem h_S32x12288))
  let v4 : Vec F S12288x640 .fp8e4m3 ← Prog.lift (.load arg10 (Rect.unit (s := S12288x640) ![0, 0] S12288x640.size inb_S12288x640_S12288x640_0_0).toLoadRect (View.loadsAt_vmem h_S12288x640))
  let v7 : Vec F S1x16x128 .f32 ← Prog.lift (.load arg16 (Rect.unit (s := S4x16x128) ![0, 0, 0] S1x16x128.size inb_S4x16x128_S1x16x128_0_0_0).toLoadRect (View.loadsAt_vmem h_S1x16x128))
  let v9 : Vec F S1x16x128 .f32 ← Prog.lift (.load arg16 (Rect.unit (s := S4x16x128) ![1, 0, 0] S1x16x128.size inb_S4x16x128_S1x16x128_1_0_0).toLoadRect (View.loadsAt_vmem h_S1x16x128))
  let v11 : Vec F S1x16x128 .f32 ← Prog.lift (.load arg16 (Rect.unit (s := S4x16x128) ![2, 0, 0] S1x16x128.size inb_S4x16x128_S1x16x128_2_0_0).toLoadRect (View.loadsAt_vmem h_S1x16x128))
  let v13 : Vec F S1x16x128 .f32 ← Prog.lift (.load arg16 (Rect.unit (s := S4x16x128) ![3, 0, 0] S1x16x128.size inb_S4x16x128_S1x16x128_3_0_0).toLoadRect (View.loadsAt_vmem h_S1x16x128))
  let v15 : Vec F S16x20 .i32 ← Prog.lift (.load arg8 (Rect.unit (s := S16x20) ![0, 0] S16x20.size inb_S16x20_S16x20_0_0).toLoadRect (View.loadsAt_vmem h_S16x20))
  let v22 : Vec F S16x128 .f32 ← Prog.lift (.load arg19 (Rect.unit (s := S16x128) ![0, 0] S16x128.size inb_S16x128_S16x128_0_0).toLoadRect (View.loadsAt_vmem h_S16x128))
  let v23 : BitVec 32 := Scalar.muli arg0 5#32
  let v24 : BitVec 32 := Scalar.addi v23 0#32
  let v27 : Vec F S1x128 .f32 ← Prog.lift (.load arg9 (Rect.unit (s := S1x640) ![0, 0] S1x128.size inb_S1x640_S1x128_0_0).toLoadRect (View.loadsAt_vmem h_S1x128))
  pure ⟨arg0, k0_pay55 v3 v4, k0_pay56 v7, k0_pay57 v9, k0_pay58 v11, k0_pay59 v13, k0_pay61 v15, k0_pay62 v15, v22, v24, k0_pay63 v3 v4 v7, v27⟩

/-- What every point does, the scratch filled. -/
def stepP (i : grid0.Coords) (arg1 : Memref sig .tc .smem S16 .i32) (harg1 : arg1.IsWhole) (arg2 : Memref sig .tc .smem S16 .f32) (harg2 : arg2.IsWhole) (arg3 : Memref sig .tc .smem S16 .f32) (harg3 : arg3.IsWhole) (arg4 : Memref sig .tc .smem S16 .f32) (harg4 : arg4.IsWhole) (arg5 : Memref sig .tc .smem S16 .f32) (harg5 : arg5.IsWhole) (arg6 : Memref sig .tc .vmem S16x12288 .fp8e4m3) (harg6 : arg6.IsWhole) (arg7 : Memref sig .tc .vmem S16x1024 .i32) (harg7 : arg7.IsWhole) (arg8 : Memref sig .tc .vmem S16x20 .i32) (harg8 : arg8.IsWhole) (arg9 : Memref sig .tc .vmem S1x640 .f32) (harg9 : arg9.IsWhole) (arg10 : Memref sig .tc .vmem S12288x640 .fp8e4m3) (harg10 : arg10.IsWhole) (arg11 : Memref sig .tc .vmem S1x16 .f32) (harg11 : arg11.IsWhole) (arg12 : Memref sig .tc .vmem S16x20 .f32) (harg12 : arg12.IsWhole) (arg13 : Memref sig .tc .vmem S16x640 .f32) (harg13 : arg13.IsWhole) (arg14 : Memref sig .tc .vmem S32x12288 .fp8e4m3) (harg14 : arg14.IsWhole) (arg15 : Memref sig .tc .vmem S4096x128 .f32) (harg15 : arg15.IsWhole) (arg16 : Memref sig .tc .vmem S4x16x128 .f32) (harg16 : arg16.IsWhole) (arg17 : Memref sig .tc .vmem S16x128 .f32) (harg17 : arg17.IsWhole) (arg18 : Memref sig .tc .vmem S16x128 .f32) (harg18 : arg18.IsWhole) (arg19 : Memref sig .tc .vmem S16x128 .f32) (harg19 : arg19.IsWhole) :
    Prog (TpuEff nD τ sig (Elt F) Λ₀ .tc) PUnit := do
  let ⟨arg0, v6, v8, v10, v12, v14, v19, v21, v22, v24, v26, v27⟩ : Σ' (arg0 : BitVec 32) (v6 : FVec F S16x640 .f32) (v8 : FVec F S16x128 .f32) (v10 : FVec F S16x128 .f32) (v12 : FVec F S16x128 .f32) (v14 : FVec F S16x128 .f32) (v19 : IVec S16x128 32) (v21 : IVec S16x128 32) (v22 : Vec F S16x128 .f32) (v24 : BitVec 32) (v26 : FVec F S16x128 .f32), Vec F S1x128 .f32 ← loadsP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let ⟨v46, v58, v60, v66, v69, v70⟩ : Σ' (v46 : FVec F S16x128 .f32) (v58 : FVec F S16x128 .f32) (v60 : BitVec 32) (v66 : FVec F S16x128 .f32) (v69 : Vec F S16x128 .f32), FVec F S16x128 .f32 ← k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v6 v8 v10 v12 v14 v19 v21 v22 v24 v26 v27
  let ⟨v82, v94, v96, v107, v115⟩ : Σ' (v82 : FVec F S16x128 .f32) (v94 : FVec F S16x128 .f32) (v96 : BitVec 32) (v107 : IVec S16x128 1), FVec F S16x128 .f32 ← k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v6 v8 v10 v12 v14 v19 v21 v58 v60 v66 v69 v70
  let ⟨v118, v130, v154, v157⟩ : Σ' (v118 : FVec F S16x128 .f32) (v130 : FVec F S16x128 .f32) (v154 : FVec F S16x128 .f32), IVec S16x128 1 ← k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v6 v8 v10 v12 v14 v19 v21 v94 v96 v107 v115
  let ⟨v166, v190, v193, v201⟩ : Σ' (v166 : FVec F S16x128 .f32) (v190 : FVec F S16x128 .f32) (v193 : IVec S16x128 1), FVec F S16x128 .f32 ← k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v6 v8 v10 v12 v14 v19 v21 v130 v154 v157
  let v203 : Vec F S16x128 .f32 ← Prog.lift (.load arg19 (Rect.unit (s := S16x128) ![0, 0] S16x128.size inb_S16x128_S16x128_0_0).toLoadRect (View.loadsAt_vmem h_S16x128))
  Prog.lift (.store arg19 (Rect.unit (s := S16x128) ![0, 0] S16x128.size inb_S16x128_S16x128_0_0) (k0_pay2 v166 v193 v201) Finset.univ (View.stores_vmem_bits_univ h_S16x128 rfl) (.inl rfl))
  let v206 : Vec F S16x128 .f32 ← Prog.lift (.load arg17 (Rect.unit (s := S16x128) ![0, 0] S16x128.size inb_S16x128_S16x128_0_0).toLoadRect (View.loadsAt_vmem h_S16x128))
  let v212 : Vec F S16x128 .f32 ← Prog.lift (.load arg18 (Rect.unit (s := S16x128) ![0, 0] S16x128.size inb_S16x128_S16x128_0_0).toLoadRect (View.loadsAt_vmem h_S16x128))
  let v231 : Vec F S16x128 .f32 ← Prog.lift (.load arg17 (Rect.unit (s := S16x128) ![0, 0] S16x128.size inb_S16x128_S16x128_0_0).toLoadRect (View.loadsAt_vmem h_S16x128))
  Prog.lift (.store arg17 (Rect.unit (s := S16x128) ![0, 0] S16x128.size inb_S16x128_S16x128_0_0) (k0_pay5 v46 v82 v118 v154 v190 v206) Finset.univ (View.stores_vmem_bits_univ h_S16x128 rfl) (.inl rfl))
  let v234 : Vec F S16x128 .f32 ← Prog.lift (.load arg18 (Rect.unit (s := S16x128) ![0, 0] S16x128.size inb_S16x128_S16x128_0_0).toLoadRect (View.loadsAt_vmem h_S16x128))
  Prog.lift (.store arg18 (Rect.unit (s := S16x128) ![0, 0] S16x128.size inb_S16x128_S16x128_0_0) (k0_pay6 v46 v82 v118 v154 v190 v206 v212) Finset.univ (View.stores_vmem_bits_univ h_S16x128 rfl) (.inl rfl))
  if k0_h2 : k0_cond2 i = 1#1 then do
    let v253 : Vec F S16x20 .f32 ← Prog.lift (.load arg12 (Rect.unit (s := S16x20) ![0, 0] S16x20.size inb_S16x20_S16x20_0_0).toLoadRect (View.loadsAt_vmem h_S16x20))
    Prog.lift (.store arg12 (Rect.unit (s := S16x20) ![0, 0] S16x20.size inb_S16x20_S16x20_0_0) (k0_pay8 v46 v82 v118 v154 v166 v190 v193 v201 v206 v212) Finset.univ (View.stores_vmem_bits_univ h_S16x20 rfl) (.inl rfl))
    let v264 : Vec F S1x16 .f32 ← Prog.lift (.load arg11 (Rect.unit (s := S1x16) ![0, 0] S1x16.size inb_S1x16_S1x16_0_0).toLoadRect (View.loadsAt_vmem h_S1x16))
    Prog.lift (.store arg11 (Rect.unit (s := S1x16) ![0, 0] S1x16.size inb_S1x16_S1x16_0_0) (k0_pay9 v46 v82 v118 v154 v190 v206 v212) Finset.univ (View.stores_vmem_bits_univ h_S1x16 rfl) (.inl rfl))
    pure ⟨⟩
  else do
    pure ⟨⟩
  pure ⟨⟩

set_option maxRecDepth 65536 in
/-- At the first point the body is the filling of the scratch, then the step. -/
theorem body_init (i : grid0.Coords) (arg1 : Memref sig .tc .smem S16 .i32) (harg1 : arg1.IsWhole) (arg2 : Memref sig .tc .smem S16 .f32) (harg2 : arg2.IsWhole) (arg3 : Memref sig .tc .smem S16 .f32) (harg3 : arg3.IsWhole) (arg4 : Memref sig .tc .smem S16 .f32) (harg4 : arg4.IsWhole) (arg5 : Memref sig .tc .smem S16 .f32) (harg5 : arg5.IsWhole) (arg6 : Memref sig .tc .vmem S16x12288 .fp8e4m3) (harg6 : arg6.IsWhole) (arg7 : Memref sig .tc .vmem S16x1024 .i32) (harg7 : arg7.IsWhole) (arg8 : Memref sig .tc .vmem S16x20 .i32) (harg8 : arg8.IsWhole) (arg9 : Memref sig .tc .vmem S1x640 .f32) (harg9 : arg9.IsWhole) (arg10 : Memref sig .tc .vmem S12288x640 .fp8e4m3) (harg10 : arg10.IsWhole) (arg11 : Memref sig .tc .vmem S1x16 .f32) (harg11 : arg11.IsWhole) (arg12 : Memref sig .tc .vmem S16x20 .f32) (harg12 : arg12.IsWhole) (arg13 : Memref sig .tc .vmem S16x640 .f32) (harg13 : arg13.IsWhole) (arg14 : Memref sig .tc .vmem S32x12288 .fp8e4m3) (harg14 : arg14.IsWhole) (arg15 : Memref sig .tc .vmem S4096x128 .f32) (harg15 : arg15.IsWhole) (arg16 : Memref sig .tc .vmem S4x16x128 .f32) (harg16 : arg16.IsWhole) (arg17 : Memref sig .tc .vmem S16x128 .f32) (harg17 : arg17.IsWhole) (arg18 : Memref sig .tc .vmem S16x128 .f32) (harg18 : arg18.IsWhole) (arg19 : Memref sig .tc .vmem S16x128 .f32) (harg19 : arg19.IsWhole) (hc : cond0_0 i) :
    cc0_head_penalties (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = (initP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 >>= fun _ => stepP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) := by
  show _ = (initP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19).bind (fun _ => stepP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
  rw [cc0_head_penalties_eq_skeleton]; unfold cc0_head_penalties_skel stepP
  rw [k0_part18_eq_skeleton]; unfold k0_part18_skel loadsP initP
  have hc' := hc
  unfold cond0_0 at hc'
  simp only [hc', dite_true, Prog.bind_assoc]
  rfl

set_option maxRecDepth 65536 in
/-- At every other point the body is the step. -/
theorem body_step (i : grid0.Coords) (arg1 : Memref sig .tc .smem S16 .i32) (harg1 : arg1.IsWhole) (arg2 : Memref sig .tc .smem S16 .f32) (harg2 : arg2.IsWhole) (arg3 : Memref sig .tc .smem S16 .f32) (harg3 : arg3.IsWhole) (arg4 : Memref sig .tc .smem S16 .f32) (harg4 : arg4.IsWhole) (arg5 : Memref sig .tc .smem S16 .f32) (harg5 : arg5.IsWhole) (arg6 : Memref sig .tc .vmem S16x12288 .fp8e4m3) (harg6 : arg6.IsWhole) (arg7 : Memref sig .tc .vmem S16x1024 .i32) (harg7 : arg7.IsWhole) (arg8 : Memref sig .tc .vmem S16x20 .i32) (harg8 : arg8.IsWhole) (arg9 : Memref sig .tc .vmem S1x640 .f32) (harg9 : arg9.IsWhole) (arg10 : Memref sig .tc .vmem S12288x640 .fp8e4m3) (harg10 : arg10.IsWhole) (arg11 : Memref sig .tc .vmem S1x16 .f32) (harg11 : arg11.IsWhole) (arg12 : Memref sig .tc .vmem S16x20 .f32) (harg12 : arg12.IsWhole) (arg13 : Memref sig .tc .vmem S16x640 .f32) (harg13 : arg13.IsWhole) (arg14 : Memref sig .tc .vmem S32x12288 .fp8e4m3) (harg14 : arg14.IsWhole) (arg15 : Memref sig .tc .vmem S4096x128 .f32) (harg15 : arg15.IsWhole) (arg16 : Memref sig .tc .vmem S4x16x128 .f32) (harg16 : arg16.IsWhole) (arg17 : Memref sig .tc .vmem S16x128 .f32) (harg17 : arg17.IsWhole) (arg18 : Memref sig .tc .vmem S16x128 .f32) (harg18 : arg18.IsWhole) (arg19 : Memref sig .tc .vmem S16x128 .f32) (harg19 : arg19.IsWhole) (hc : ¬cond0_0 i) :
    cc0_head_penalties (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = stepP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  rw [cc0_head_penalties_eq_skeleton]; unfold cc0_head_penalties_skel stepP
  rw [k0_part18_eq_skeleton]; unfold k0_part18_skel loadsP
  have hc' := hc
  unfold cond0_0 at hc'
  simp only [hc', dite_false, Prog.bind_assoc]

end Cert.Kernel.Gen

end
-- ==== Proof.BodyK.RunA.lean ====
module

public import proofs.«01_k».proof.Proof.BodyK.Prog

@[expose] public section

set_option maxRecDepth 16384

/-! The filling of the scratch, run. -/

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The filling of the scratch at the first point. The memrefs it only reads keep their contents; those it stores into hold the pieces written, which the run finds. -/
def initRun (c : Dev nD) (i : grid0.Coords) (arg1 : Memref sig .tc .smem S16 .i32) (harg1 : arg1.IsWhole) (arg2 : Memref sig .tc .smem S16 .f32) (harg2 : arg2.IsWhole) (arg3 : Memref sig .tc .smem S16 .f32) (harg3 : arg3.IsWhole) (arg4 : Memref sig .tc .smem S16 .f32) (harg4 : arg4.IsWhole) (arg5 : Memref sig .tc .smem S16 .f32) (harg5 : arg5.IsWhole) (arg6 : Memref sig .tc .vmem S16x12288 .fp8e4m3) (harg6 : arg6.IsWhole) (arg7 : Memref sig .tc .vmem S16x1024 .i32) (harg7 : arg7.IsWhole) (arg8 : Memref sig .tc .vmem S16x20 .i32) (harg8 : arg8.IsWhole) (arg9 : Memref sig .tc .vmem S1x640 .f32) (harg9 : arg9.IsWhole) (arg10 : Memref sig .tc .vmem S12288x640 .fp8e4m3) (harg10 : arg10.IsWhole) (arg11 : Memref sig .tc .vmem S1x16 .f32) (harg11 : arg11.IsWhole) (arg12 : Memref sig .tc .vmem S16x20 .f32) (harg12 : arg12.IsWhole) (arg13 : Memref sig .tc .vmem S16x640 .f32) (harg13 : arg13.IsWhole) (arg14 : Memref sig .tc .vmem S32x12288 .fp8e4m3) (harg14 : arg14.IsWhole) (arg15 : Memref sig .tc .vmem S4096x128 .f32) (harg15 : arg15.IsWhole) (arg16 : Memref sig .tc .vmem S4x16x128 .f32) (harg16 : arg16.IsWhole) (arg17 : Memref sig .tc .vmem S16x128 .f32) (harg17 : arg17.IsWhole) (arg18 : Memref sig .tc .vmem S16x128 .f32) (harg18 : arg18.IsWhole) (arg19 : Memref sig .tc .vmem S16x128 .f32) (harg19 : arg19.IsWhole)
    (x0 : Vec F S16 .i32) (x1 : Vec F S16 .f32) (x2 : Vec F S16 .f32) (x3 : Vec F S16 .f32) (x4 : Vec F S16 .f32) (x5 : Vec F S16x12288 .fp8e4m3) (x6 : Vec F S16x1024 .i32) :
    Σ' (LS0 : List (View.Piece (Elt F) S32x12288 .fp8e4m3)), Σ' (LS1 : List (View.Piece (Elt F) S4096x128 .f32)), Σ' (LS2 : List (View.Piece (Elt F) S4x16x128 .f32)), Σ' (LS3 : List (View.Piece (Elt F) S16x128 .f32)), Σ' (LS4 : List (View.Piece (Elt F) S16x128 .f32)), { LS5 : List (View.Piece (Elt F) S16x128 .f32) //

      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ (∃ f, arg19.view.loc (c : Thread nD τ) ↦[arg19.view.set]{fullShare} arg19.view.writes (Elt F) f LS5)) -∗ K ⟨⟩))
          ⊢ wp frame (wpE (defs₀ (F := F)) Variants.none c none) E (initP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun E K => ?run⟩
  case run =>
    unfold initP
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H14]; · iexists _; iexact H14
    isplitl [H15]; · iexists _; iexact H15
    isplitl [H16]; · iexists _; iexact H16
    isplitl [H17]; · iexists _; iexact H17
    isplitl [H18]; · iexists _; iexact H18
    iexists _; iexact H19

end Cert.Kernel.Gen

end
-- ==== Proof.BodyK.RunB.lean ====
module

public import proofs.«01_k».proof.Proof.BodyK.Prog

@[expose] public section

set_option maxRecDepth 16384

/-! The step, run at a point that is not the last. -/

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The step at a point that is not the last. The memrefs it only reads keep their contents; those it stores into hold the pieces written, which the run finds. -/
def stepRunB (c : Dev nD) (i : grid0.Coords) (arg1 : Memref sig .tc .smem S16 .i32) (harg1 : arg1.IsWhole) (arg2 : Memref sig .tc .smem S16 .f32) (harg2 : arg2.IsWhole) (arg3 : Memref sig .tc .smem S16 .f32) (harg3 : arg3.IsWhole) (arg4 : Memref sig .tc .smem S16 .f32) (harg4 : arg4.IsWhole) (arg5 : Memref sig .tc .smem S16 .f32) (harg5 : arg5.IsWhole) (arg6 : Memref sig .tc .vmem S16x12288 .fp8e4m3) (harg6 : arg6.IsWhole) (arg7 : Memref sig .tc .vmem S16x1024 .i32) (harg7 : arg7.IsWhole) (arg8 : Memref sig .tc .vmem S16x20 .i32) (harg8 : arg8.IsWhole) (arg9 : Memref sig .tc .vmem S1x640 .f32) (harg9 : arg9.IsWhole) (arg10 : Memref sig .tc .vmem S12288x640 .fp8e4m3) (harg10 : arg10.IsWhole) (arg11 : Memref sig .tc .vmem S1x16 .f32) (harg11 : arg11.IsWhole) (arg12 : Memref sig .tc .vmem S16x20 .f32) (harg12 : arg12.IsWhole) (arg13 : Memref sig .tc .vmem S16x640 .f32) (harg13 : arg13.IsWhole) (arg14 : Memref sig .tc .vmem S32x12288 .fp8e4m3) (harg14 : arg14.IsWhole) (arg15 : Memref sig .tc .vmem S4096x128 .f32) (harg15 : arg15.IsWhole) (arg16 : Memref sig .tc .vmem S4x16x128 .f32) (harg16 : arg16.IsWhole) (arg17 : Memref sig .tc .vmem S16x128 .f32) (harg17 : arg17.IsWhole) (arg18 : Memref sig .tc .vmem S16x128 .f32) (harg18 : arg18.IsWhole) (arg19 : Memref sig .tc .vmem S16x128 .f32) (harg19 : arg19.IsWhole) (hc1 : ¬cond0_1 i)
    (x7 : Vec F S16x20 .i32) (x8 : Vec F S1x640 .f32) (x9 : Vec F S12288x640 .fp8e4m3) (xs0 : Vec F S32x12288 .fp8e4m3) (xs1 : Vec F S4096x128 .f32) (xs2 : Vec F S4x16x128 .f32) (xs3 : Vec F S16x128 .f32) (xs4 : Vec F S16x128 .f32) (xs5 : Vec F S16x128 .f32) :
    Σ' (L12 : List (View.Piece (Elt F) S16x640 .f32)), Σ' (LS3 : List (View.Piece (Elt F) S16x128 .f32)), Σ' (LS4 : List (View.Piece (Elt F) S16x128 .f32)), { LS5 : List (View.Piece (Elt F) S16x128 .f32) //

      ∀ (E : Set ℕ) (K : PUnit → sProp 𝕄),
        iprop(owns (c : Thread nD τ) arg8 fullShare x7 ∗ owns (c : Thread nD τ) arg9 fullShare x8 ∗ owns (c : Thread nD τ) arg10 fullShare x9 ∗ (∃ d, owns (c : Thread nD τ) arg13 fullShare d) ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4 ∗ owns (c : Thread nD τ) arg19 fullShare xs5
            ∗ (iprop(owns (c : Thread nD τ) arg8 fullShare x7 ∗ owns (c : Thread nD τ) arg9 fullShare x8 ∗ owns (c : Thread nD τ) arg10 fullShare x9 ∗ (∃ f, arg13.view.loc (c : Thread nD τ) ↦[arg13.view.set]{fullShare} arg13.view.writes (Elt F) f L12) ∗ owns (c : Thread nD τ) arg14 fullShare xs0 ∗ owns (c : Thread nD τ) arg15 fullShare xs1 ∗ owns (c : Thread nD τ) arg16 fullShare xs2 ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ (∃ f, arg19.view.loc (c : Thread nD τ) ↦[arg19.view.set]{fullShare} arg19.view.writes (Elt F) f LS5)) -∗ K ⟨⟩))
          ⊢ wp frame (wpE (defs₀ (F := F)) Variants.none c none) E (stepP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun E K => ?run⟩
  case run =>
    unfold stepP loadsP
    simp only [k0_part19_eq_skeleton, k0_part20_eq_skeleton, k0_part21_eq_skeleton, k0_part22_eq_skeleton]
    unfold owns
    iintro ⟨⟨%f8, %hf8, H8⟩, ⟨%f9, %hf9, H9⟩, ⟨%f10, %hf10, H10⟩, ⟨%d13, %f13, -, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg8.eq_unread hf8; obtain rfl := harg9.eq_unread hf9; obtain rfl := harg10.eq_unread hf10; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := sl_exact hc1)
    sl_step
    iapply Hk
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H13]; · iexists _; iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]; · iexists _; iexact H17
    isplitl [H18]; · iexists _; iexact H18
    iexists _; iexact H19

end Cert.Kernel.Gen

end
-- ==== Proof.BodyK.RunC.lean ====
module

public import proofs.«01_k».proof.Proof.BodyK.Prog

@[expose] public section

set_option maxRecDepth 16384

/-! The step, run at the last point. -/

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The step at the last point: the results are stored. The memrefs it only reads keep their contents; those it stores into hold the pieces written, which the run finds. -/
def stepRunC (c : Dev nD) (i : grid0.Coords) (arg1 : Memref sig .tc .smem S16 .i32) (harg1 : arg1.IsWhole) (arg2 : Memref sig .tc .smem S16 .f32) (harg2 : arg2.IsWhole) (arg3 : Memref sig .tc .smem S16 .f32) (harg3 : arg3.IsWhole) (arg4 : Memref sig .tc .smem S16 .f32) (harg4 : arg4.IsWhole) (arg5 : Memref sig .tc .smem S16 .f32) (harg5 : arg5.IsWhole) (arg6 : Memref sig .tc .vmem S16x12288 .fp8e4m3) (harg6 : arg6.IsWhole) (arg7 : Memref sig .tc .vmem S16x1024 .i32) (harg7 : arg7.IsWhole) (arg8 : Memref sig .tc .vmem S16x20 .i32) (harg8 : arg8.IsWhole) (arg9 : Memref sig .tc .vmem S1x640 .f32) (harg9 : arg9.IsWhole) (arg10 : Memref sig .tc .vmem S12288x640 .fp8e4m3) (harg10 : arg10.IsWhole) (arg11 : Memref sig .tc .vmem S1x16 .f32) (harg11 : arg11.IsWhole) (arg12 : Memref sig .tc .vmem S16x20 .f32) (harg12 : arg12.IsWhole) (arg13 : Memref sig .tc .vmem S16x640 .f32) (harg13 : arg13.IsWhole) (arg14 : Memref sig .tc .vmem S32x12288 .fp8e4m3) (harg14 : arg14.IsWhole) (arg15 : Memref sig .tc .vmem S4096x128 .f32) (harg15 : arg15.IsWhole) (arg16 : Memref sig .tc .vmem S4x16x128 .f32) (harg16 : arg16.IsWhole) (arg17 : Memref sig .tc .vmem S16x128 .f32) (harg17 : arg17.IsWhole) (arg18 : Memref sig .tc .vmem S16x128 .f32) (harg18 : arg18.IsWhole) (arg19 : Memref sig .tc .vmem S16x128 .f32) (harg19 : arg19.IsWhole) (hc1 : cond0_1 i)
    (x7 : Vec F S16x20 .i32) (x8 : Vec F S1x640 .f32) (x9 : Vec F S12288x640 .fp8e4m3) (xs0 : Vec F S32x12288 .fp8e4m3) (xs1 : Vec F S4096x128 .f32) (xs2 : Vec F S4x16x128 .f32) (xs3 : Vec F S16x128 .f32) (xs4 : Vec F S16x128 .f32) (xs5 : Vec F S16x128 .f32) :
    Σ' (L10 : List (View.Piece (Elt F) S1x16 .f32)), Σ' (L11 : List (View.Piece (Elt F) S16x20 .f32)), Σ' (L12 : List (View.Piece (Elt F) S16x640 .f32)), Σ' (LS3 : List (View.Piece (Elt F) S16x128 .f32)), Σ' (LS4 : List (View.Piece (Elt F) S16x128 .f32)), { LS5 : List (View.Piece (Elt F) S16x128 .f32) //

      ∀ (E : Set ℕ) (K : PUnit → sProp 𝕄),
        iprop(owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1 ∗ owns (c : Thread nD τ) arg16 fullShare xs2 ∗ owns (c : Thread nD τ) arg17 fullShare xs3 ∗ owns (c : Thread nD τ) arg18 fullShare xs4 ∗ owns (c : Thread nD τ) arg19 fullShare xs5
            ∗ (iprop(owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ owns (c : Thread nD τ) arg14 fullShare xs0 ∗ owns (c : Thread nD τ) arg15 fullShare xs1 ∗ owns (c : Thread nD τ) arg16 fullShare xs2 ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ (∃ f, arg19.view.loc (c : Thread nD τ) ↦[arg19.view.set]{fullShare} arg19.view.writes (Elt F) f LS5)) -∗ K ⟨⟩))
          ⊢ wp frame (wpE (defs₀ (F := F)) Variants.none c none) E (stepP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun E K => ?run⟩
  case run =>
    unfold stepP loadsP
    simp only [k0_part19_eq_skeleton, k0_part20_eq_skeleton, k0_part21_eq_skeleton, k0_part22_eq_skeleton]
    unfold owns
    iintro ⟨⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg8.eq_unread hf8; obtain rfl := harg9.eq_unread hf9; obtain rfl := harg10.eq_unread hf10; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := sl_exact hc1)
    sl_step
    iapply Hk
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexists _; iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]; · iexists _; iexact H17
    isplitl [H18]; · iexists _; iexact H18
    iexists _; iexact H19

end Cert.Kernel.Gen

end
-- ==== Proof.BodyK.State.lean ====
module

public import proofs.«01_k».proof.Proof.BodyK.RunA
public import proofs.«01_k».proof.Proof.BodyK.RunB
public import proofs.«01_k».proof.Proof.BodyK.RunC
public import Idealize.ShloMosaic.Lib.Pipeline.FrameBody
public import Idealize.ShloMosaic.Lib.Ring
public import Idealize.ShloMosaic.Lib.Claim

@[expose] public section

set_option maxRecDepth 16384

/-! What the scratch holds before and after each point, what each window's buffer holds after it, the proof data of the
pipeline, the body's obligation, the run and the frame. -/

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A memref whose pieces cover it is owned at what the pieces read, whichever view reads them. -/
theorem owns_of_cover {sp sp' : Space} {s : Shape} {e : EltTy} (c : Dev nD) (mm : Memref sig .tc sp s e) (v : View sig .tc sp' s e)
    (L : List (View.Piece (Elt F) s e)) (h : ∀ y, ∃ pc ∈ L, y ∈ pc.1.set) :
    (iprop(∃ f, mm.view.loc (c : Thread nD τ) ↦[mm.view.set]{fullShare} mm.view.writes (Elt F) f L) : sProp 𝕄)
      ⊢ owns (c : Thread nD τ) mm fullShare (v.read (Elt F) (v.writes (Elt F) v.junk L)) := by
  iintro ⟨%g, H⟩
  unfold owns; iexists _; isplitr
  swap; · iexact H
  ipureintro; exact View.read_writes_of_cover _ _ _ _ _ h

/-- The six scratch buffers' contents. -/
structure St (F : FTy → Type) [FloatOps F] where
  s0 : Vec F S32x12288 .fp8e4m3
  s1 : Vec F S4096x128 .f32
  s2 : Vec F S4x16x128 .f32
  s3 : Vec F S16x128 .f32
  s4 : Vec F S16x128 .f32
  s5 : Vec F S16x128 .f32

/-- The filling's run at point `t`, on the pipeline's own memrefs. -/
abbrev initAt (c : Dev nD) (t : Fin cfg0.N) :=
  initRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t)

/-- The step's run at point `t` from scratch `s`, when `t` is not the last. -/
abbrev stepBAt (c : Dev nD) (t : Fin cfg0.N) (h : ¬cond0_1 (grid0.coords t)) (s : St F) :=
  stepRunB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) h (iblk m c 7 t) (iblk m c 8 t) (iblk m c 9 t) s.s0 s.s1 s.s2 s.s3 s.s4 s.s5

/-- The step's run at the last point from scratch `s`. -/
abbrev stepCAt (c : Dev nD) (t : Fin cfg0.N) (h : cond0_1 (grid0.coords t)) (s : St F) :=
  stepRunC (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) h (iblk m c 7 t) (iblk m c 8 t) (iblk m c 9 t) s.s0 s.s1 s.s2 s.s3 s.s4 s.s5

/-! ## The pieces cover the buffers -/

theorem icov0 (c : Dev nD) (t : Fin cfg0.N) (y : S32x12288.Idx) : ∃ pc ∈ (initAt m c t).1, y ∈ pc.1.set :=
  View.cover_of_tiledL (initAt m c t).1 S32x12288.size (by sl_kernel_rfl) y
theorem icov2 (c : Dev nD) (t : Fin cfg0.N) (y : S4x16x128.Idx) : ∃ pc ∈ (initAt m c t).2.2.1, y ∈ pc.1.set :=
  View.cover_of_tiledL (initAt m c t).2.2.1 S1x16x128.size (by sl_kernel_rfl) y
theorem icov3 (c : Dev nD) (t : Fin cfg0.N) (y : S16x128.Idx) : ∃ pc ∈ (initAt m c t).2.2.2.1, y ∈ pc.1.set :=
  View.cover_of_tiledL (initAt m c t).2.2.2.1 S16x128.size (by sl_kernel_rfl) y
theorem icov4 (c : Dev nD) (t : Fin cfg0.N) (y : S16x128.Idx) : ∃ pc ∈ (initAt m c t).2.2.2.2.1, y ∈ pc.1.set :=
  View.cover_of_tiledL (initAt m c t).2.2.2.2.1 S16x128.size (by sl_kernel_rfl) y
theorem icov5 (c : Dev nD) (t : Fin cfg0.N) (y : S16x128.Idx) : ∃ pc ∈ (initAt m c t).2.2.2.2.2.1, y ∈ pc.1.set :=
  View.cover_of_tiledL (initAt m c t).2.2.2.2.2.1 S16x128.size (by sl_kernel_rfl) y
theorem bcov12 (c : Dev nD) (t : Fin cfg0.N) (h : ¬cond0_1 (grid0.coords t)) (s : St F) (y : S16x640.Idx) : ∃ pc ∈ (stepBAt m c t h s).1, y ∈ pc.1.set :=
  View.cover_of_tiledL (stepBAt m c t h s).1 S16x128.size (by sl_kernel_rfl) y
theorem bcovS3 (c : Dev nD) (t : Fin cfg0.N) (h : ¬cond0_1 (grid0.coords t)) (s : St F) (y : S16x128.Idx) : ∃ pc ∈ (stepBAt m c t h s).2.1, y ∈ pc.1.set :=
  View.cover_of_tiledL (stepBAt m c t h s).2.1 S16x128.size (by sl_kernel_rfl) y
theorem bcovS4 (c : Dev nD) (t : Fin cfg0.N) (h : ¬cond0_1 (grid0.coords t)) (s : St F) (y : S16x128.Idx) : ∃ pc ∈ (stepBAt m c t h s).2.2.1, y ∈ pc.1.set :=
  View.cover_of_tiledL (stepBAt m c t h s).2.2.1 S16x128.size (by sl_kernel_rfl) y
theorem bcovS5 (c : Dev nD) (t : Fin cfg0.N) (h : ¬cond0_1 (grid0.coords t)) (s : St F) (y : S16x128.Idx) : ∃ pc ∈ (stepBAt m c t h s).2.2.2.1, y ∈ pc.1.set :=
  View.cover_of_tiledL (stepBAt m c t h s).2.2.2.1 S16x128.size (by sl_kernel_rfl) y
theorem ccov10 (c : Dev nD) (t : Fin cfg0.N) (h : cond0_1 (grid0.coords t)) (s : St F) (y : S1x16.Idx) : ∃ pc ∈ (stepCAt m c t h s).1, y ∈ pc.1.set :=
  View.cover_of_tiledL (stepCAt m c t h s).1 S1x16.size (by sl_kernel_rfl) y
theorem ccov11 (c : Dev nD) (t : Fin cfg0.N) (h : cond0_1 (grid0.coords t)) (s : St F) (y : S16x20.Idx) : ∃ pc ∈ (stepCAt m c t h s).2.1, y ∈ pc.1.set :=
  View.cover_of_tiledL (stepCAt m c t h s).2.1 S16x20.size (by sl_kernel_rfl) y
theorem ccov12 (c : Dev nD) (t : Fin cfg0.N) (h : cond0_1 (grid0.coords t)) (s : St F) (y : S16x640.Idx) : ∃ pc ∈ (stepCAt m c t h s).2.2.1, y ∈ pc.1.set :=
  View.cover_of_tiledL (stepCAt m c t h s).2.2.1 S16x128.size (by sl_kernel_rfl) y
theorem ccovS3 (c : Dev nD) (t : Fin cfg0.N) (h : cond0_1 (grid0.coords t)) (s : St F) (y : S16x128.Idx) : ∃ pc ∈ (stepCAt m c t h s).2.2.2.1, y ∈ pc.1.set :=
  View.cover_of_tiledL (stepCAt m c t h s).2.2.2.1 S16x128.size (by sl_kernel_rfl) y
theorem ccovS4 (c : Dev nD) (t : Fin cfg0.N) (h : cond0_1 (grid0.coords t)) (s : St F) (y : S16x128.Idx) : ∃ pc ∈ (stepCAt m c t h s).2.2.2.2.1, y ∈ pc.1.set :=
  View.cover_of_tiledL (stepCAt m c t h s).2.2.2.2.1 S16x128.size (by sl_kernel_rfl) y
theorem ccovS5 (c : Dev nD) (t : Fin cfg0.N) (h : cond0_1 (grid0.coords t)) (s : St F) (y : S16x128.Idx) : ∃ pc ∈ (stepCAt m c t h s).2.2.2.2.2.1, y ∈ pc.1.set :=
  View.cover_of_tiledL (stepCAt m c t h s).2.2.2.2.2.1 S16x128.size (by sl_kernel_rfl) y

/-- The sixteen rows' histograms interleave: row `16 * h + b` of the counts is row `h` of piece `b`. -/
theorem icov1 (c : Dev nD) (t : Fin cfg0.N) (y : S4096x128.Idx) : ∃ pc ∈ (initAt m c t).2.1, y ∈ pc.1.set := by
  have h0 : (y 0).val < 4096 := (y 0).isLt
  have h1 : (y 1).val < 128 := (y 1).isLt
  have key : ∀ b : Fin 16, ∃ pc ∈ (initAt m c t).2.1, ∃ hb : _, pc.1 = (⟨⟨![b.val, 0], S256x128.size, ![16, 1], hb⟩, spos_16_1⟩ : Rect S4096x128) := by
    intro b
    fin_cases b
    · exact ⟨_, List.mem_of_getElem (i := 15) (h := by exact (by decide : 15 < 16)) rfl, _, rfl⟩
    · exact ⟨_, List.mem_of_getElem (i := 14) (h := by exact (by decide : 14 < 16)) rfl, _, rfl⟩
    · exact ⟨_, List.mem_of_getElem (i := 13) (h := by exact (by decide : 13 < 16)) rfl, _, rfl⟩
    · exact ⟨_, List.mem_of_getElem (i := 12) (h := by exact (by decide : 12 < 16)) rfl, _, rfl⟩
    · exact ⟨_, List.mem_of_getElem (i := 11) (h := by exact (by decide : 11 < 16)) rfl, _, rfl⟩
    · exact ⟨_, List.mem_of_getElem (i := 10) (h := by exact (by decide : 10 < 16)) rfl, _, rfl⟩
    · exact ⟨_, List.mem_of_getElem (i := 9) (h := by exact (by decide : 9 < 16)) rfl, _, rfl⟩
    · exact ⟨_, List.mem_of_getElem (i := 8) (h := by exact (by decide : 8 < 16)) rfl, _, rfl⟩
    · exact ⟨_, List.mem_of_getElem (i := 7) (h := by exact (by decide : 7 < 16)) rfl, _, rfl⟩
    · exact ⟨_, List.mem_of_getElem (i := 6) (h := by exact (by decide : 6 < 16)) rfl, _, rfl⟩
    · exact ⟨_, List.mem_of_getElem (i := 5) (h := by exact (by decide : 5 < 16)) rfl, _, rfl⟩
    · exact ⟨_, List.mem_of_getElem (i := 4) (h := by exact (by decide : 4 < 16)) rfl, _, rfl⟩
    · exact ⟨_, List.mem_of_getElem (i := 3) (h := by exact (by decide : 3 < 16)) rfl, _, rfl⟩
    · exact ⟨_, List.mem_of_getElem (i := 2) (h := by exact (by decide : 2 < 16)) rfl, _, rfl⟩
    · exact ⟨_, List.mem_of_getElem (i := 1) (h := by exact (by decide : 1 < 16)) rfl, _, rfl⟩
    · exact ⟨_, List.mem_of_getElem (i := 0) (h := by exact (by decide : 0 < 16)) rfl, _, rfl⟩
  obtain ⟨pc, hm, hb, e⟩ := key ⟨(y 0).val % 16, Nat.mod_lt _ (by decide)⟩
  refine ⟨pc, hm, ?_⟩
  rw [e]
  refine (LoadRect.mem_set _).mpr ?_
  intro a
  fin_cases a
  · exact ⟨(y 0).val / 16, show (y 0).val / 16 < 256 by omega, show (y 0).val = (y 0).val % 16 + 16 * ((y 0).val / 16) by omega⟩
  · exact ⟨(y 1).val, show (y 1).val < 128 from h1, show (y 1).val = 0 + 1 * (y 1).val by omega⟩

/-! ## The scratch, point by point -/

/-- The scratch after the filling. -/
def initSt (c : Dev nD) (t : Fin cfg0.N) : St F where
  s0 := VS0_0.read (Elt F) (VS0_0.writes (Elt F) VS0_0.junk ((initAt m c t).1))
  s1 := VS0_1.read (Elt F) (VS0_1.writes (Elt F) VS0_1.junk ((initAt m c t).2.1))
  s2 := VS0_2.read (Elt F) (VS0_2.writes (Elt F) VS0_2.junk ((initAt m c t).2.2.1))
  s3 := VS0_3.read (Elt F) (VS0_3.writes (Elt F) VS0_3.junk ((initAt m c t).2.2.2.1))
  s4 := VS0_4.read (Elt F) (VS0_4.writes (Elt F) VS0_4.junk ((initAt m c t).2.2.2.2.1))
  s5 := VS0_5.read (Elt F) (VS0_5.writes (Elt F) VS0_5.junk ((initAt m c t).2.2.2.2.2.1))

theorem own_init0 (c : Dev nD) (t : Fin cfg0.N) :
    (iprop(∃ f, scM0_0.view.loc (c : Thread nD τ) ↦[scM0_0.view.set]{fullShare} scM0_0.view.writes (Elt F) f (initAt m c t).1) : sProp 𝕄)
      ⊢ owns (c : Thread nD τ) scM0_0 fullShare (initSt m c t).s0 := by
  dsimp only [initSt]
  exact owns_of_cover c scM0_0 VS0_0 _ (icov0 m c t)

theorem own_init1 (c : Dev nD) (t : Fin cfg0.N) :
    (iprop(∃ f, scM0_1.view.loc (c : Thread nD τ) ↦[scM0_1.view.set]{fullShare} scM0_1.view.writes (Elt F) f (initAt m c t).2.1) : sProp 𝕄)
      ⊢ owns (c : Thread nD τ) scM0_1 fullShare (initSt m c t).s1 := by
  dsimp only [initSt]
  exact owns_of_cover c scM0_1 VS0_1 _ (icov1 m c t)

theorem own_init2 (c : Dev nD) (t : Fin cfg0.N) :
    (iprop(∃ f, scM0_2.view.loc (c : Thread nD τ) ↦[scM0_2.view.set]{fullShare} scM0_2.view.writes (Elt F) f (initAt m c t).2.2.1) : sProp 𝕄)
      ⊢ owns (c : Thread nD τ) scM0_2 fullShare (initSt m c t).s2 := by
  dsimp only [initSt]
  exact owns_of_cover c scM0_2 VS0_2 _ (icov2 m c t)

theorem own_init3 (c : Dev nD) (t : Fin cfg0.N) :
    (iprop(∃ f, scM0_3.view.loc (c : Thread nD τ) ↦[scM0_3.view.set]{fullShare} scM0_3.view.writes (Elt F) f (initAt m c t).2.2.2.1) : sProp 𝕄)
      ⊢ owns (c : Thread nD τ) scM0_3 fullShare (initSt m c t).s3 := by
  dsimp only [initSt]
  exact owns_of_cover c scM0_3 VS0_3 _ (icov3 m c t)

theorem own_init4 (c : Dev nD) (t : Fin cfg0.N) :
    (iprop(∃ f, scM0_4.view.loc (c : Thread nD τ) ↦[scM0_4.view.set]{fullShare} scM0_4.view.writes (Elt F) f (initAt m c t).2.2.2.2.1) : sProp 𝕄)
      ⊢ owns (c : Thread nD τ) scM0_4 fullShare (initSt m c t).s4 := by
  dsimp only [initSt]
  exact owns_of_cover c scM0_4 VS0_4 _ (icov4 m c t)

theorem own_init5 (c : Dev nD) (t : Fin cfg0.N) :
    (iprop(∃ f, scM0_5.view.loc (c : Thread nD τ) ↦[scM0_5.view.set]{fullShare} scM0_5.view.writes (Elt F) f (initAt m c t).2.2.2.2.2.1) : sProp 𝕄)
      ⊢ owns (c : Thread nD τ) scM0_5 fullShare (initSt m c t).s5 := by
  dsimp only [initSt]
  exact owns_of_cover c scM0_5 VS0_5 _ (icov5 m c t)

/-- The scratch after the step at a point that is not the last, from scratch `s`: three of the six buffers change. -/
def stepStB (c : Dev nD) (t : Fin cfg0.N) (h : ¬cond0_1 (grid0.coords t)) (s : St F) : St F where
  s0 := s.s0
  s1 := s.s1
  s2 := s.s2
  s3 := VS0_3.read (Elt F) (VS0_3.writes (Elt F) VS0_3.junk ((stepBAt m c t h s).2.1))
  s4 := VS0_4.read (Elt F) (VS0_4.writes (Elt F) VS0_4.junk ((stepBAt m c t h s).2.2.1))
  s5 := VS0_5.read (Elt F) (VS0_5.writes (Elt F) VS0_5.junk ((stepBAt m c t h s).2.2.2.1))

/-- The scratch after the step at the last point, from scratch `s`. -/
def stepStC (c : Dev nD) (t : Fin cfg0.N) (h : cond0_1 (grid0.coords t)) (s : St F) : St F where
  s0 := s.s0
  s1 := s.s1
  s2 := s.s2
  s3 := VS0_3.read (Elt F) (VS0_3.writes (Elt F) VS0_3.junk ((stepCAt m c t h s).2.2.2.1))
  s4 := VS0_4.read (Elt F) (VS0_4.writes (Elt F) VS0_4.junk ((stepCAt m c t h s).2.2.2.2.1))
  s5 := VS0_5.read (Elt F) (VS0_5.writes (Elt F) VS0_5.junk ((stepCAt m c t h s).2.2.2.2.2.1))

open Classical in
/-- The scratch after the step at point `t`, from scratch `s`. -/
def stepSt (c : Dev nD) (t : Fin cfg0.N) (s : St F) : St F :=
  if h : cond0_1 (grid0.coords t) then stepStC m c t h s else stepStB m c t h s

theorem stepSt_C (c : Dev nD) (t : Fin cfg0.N) (h : cond0_1 (grid0.coords t)) (s : St F) : stepSt m c t s = stepStC m c t h s := dif_pos h

theorem stepSt_B (c : Dev nD) (t : Fin cfg0.N) (h : ¬cond0_1 (grid0.coords t)) (s : St F) : stepSt m c t s = stepStB m c t h s := dif_neg h

/-- The scratch the step at point `n` starts from: at the first point after the filling. -/
def stB (c : Dev nD) : (n : ℕ) → n < cfg0.N → St F
  | 0, h => initSt m c ⟨0, h⟩
  | n + 1, h => stepSt m c ⟨n, Nat.lt_of_succ_lt h⟩ (stB c n (Nat.lt_of_succ_lt h))

/-- The scratch after point `n`. -/
def stA (c : Dev nD) (n : ℕ) (h : n < cfg0.N) : St F := stepSt m c ⟨n, h⟩ (stB m c n h)

theorem stB_zero (c : Dev nD) (t : Fin cfg0.N) (h : t.val = 0) : stB m c t.val t.isLt = initSt m c t := by
  obtain ⟨n, hn⟩ := t; simp only at h; subst h; rfl

theorem stB_pos (c : Dev nD) (t : Fin cfg0.N) (h : t.val ≠ 0) : stB m c t.val t.isLt = stA m c (t.val - 1) (by have := t.isLt; omega) := by
  obtain ⟨n, hn⟩ := t
  cases n with
  | zero => exact absurd rfl h
  | succ n => rfl

open Classical in
/-- What the body leaves in the block of logits at point `t`. -/
def out12 (c : Dev nD) (t : Fin cfg0.N) : Vec F S16x640 .f32 :=
  if h : cond0_1 (grid0.coords t) then VO0_12.read (Elt F) (VO0_12.writes (Elt F) VO0_12.junk ((stepCAt m c t h (stB m c t.val t.isLt)).2.2.1)) else VO0_12.read (Elt F) (VO0_12.writes (Elt F) VO0_12.junk ((stepBAt m c t h (stB m c t.val t.isLt)).1))

open Classical in
/-- What the body leaves in the block of the logsumexps at the last point. -/
def out10 (c : Dev nD) (t : Fin cfg0.N) : Vec F S1x16 .f32 :=
  if h : cond0_1 (grid0.coords t) then VO0_10.read (Elt F) (VO0_10.writes (Elt F) VO0_10.junk ((stepCAt m c t h (stB m c t.val t.isLt)).1)) else VO0_10.read (Elt F) VO0_10.junk

open Classical in
/-- What the body leaves in the block of the candidates at the last point. -/
def out11 (c : Dev nD) (t : Fin cfg0.N) : Vec F S16x20 .f32 :=
  if h : cond0_1 (grid0.coords t) then VO0_11.read (Elt F) (VO0_11.writes (Elt F) VO0_11.junk ((stepCAt m c t h (stB m c t.val t.isLt)).2.1)) else VO0_11.read (Elt F) VO0_11.junk

theorem out12_B (c : Dev nD) (t : Fin cfg0.N) (h : ¬cond0_1 (grid0.coords t)) :
    out12 m c t = VO0_12.read (Elt F) (VO0_12.writes (Elt F) VO0_12.junk ((stepBAt m c t h (stB m c t.val t.isLt)).1)) := dif_neg h

theorem out10_C (c : Dev nD) (t : Fin cfg0.N) (h : cond0_1 (grid0.coords t)) :
    out10 m c t = VO0_10.read (Elt F) (VO0_10.writes (Elt F) VO0_10.junk ((stepCAt m c t h (stB m c t.val t.isLt)).1)) := dif_pos h

theorem out11_C (c : Dev nD) (t : Fin cfg0.N) (h : cond0_1 (grid0.coords t)) :
    out11 m c t = VO0_11.read (Elt F) (VO0_11.writes (Elt F) VO0_11.junk ((stepCAt m c t h (stB m c t.val t.isLt)).2.1)) := dif_pos h

theorem out12_C (c : Dev nD) (t : Fin cfg0.N) (h : cond0_1 (grid0.coords t)) :
    out12 m c t = VO0_12.read (Elt F) (VO0_12.writes (Elt F) VO0_12.junk ((stepCAt m c t h (stB m c t.val t.isLt)).2.2.1)) := dif_pos h

/-! ## The region's invariant and the proof data -/

/-- The six scratch buffers owned at `s`, the generator register at some state. -/
def owned (c : Dev nD) (s : St F) : sProp 𝕄 :=
  iprop(iprop(owns (c : Thread nD τ) scM0_0 fullShare s.s0 ∗ owns (c : Thread nD τ) scM0_1 fullShare s.s1 ∗ owns (c : Thread nD τ) scM0_2 fullShare s.s2 ∗ owns (c : Thread nD τ) scM0_3 fullShare s.s3 ∗ owns (c : Thread nD τ) scM0_4 fullShare s.s4 ∗ owns (c : Thread nD τ) scM0_5 fullShare s.s5) ∗ (∃ r, prngReg c r))

/-- Before the first point the scratch is at anything; after point `n` at `stA`. -/
def PhiS (c : Dev nD) : (n : ℕ) → n ≤ cfg0.N → sProp 𝕄
  | 0, _ => Pipeline.ΦA spec0 c
  | n + 1, hn => owned c (stA m c n hn)

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) : PhiS m c n h = owned c (stA m c (n - 1) (by omega)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 m c t
    | ⟨11, _⟩ => out11 m c t
    | ⟨12, _⟩ => out12 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out10 m c t := by dsimp only [dats]
theorem after0_11 (c : Dev nD) (t : Fin cfg0.N) : (dats m 0 c).after 11 t = out11 m c t := by dsimp only [dats]
theorem after0_12 (c : Dev nD) (t : Fin cfg0.N) : (dats m 0 c).after 12 t = out12 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 3200000 in
theorem sound_first (c : Dev nD) (t : Fin cfg0.N) (h0 : cond0_0 (grid0.coords t)) (h1 : ¬cond0_1 (grid0.coords t)) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = owned c (stA m c t.val t.isLt) from rfl]
  have e0 : (dats m 0 c).leavesExact 0 t = owns (c : Thread nD τ) (ms0_0 t) fullShare (iblk m c 0 t) := by
    unfold Dat.leavesExact; rw [liveAt0_0 t, after0_0]
  have e1 : (dats m 0 c).leavesExact 1 t = owns (c : Thread nD τ) (ms0_1 t) fullShare (iblk m c 1 t) := by
    unfold Dat.leavesExact; rw [liveAt0_1 t, after0_1]
  have e2 : (dats m 0 c).leavesExact 2 t = owns (c : Thread nD τ) (ms0_2 t) fullShare (iblk m c 2 t) := by
    unfold Dat.leavesExact; rw [liveAt0_2 t, after0_2]
  have e3 : (dats m 0 c).leavesExact 3 t = owns (c : Thread nD τ) (ms0_3 t) fullShare (iblk m c 3 t) := by
    unfold Dat.leavesExact; rw [liveAt0_3 t, after0_3]
  have e4 : (dats m 0 c).leavesExact 4 t = owns (c : Thread nD τ) (ms0_4 t) fullShare (iblk m c 4 t) := by
    unfold Dat.leavesExact; rw [liveAt0_4 t, after0_4]
  have e5 : (dats m 0 c).leavesExact 5 t = owns (c : Thread nD τ) (ms0_5 t) fullShare (iblk m c 5 t) := by
    unfold Dat.leavesExact; rw [liveAt0_5 t, after0_5]
  have e6 : (dats m 0 c).leavesExact 6 t = owns (c : Thread nD τ) (ms0_6 t) fullShare (iblk m c 6 t) := by
    unfold Dat.leavesExact; rw [liveAt0_6 t, after0_6]
  have e7 : (dats m 0 c).leavesExact 7 t = owns (c : Thread nD τ) (ms0_7 t) fullShare (iblk m c 7 t) := by
    unfold Dat.leavesExact; rw [liveAt0_7 t, after0_7]
  have e8 : (dats m 0 c).leavesExact 8 t = owns (c : Thread nD τ) (ms0_8 t) fullShare (iblk m c 8 t) := by
    unfold Dat.leavesExact; rw [liveAt0_8 t, after0_8]
  have e9 : (dats m 0 c).leavesExact 9 t = owns (c : Thread nD τ) (ms0_9 t) fullShare (iblk m c 9 t) := by
    unfold Dat.leavesExact; rw [liveAt0_9 t, after0_9]
  have e12 : (dats m 0 c).leavesExact 12 t = owns (c : Thread nD τ) (ms0_12 t) fullShare (out12 m c t) := by
    unfold Dat.leavesExact; rw [liveAt0_12 t, after0_12]
  have e10 := Dat.leavesExact_idle (dats m 0 c) 10 t (idleAt0_10_A t h0 h1) (noFlush0_10_A t h0 h1)
  have e11 := Dat.leavesExact_idle (dats m 0 c) 11 t (idleAt0_11_A t h0 h1) (noFlush0_11_A t h0 h1)
  rw [e0, e1, e2, e3, e4, e5, e6, e7, e8, e9, e10, e11, e12]
  rw [PhiS_castSucc m c t, PhiS_zero m c _ _ hz, PhiA0_eq]
  rw [out12_B m c t h1]
  unfold owned stA
  rw [stepSt_B m c t h1, stB_zero m c t hz]
  dsimp only [stepStB]
  rw [body_init _ _ _ _ _ _ _ _ _ _ _ _ _ _ _ _ _ _ _ _ _ _ _ _ _ _ _ _ _ _ _ _ _ _ _ _ _ _ _ h0, wp_bind]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((initAt m c t).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  iapply ((stepBAt m c t h1 (initSt m c t)).2.2.2.2 Set.univ _)
  isplitl [H7]; · iexact H7
  isplitl [H8]; · iexact H8
  isplitl [H9]; · iexact H9
  isplitl [H12]; · iexists _; iexact H12
  isplitl [HS0]; · iapply (own_init0 m c t); iexact HS0
  isplitl [HS1]; · iapply (own_init1 m c t); iexact HS1
  isplitl [HS2]; · iapply (own_init2 m c t); iexact HS2
  isplitl [HS3]; · iapply (own_init3 m c t); iexact HS3
  isplitl [HS4]; · iapply (own_init4 m c t); iexact HS4
  isplitl [HS5]; · iapply (own_init5 m c t); iexact HS5
  iintro ⟨H7, H8, H9, H12, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iapply (owns_of_cover c _ VS0_3 _ (bcovS3 m c t h1 (initSt m c t))); iexact HS3
      isplitl [HS4]; · iapply (owns_of_cover c _ VS0_4 _ (bcovS4 m c t h1 (initSt m c t))); iexact HS4
      iapply (owns_of_cover c _ VS0_5 _ (bcovS5 m c t h1 (initSt m c t))); iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iapply (owns_of_cover c _ VO0_12 _ (bcov12 m c t h1 (initSt m c t))); iexact H12

set_option maxHeartbeats 3200000 in
theorem sound_mid (c : Dev nD) (t : Fin cfg0.N) (h0 : ¬cond0_0 (grid0.coords t)) (h1 : ¬cond0_1 (grid0.coords t)) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = owned c (stA m c t.val t.isLt) from rfl]
  have e0 : (dats m 0 c).leavesExact 0 t = owns (c : Thread nD τ) (ms0_0 t) fullShare (iblk m c 0 t) := by
    unfold Dat.leavesExact; rw [liveAt0_0 t, after0_0]
  have e1 : (dats m 0 c).leavesExact 1 t = owns (c : Thread nD τ) (ms0_1 t) fullShare (iblk m c 1 t) := by
    unfold Dat.leavesExact; rw [liveAt0_1 t, after0_1]
  have e2 : (dats m 0 c).leavesExact 2 t = owns (c : Thread nD τ) (ms0_2 t) fullShare (iblk m c 2 t) := by
    unfold Dat.leavesExact; rw [liveAt0_2 t, after0_2]
  have e3 : (dats m 0 c).leavesExact 3 t = owns (c : Thread nD τ) (ms0_3 t) fullShare (iblk m c 3 t) := by
    unfold Dat.leavesExact; rw [liveAt0_3 t, after0_3]
  have e4 : (dats m 0 c).leavesExact 4 t = owns (c : Thread nD τ) (ms0_4 t) fullShare (iblk m c 4 t) := by
    unfold Dat.leavesExact; rw [liveAt0_4 t, after0_4]
  have e5 : (dats m 0 c).leavesExact 5 t = owns (c : Thread nD τ) (ms0_5 t) fullShare (iblk m c 5 t) := by
    unfold Dat.leavesExact; rw [liveAt0_5 t, after0_5]
  have e6 : (dats m 0 c).leavesExact 6 t = owns (c : Thread nD τ) (ms0_6 t) fullShare (iblk m c 6 t) := by
    unfold Dat.leavesExact; rw [liveAt0_6 t, after0_6]
  have e7 : (dats m 0 c).leavesExact 7 t = owns (c : Thread nD τ) (ms0_7 t) fullShare (iblk m c 7 t) := by
    unfold Dat.leavesExact; rw [liveAt0_7 t, after0_7]
  have e8 : (dats m 0 c).leavesExact 8 t = owns (c : Thread nD τ) (ms0_8 t) fullShare (iblk m c 8 t) := by
    unfold Dat.leavesExact; rw [liveAt0_8 t, after0_8]
  have e9 : (dats m 0 c).leavesExact 9 t = owns (c : Thread nD τ) (ms0_9 t) fullShare (iblk m c 9 t) := by
    unfold Dat.leavesExact; rw [liveAt0_9 t, after0_9]
  have e12 : (dats m 0 c).leavesExact 12 t = owns (c : Thread nD τ) (ms0_12 t) fullShare (out12 m c t) := by
    unfold Dat.leavesExact; rw [liveAt0_12 t, after0_12]
  have e10 := Dat.leavesExact_idle (dats m 0 c) 10 t (idleAt0_10_B t h0 h1) (noFlush0_10_B t h0 h1)
  have e11 := Dat.leavesExact_idle (dats m 0 c) 11 t (idleAt0_11_B t h0 h1) (noFlush0_11_B t h0 h1)
  rw [e0, e1, e2, e3, e4, e5, e6, e7, e8, e9, e10, e11, e12]
  rw [PhiS_castSucc m c t, PhiS_pos m c _ _ hz, ← stB_pos m c t hz]
  rw [out12_B m c t h1]
  unfold owned
  rw [show stA m c t.val t.isLt = stepStB m c t h1 (stB m c t.val t.isLt) from stepSt_B m c t h1 _]
  dsimp only [stepStB]
  rw [body_step _ _ _ _ _ _ _ _ _ _ _ _ _ _ _ _ _ _ _ _ _ _ _ _ _ _ _ _ _ _ _ _ _ _ _ _ _ _ _ h0]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((stepBAt m c t h1 (stB m c t.val t.isLt)).2.2.2.2 Set.univ _)
  isplitl [H7]; · iexact H7
  isplitl [H8]; · iexact H8
  isplitl [H9]; · iexact H9
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  iintro ⟨H7, H8, H9, H12, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iapply (owns_of_cover c _ VS0_3 _ (bcovS3 m c t h1 (stB m c t.val t.isLt))); iexact HS3
      isplitl [HS4]; · iapply (owns_of_cover c _ VS0_4 _ (bcovS4 m c t h1 (stB m c t.val t.isLt))); iexact HS4
      iapply (owns_of_cover c _ VS0_5 _ (bcovS5 m c t h1 (stB m c t.val t.isLt))); iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iapply (owns_of_cover c _ VO0_12 _ (bcov12 m c t h1 (stB m c t.val t.isLt))); iexact H12

set_option maxHeartbeats 3200000 in
theorem sound_last (c : Dev nD) (t : Fin cfg0.N) (h0 : ¬cond0_0 (grid0.coords t)) (h1 : cond0_1 (grid0.coords t)) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = owned c (stA m c t.val t.isLt) from rfl]
  have e0 : (dats m 0 c).leavesExact 0 t = owns (c : Thread nD τ) (ms0_0 t) fullShare (iblk m c 0 t) := by
    unfold Dat.leavesExact; rw [liveAt0_0 t, after0_0]
  have e1 : (dats m 0 c).leavesExact 1 t = owns (c : Thread nD τ) (ms0_1 t) fullShare (iblk m c 1 t) := by
    unfold Dat.leavesExact; rw [liveAt0_1 t, after0_1]
  have e2 : (dats m 0 c).leavesExact 2 t = owns (c : Thread nD τ) (ms0_2 t) fullShare (iblk m c 2 t) := by
    unfold Dat.leavesExact; rw [liveAt0_2 t, after0_2]
  have e3 : (dats m 0 c).leavesExact 3 t = owns (c : Thread nD τ) (ms0_3 t) fullShare (iblk m c 3 t) := by
    unfold Dat.leavesExact; rw [liveAt0_3 t, after0_3]
  have e4 : (dats m 0 c).leavesExact 4 t = owns (c : Thread nD τ) (ms0_4 t) fullShare (iblk m c 4 t) := by
    unfold Dat.leavesExact; rw [liveAt0_4 t, after0_4]
  have e5 : (dats m 0 c).leavesExact 5 t = owns (c : Thread nD τ) (ms0_5 t) fullShare (iblk m c 5 t) := by
    unfold Dat.leavesExact; rw [liveAt0_5 t, after0_5]
  have e6 : (dats m 0 c).leavesExact 6 t = owns (c : Thread nD τ) (ms0_6 t) fullShare (iblk m c 6 t) := by
    unfold Dat.leavesExact; rw [liveAt0_6 t, after0_6]
  have e7 : (dats m 0 c).leavesExact 7 t = owns (c : Thread nD τ) (ms0_7 t) fullShare (iblk m c 7 t) := by
    unfold Dat.leavesExact; rw [liveAt0_7 t, after0_7]
  have e8 : (dats m 0 c).leavesExact 8 t = owns (c : Thread nD τ) (ms0_8 t) fullShare (iblk m c 8 t) := by
    unfold Dat.leavesExact; rw [liveAt0_8 t, after0_8]
  have e9 : (dats m 0 c).leavesExact 9 t = owns (c : Thread nD τ) (ms0_9 t) fullShare (iblk m c 9 t) := by
    unfold Dat.leavesExact; rw [liveAt0_9 t, after0_9]
  have e12 : (dats m 0 c).leavesExact 12 t = owns (c : Thread nD τ) (ms0_12 t) fullShare (out12 m c t) := by
    unfold Dat.leavesExact; rw [liveAt0_12 t, after0_12]
  have e10 : (dats m 0 c).leavesExact 10 t = owns (c : Thread nD τ) (ms0_10 t) fullShare (out10 m c t) := by
    unfold Dat.leavesExact; rw [liveAt0_10_C t h0 h1, after0_10]
  have e11 : (dats m 0 c).leavesExact 11 t = owns (c : Thread nD τ) (ms0_11 t) fullShare (out11 m c t) := by
    unfold Dat.leavesExact; rw [liveAt0_11_C t h0 h1, after0_11]
  rw [e0, e1, e2, e3, e4, e5, e6, e7, e8, e9, e10, e11, e12]
  rw [PhiS_castSucc m c t, PhiS_pos m c _ _ hz, ← stB_pos m c t hz]
  rw [out12_C m c t h1, out10_C m c t h1, out11_C m c t h1]
  unfold owned
  rw [show stA m c t.val t.isLt = stepStC m c t h1 (stB m c t.val t.isLt) from stepSt_C m c t h1 _]
  dsimp only [stepStC]
  rw [body_step _ _ _ _ _ _ _ _ _ _ _ _ _ _ _ _ _ _ _ _ _ _ _ _ _ _ _ _ _ _ _ _ _ _ _ _ _ _ _ h0]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((stepCAt m c t h1 (stB m c t.val t.isLt)).2.2.2.2.2.2 Set.univ _)
  isplitl [H7]; · iexact H7
  isplitl [H8]; · iexact H8
  isplitl [H9]; · iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  iintro ⟨H7, H8, H9, H10, H11, H12, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iapply (owns_of_cover c _ VS0_3 _ (ccovS3 m c t h1 (stB m c t.val t.isLt))); iexact HS3
      isplitl [HS4]; · iapply (owns_of_cover c _ VS0_4 _ (ccovS4 m c t h1 (stB m c t.val t.isLt))); iexact HS4
      iapply (owns_of_cover c _ VS0_5 _ (ccovS5 m c t h1 (stB m c t.val t.isLt))); iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (owns_of_cover c _ VO0_10 _ (ccov10 m c t h1 (stB m c t.val t.isLt))); iexact H10
  isplitl [H11]; · iapply (owns_of_cover c _ VO0_11 _ (ccov11 m c t h1 (stB m c t.val t.isLt))); iexact H11
  iapply (owns_of_cover c _ VO0_12 _ (ccov12 m c t h1 (stB m c t.val t.isLt))); iexact H12

theorem sound_body (c : Dev nD) (t : Fin cfg0.N) :
    bodyPre m c t ⊢ wp frame (wpE (defs₀ (F := F)) Variants.none c none) Set.univ (bodyAt0 t) (fun _ => bodyPost m c t) := by
  have hN : t.val < 50 := lt_of_lt_of_eq t.isLt (show cfg0.N = 50 from N_0)
  by_cases h0 : cond0_0 (grid0.coords t)
  · have e0 := (hcond0_0 t).mp h0
    exact sound_first m c t h0 (fun h => by have := (hcond0_1 t).mp h; omega) (by omega)
  · have hz : t.val ≠ 0 := fun h => h0 ((hcond0_0 t).mpr (by omega))
    by_cases h1 : cond0_1 (grid0.coords t)
    · exact sound_last m c t h0 h1 hz
    · exact sound_mid m c t h0 h1 hz

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scratch at anything back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  unfold owned
  iintro ⟨⟨HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 50 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel.Gen

end
-- ==== Proof.Val.Pay.lean ====
module

public import proofs.«01_k».proof.Proof.Gen.KernelIdeal.Skeleton
public import Idealize.ShloMosaic.Lib.Pointwise

@[expose] public section

set_option maxRecDepth 16384

/-! What the step's operations compute, read at an index over the extended reals. -/

noncomputable section

namespace Cert.KernelIdeal.Gen

open Idealize.ShloMosaic

/-- The penalties of one logit: `z` scaled by the repetition penalty where the word was seen, less the count's share, less the presence. -/
def pen (z c rep freq pres : EReal) : EReal :=
  (if 0 < c then (if 0 < z then Ideal.div z rep else z * rep) else z) - c * freq - (if 0 < c then pres else 0)

/-- The product at row `b`, lane `o + l` of the block. -/
def dotAt (v3 : Vec Ideal S32x12288 .fp8e4m3) (v4 : Vec Ideal S12288x640 .fp8e4m3) (b : Fin 16) (v : Fin 640) : EReal :=
  ∑ k : Fin 12288, v3 (ix2 ⟨b.val, by omega⟩ k) * v4 (ix2 k v)

theorem pay55_at (v3 : Vec Ideal S32x12288 .fp8e4m3) (v4 : Vec Ideal S12288x640 .fp8e4m3) (b : Fin 16) (v : Fin 640) :
    k0_pay55 v3 v4 (ix2 b v) = dotAt v3 v4 b v := by
  pointwise [k0_pay55, dotAt]

/-- The block of logits, lanes 0 … 127. -/
theorem chunk0 (v3 : Vec Ideal S32x12288 .fp8e4m3) (v4 : Vec Ideal S12288x640 .fp8e4m3) (v7 v9 v11 v13 : Vec Ideal S1x16x128 .f32) (v27 : Vec Ideal S1x128 .f32) (v33 : Vec Ideal S16x128 .f32) (b : Fin 16) (l : Fin 128) :
    k0_pay64 (k0_pay57 v9) (k0_pay58 v11) (k0_pay59 v13) (k0_pay63 v3 v4 v7) v27 v33 (ix2 b l)
      = pen (dotAt v3 v4 b ⟨0 + l.val, by omega⟩ * v7 (ix3 0 b l) * v27 (ix2 0 l)) (v33 (ix2 b l)) (v9 (ix3 0 b l)) (v11 (ix3 0 b l)) (v13 (ix3 0 b l)) := by
  pointwise [k0_pay64, k0_pay63, k0_pay56, k0_pay57, k0_pay58, k0_pay59, pen]
  simp only [pay55_at]

/-- The block of logits, lanes 128 … 255. -/
theorem chunk1 (v3 : Vec Ideal S32x12288 .fp8e4m3) (v4 : Vec Ideal S12288x640 .fp8e4m3) (v7 v9 v11 v13 : Vec Ideal S1x16x128 .f32) (v27 : Vec Ideal S1x128 .f32) (v33 : Vec Ideal S16x128 .f32) (b : Fin 16) (l : Fin 128) :
    k0_pay68 (k0_pay57 v9) (k0_pay58 v11) (k0_pay59 v13) (k0_pay66 (k0_pay55 v3 v4) (k0_pay56 v7) v27) v33 k0_pay67 (ix2 b l)
      = pen (dotAt v3 v4 b ⟨128 + l.val, by omega⟩ * v7 (ix3 0 b l) * v27 (ix2 0 l)) (v33 (ix2 b l)) (v9 (ix3 0 b l)) (v11 (ix3 0 b l)) (v13 (ix3 0 b l)) := by
  pointwise [k0_pay68, k0_pay66, k0_pay67, k0_pay56, k0_pay57, k0_pay58, k0_pay59, pen]
  simp only [pay55_at]

/-- The block of logits, lanes 256 … 383. -/
theorem chunk2 (v3 : Vec Ideal S32x12288 .fp8e4m3) (v4 : Vec Ideal S12288x640 .fp8e4m3) (v7 v9 v11 v13 : Vec Ideal S1x16x128 .f32) (v27 : Vec Ideal S1x128 .f32) (v33 : Vec Ideal S16x128 .f32) (b : Fin 16) (l : Fin 128) :
    k0_pay72 (k0_pay59 v13) (k0_pay70 v33) (k0_pay71 (k0_pay55 v3 v4) (k0_pay56 v7) (k0_pay57 v9) (k0_pay58 v11) v27 v33) (ix2 b l)
      = pen (dotAt v3 v4 b ⟨256 + l.val, by omega⟩ * v7 (ix3 0 b l) * v27 (ix2 0 l)) (v33 (ix2 b l)) (v9 (ix3 0 b l)) (v11 (ix3 0 b l)) (v13 (ix3 0 b l)) := by
  pointwise [k0_pay72, k0_pay70, k0_pay71, k0_pay56, k0_pay57, k0_pay58, k0_pay59, pen]
  simp only [pay55_at]

/-- The block of logits, lanes 384 … 511. -/
theorem chunk3 (v3 : Vec Ideal S32x12288 .fp8e4m3) (v4 : Vec Ideal S12288x640 .fp8e4m3) (v7 v9 v11 v13 : Vec Ideal S1x16x128 .f32) (v27 : Vec Ideal S1x128 .f32) (v33 : Vec Ideal S16x128 .f32) (b : Fin 16) (l : Fin 128) :
    k0_pay74 (k0_pay55 v3 v4) (k0_pay56 v7) (k0_pay57 v9) (k0_pay58 v11) (k0_pay59 v13) v27 v33 (ix2 b l)
      = pen (dotAt v3 v4 b ⟨384 + l.val, by omega⟩ * v7 (ix3 0 b l) * v27 (ix2 0 l)) (v33 (ix2 b l)) (v9 (ix3 0 b l)) (v11 (ix3 0 b l)) (v13 (ix3 0 b l)) := by
  pointwise [k0_pay74, k0_pay56, k0_pay57, k0_pay58, k0_pay59, pen]
  simp only [pay55_at]

/-- The block of logits, lanes 512 … 639. -/
theorem chunk4 (v3 : Vec Ideal S32x12288 .fp8e4m3) (v4 : Vec Ideal S12288x640 .fp8e4m3) (v7 v9 v11 v13 : Vec Ideal S1x16x128 .f32) (v27 : Vec Ideal S1x128 .f32) (v33 : Vec Ideal S16x128 .f32) (b : Fin 16) (l : Fin 128) :
    k0_pay77 (k0_pay55 v3 v4) (k0_pay56 v7) (k0_pay57 v9) (k0_pay58 v11) (k0_pay59 v13) v27 v33 (ix2 b l)
      = pen (dotAt v3 v4 b ⟨512 + l.val, by omega⟩ * v7 (ix3 0 b l) * v27 (ix2 0 l)) (v33 (ix2 b l)) (v9 (ix3 0 b l)) (v11 (ix3 0 b l)) (v13 (ix3 0 b l)) := by
  pointwise [k0_pay77, k0_pay56, k0_pay57, k0_pay58, k0_pay59, pen]
  simp only [pay55_at]

/-- The word of negative infinity. -/
theorem negInf : Ideal.ofBits .f32 0xFF800000#32 = ⊥ := by simp [Ideal.ofBits, Ideal.ieee]

/-- Two small numbers agree exactly when their words do. -/
theorem cmpi_eq_ofNat (x y : ℕ) (hx : x < 2 ^ 32) (hy : y < 2 ^ 32) :
    IntOp.cmpi .eq (BitVec.ofNat 32 x) (BitVec.ofNat 32 y) = if x = y then 1#1 else 0#1 := by
  have : (BitVec.ofNat 32 x = BitVec.ofNat 32 y) ↔ x = y := by
    constructor
    · intro h; have := congrArg BitVec.toNat h; rw [BitVec.toNat_ofNat, BitVec.toNat_ofNat] at this; omega
    · rintro rfl; rfl
  by_cases h : x = y
  · subst h; simp [IntOp.cmpi]
  · rw [if_neg h]
    have h' : (BitVec.ofNat 32 x == BitVec.ofNat 32 y) = false := by rw [beq_eq_false_iff_ne]; exact fun e => h (this.mp e)
    simp only [IntOp.cmpi, h']; rfl

/-- A lane number is not negative, so it is not wrapped. -/
theorem wrapLane (q : ℕ) :
    Scalar.select (IntOp.cmpi .slt (BitVec.ofNat 32 (q % 128)) 0#32) (IntOp.addi (BitVec.ofNat 32 (q % 128)) 128#32) (BitVec.ofNat 32 (q % 128)) = BitVec.ofNat 32 (q % 128) := by
  generalize hr : q % 128 = r
  have : r < 128 := by omega
  interval_cases r <;> decide

/-- The running maximum, at an index. -/
theorem pay5_at (v46 v82 v118 v154 v190 : FVec Ideal S16x128 .f32) (v206 : Vec Ideal S16x128 .f32) (b : Fin 16) (l : Fin 128) :
    k0_pay5 v46 v82 v118 v154 v190 v206 (ix2 b l)
      = max (max (max (max (max (v206 (ix2 b l)) (v46 (ix2 b l))) (v82 (ix2 b l))) (v118 (ix2 b l))) (v154 (ix2 b l))) (v190 (ix2 b l)) := by
  pointwise [k0_pay5, k0_pay3]

theorem pay3_at (v46 v82 v118 v154 v190 : FVec Ideal S16x128 .f32) (v206 : Vec Ideal S16x128 .f32) (b : Fin 16) (l : Fin 128) :
    k0_pay3 v46 v82 v118 v154 v190 v206 (ix2 b l)
      = max (max (max (max (max (v206 (ix2 b l)) (v46 (ix2 b l))) (v82 (ix2 b l))) (v118 (ix2 b l))) (v154 (ix2 b l))) (v190 (ix2 b l)) := by
  pointwise [k0_pay3]

/-- The running sum, at an index, over the new maximum `M`. -/
theorem pay4_at (v46 v82 v118 v154 v190 : FVec Ideal S16x128 .f32) (v206 v212 : Vec Ideal S16x128 .f32) (b : Fin 16) (l : Fin 128) (M : EReal)
    (hM : k0_pay3 v46 v82 v118 v154 v190 v206 (ix2 b l) = M) :
    k0_pay4 v46 v82 v118 v154 v190 v206 v212 (ix2 b l)
      = v212 (ix2 b l) * Ideal.exp (v206 (ix2 b l) - M) + Ideal.exp (v46 (ix2 b l) - M) + Ideal.exp (v82 (ix2 b l) - M)
        + Ideal.exp (v118 (ix2 b l) - M) + Ideal.exp (v154 (ix2 b l) - M) + Ideal.exp (v190 (ix2 b l) - M) := by
  subst hM
  pointwise [k0_pay4]

theorem pay6_at (v46 v82 v118 v154 v190 : FVec Ideal S16x128 .f32) (v206 v212 : Vec Ideal S16x128 .f32) (b : Fin 16) (l : Fin 128) :
    k0_pay6 v46 v82 v118 v154 v190 v206 v212 (ix2 b l) = k0_pay4 v46 v82 v118 v154 v190 v206 v212 (ix2 b l) := by
  pointwise [k0_pay6]

/-- The row's logsumexp from the lanes' maxima and sums. -/
theorem pay7_at (v46 v82 v118 v154 v190 : FVec Ideal S16x128 .f32) (v206 v212 : Vec Ideal S16x128 .f32) (b : Fin 16) (z : Fin 1) :
    k0_pay7 v46 v82 v118 v154 v190 v206 v212 (ix2 b z)
      = Ideal.log (∑ l : Fin 128, k0_pay4 v46 v82 v118 v154 v190 v206 v212 (ix2 b l)
          * Ideal.exp (k0_pay3 v46 v82 v118 v154 v190 v206 (ix2 b l) - Finset.univ.sup fun l : Fin 128 => k0_pay3 v46 v82 v118 v154 v190 v206 (ix2 b l)))
        + Finset.univ.sup fun l : Fin 128 => k0_pay3 v46 v82 v118 v154 v190 v206 (ix2 b l) := by
  pointwise [k0_pay7]
  rw [negInf]; rfl

theorem pay8_at (v46 v82 v118 v154 v190 : FVec Ideal S16x128 .f32) (v166 : FVec Ideal S16x128 .f32) (v193 : IVec S16x128 1) (v201 : FVec Ideal S16x128 .f32) (v206 v212 : Vec Ideal S16x128 .f32) (b : Fin 16) (i : Fin 20) :
    k0_pay8 v46 v82 v118 v154 v166 v190 v193 v201 v206 v212 (ix2 b i)
      = k0_pay1 v166 v193 v201 (ix2 b ⟨i.val, by omega⟩) - k0_pay7 v46 v82 v118 v154 v190 v206 v212 (ix2 b 0) := by
  pointwise [k0_pay8]

theorem pay9_at (v46 v82 v118 v154 v190 : FVec Ideal S16x128 .f32) (v206 v212 : Vec Ideal S16x128 .f32) (b : Fin 16) (z : Fin 1) :
    k0_pay9 v46 v82 v118 v154 v190 v206 v212 (ix2 z b) = k0_pay7 v46 v82 v118 v154 v190 v206 v212 (ix2 b 0) := by
  pointwise [k0_pay9]
  have e : ∀ x : Fin 16, Scalar.select (IntOp.cmpi .eq (BitVec.ofNat 32 x.val) (BitVec.ofNat 32 b.val)) (k0_pay7 v46 v82 v118 v154 v190 v206 v212 (ix2 x 0)) (0 : EReal)
      = if x = b then k0_pay7 v46 v82 v118 v154 v190 v206 v212 (ix2 x 0) else 0 := by
    intro x
    rw [cmpi_eq_ofNat x.val b.val (by omega) (by omega)]
    by_cases h : x = b
    · subst h; simp [Scalar.select]
    · rw [if_neg h, if_neg (fun e => h (Fin.ext e))]; simp [Scalar.select]
  rw [Finset.sum_congr rfl fun x _ => e x, Finset.sum_ite_eq' Finset.univ b, if_pos (Finset.mem_univ b)]

theorem pay65_at (v10 v12 v14 : FVec Ideal S16x128 .f32) (v19 v21 : IVec S16x128 32) (v22 : Vec Ideal S16x128 .f32) (v26 : FVec Ideal S16x128 .f32) (v27 : Vec Ideal S1x128 .f32) (v33 : Vec Ideal S16x128 .f32) (b : Fin 16) (i : Fin 128) (q n : ℕ) (hq : q < 32000) (hn : n < 250) (h19 : v19 (ix2 b i) = BitVec.ofNat 32 (q / 128)) (h21 : v21 (ix2 b i) = BitVec.ofNat 32 (q % 128)) :
    k0_pay65 v10 v12 v14 v19 v21 v22 (BitVec.ofNat 32 n) v26 v27 v33 (ix2 b i) = if q / 128 = n then k0_pay64 v10 v12 v14 v26 v27 v33 (ix2 b ⟨q % 128, Nat.mod_lt _ (by decide)⟩) else v22 (ix2 b i) := by
  pointwise [k0_pay65]
  simp only [h19, h21, wrapLane]
  rw [cmpi_eq_ofNat _ _ (by omega) (by omega)]
  have e : (⟨(BitVec.ofNat 32 (q % 128)).toNat % 128, Nat.mod_lt _ (by decide)⟩ : Fin 128) = ⟨q % 128, Nat.mod_lt _ (by decide)⟩ := by
    apply Fin.ext; simp
  by_cases h : q / 128 = n <;> simp [h, Scalar.select, e]

theorem pay69_at (v10 v12 v14 : FVec Ideal S16x128 .f32) (v19 v21 : IVec S16x128 32) (v58 v66 : FVec Ideal S16x128 .f32) (v69 : Vec Ideal S16x128 .f32) (v70 : FVec Ideal S16x128 .f32) (b : Fin 16) (i : Fin 128) (q n : ℕ) (hq : q < 32000) (hn : n < 250) (h19 : v19 (ix2 b i) = BitVec.ofNat 32 (q / 128)) (h21 : v21 (ix2 b i) = BitVec.ofNat 32 (q % 128)) :
    k0_pay69 v10 v12 v14 v19 v21 v58 (BitVec.ofNat 32 n) v66 v69 v70 (ix2 b i) = if q / 128 = n then k0_pay68 v10 v12 v14 v66 v69 v70 (ix2 b ⟨q % 128, Nat.mod_lt _ (by decide)⟩) else v58 (ix2 b i) := by
  pointwise [k0_pay69]
  simp only [h19, h21, wrapLane]
  rw [cmpi_eq_ofNat _ _ (by omega) (by omega)]
  have e : (⟨(BitVec.ofNat 32 (q % 128)).toNat % 128, Nat.mod_lt _ (by decide)⟩ : Fin 128) = ⟨q % 128, Nat.mod_lt _ (by decide)⟩ := by
    apply Fin.ext; simp
  by_cases h : q / 128 = n <;> simp [h, Scalar.select, e]

theorem pay73_at (v14 : FVec Ideal S16x128 .f32) (v19 v21 : IVec S16x128 32) (v94 : FVec Ideal S16x128 .f32) (v107 : IVec S16x128 1) (v115 : FVec Ideal S16x128 .f32) (b : Fin 16) (i : Fin 128) (q n : ℕ) (hq : q < 32000) (hn : n < 250) (h19 : v19 (ix2 b i) = BitVec.ofNat 32 (q / 128)) (h21 : v21 (ix2 b i) = BitVec.ofNat 32 (q % 128)) :
    k0_pay73 v14 v19 v21 v94 (BitVec.ofNat 32 n) v107 v115 (ix2 b i) = if q / 128 = n then k0_pay72 v14 v107 v115 (ix2 b ⟨q % 128, Nat.mod_lt _ (by decide)⟩) else v94 (ix2 b i) := by
  pointwise [k0_pay73]
  simp only [h19, h21, wrapLane]
  rw [cmpi_eq_ofNat _ _ (by omega) (by omega)]
  have e : (⟨(BitVec.ofNat 32 (q % 128)).toNat % 128, Nat.mod_lt _ (by decide)⟩ : Fin 128) = ⟨q % 128, Nat.mod_lt _ (by decide)⟩ := by
    apply Fin.ext; simp
  by_cases h : q / 128 = n <;> simp [h, Scalar.select, e]

theorem pay76_at (v19 v21 : IVec S16x128 32) (v130 v154 : FVec Ideal S16x128 .f32) (v157 : IVec S16x128 1) (b : Fin 16) (i : Fin 128) (q n : ℕ) (hq : q < 32000) (hn : n < 250) (h19 : v19 (ix2 b i) = BitVec.ofNat 32 (q / 128)) (h21 : v21 (ix2 b i) = BitVec.ofNat 32 (q % 128)) (h157 : v157 (ix2 b i) = IntOp.cmpi .eq (v19 (ix2 b i)) (BitVec.ofNat 32 n)) :
    k0_pay76 v21 v130 v154 v157 (ix2 b i) = if q / 128 = n then v154 (ix2 b ⟨q % 128, Nat.mod_lt _ (by decide)⟩) else v130 (ix2 b i) := by
  pointwise [k0_pay76]
  rw [h157]
  simp only [h19, h21, wrapLane]
  rw [cmpi_eq_ofNat _ _ (by omega) (by omega)]
  have e : (⟨(BitVec.ofNat 32 (q % 128)).toNat % 128, Nat.mod_lt _ (by decide)⟩ : Fin 128) = ⟨q % 128, Nat.mod_lt _ (by decide)⟩ := by
    apply Fin.ext; simp
  by_cases h : q / 128 = n <;> simp [h, Scalar.select, e]

theorem pay1_at (v19 v21 : IVec S16x128 32) (v166 : FVec Ideal S16x128 .f32) (v193 : IVec S16x128 1) (v6 : FVec Ideal S16x640 .f32) (v8 v10 v12 v14 : FVec Ideal S16x128 .f32) (v171 : Vec Ideal S1x128 .f32) (v177 : Vec Ideal S16x128 .f32) (b : Fin 16) (i : Fin 128) (q n : ℕ) (hq : q < 32000) (hn : n < 250) (h19 : v19 (ix2 b i) = BitVec.ofNat 32 (q / 128)) (h21 : v21 (ix2 b i) = BitVec.ofNat 32 (q % 128)) (h193 : v193 (ix2 b i) = IntOp.cmpi .eq (v19 (ix2 b i)) (BitVec.ofNat 32 n)) :
    k0_pay1 v166 v193 (k0_pay79 v6 v8 v10 v12 v14 v21 v171 v177) (ix2 b i) = if q / 128 = n then k0_pay77 v6 v8 v10 v12 v14 v171 v177 (ix2 b ⟨q % 128, Nat.mod_lt _ (by decide)⟩) else v166 (ix2 b i) := by
  pointwise [k0_pay1, k0_pay79]
  rw [h193]
  simp only [h19, h21, wrapLane]
  rw [cmpi_eq_ofNat _ _ (by omega) (by omega)]
  have e : (⟨(BitVec.ofNat 32 (q % 128)).toNat % 128, Nat.mod_lt _ (by decide)⟩ : Fin 128) = ⟨q % 128, Nat.mod_lt _ (by decide)⟩ := by
    apply Fin.ext; simp
  by_cases h : q / 128 = n <;> simp [h, Scalar.select, e]

theorem pay2_eq (v166 : FVec Ideal S16x128 .f32) (v193 : IVec S16x128 1) (v201 : FVec Ideal S16x128 .f32) (b : Fin 16) (i : Fin 128) :
    k0_pay2 v166 v193 v201 (ix2 b i) = k0_pay1 v166 v193 v201 (ix2 b i) := by
  pointwise [k0_pay2]

theorem pay75_at (n : ℕ) (v19 : IVec S16x128 32) (b : Fin 16) (i : Fin 128) :
    k0_pay75 (BitVec.ofNat 32 n) v19 (ix2 b i) = IntOp.cmpi .eq (v19 (ix2 b i)) (BitVec.ofNat 32 (n * 5 + 3)) := by
  pointwise [k0_pay75]
  rw [BitVec.ofNat_add, BitVec.ofNat_mul]
  rfl

theorem pay78_at (n : ℕ) (v19 : IVec S16x128 32) (b : Fin 16) (i : Fin 128) :
    k0_pay78 (BitVec.ofNat 32 n) v19 (ix2 b i) = IntOp.cmpi .eq (v19 (ix2 b i)) (BitVec.ofNat 32 (n * 5 + 4)) := by
  pointwise [k0_pay78]
  rw [BitVec.ofNat_add, BitVec.ofNat_mul]
  rfl

/-- The candidates' column numbers, chunk and lane, padded with zeros. -/
theorem pay60_at (v15 : Vec Ideal S16x20 .i32) (b : Fin 16) (i : Fin 20) : k0_pay60 v15 (ix2 b ⟨i.val, by omega⟩) = v15 (ix2 b i) := by
  pointwise [k0_pay60]

theorem pay61_at (v15 : Vec Ideal S16x20 .i32) (b : Fin 16) (i : Fin 20) (q : ℕ) (hq : q < 32000) (h : v15 (ix2 b i) = BitVec.ofNat 32 q) :
    k0_pay61 v15 (ix2 b ⟨i.val, by omega⟩) = BitVec.ofNat 32 (q / 128) := by
  pointwise [k0_pay61]
  rw [pay60_at, h]
  have h1 : (BitVec.ofNat 32 q).msb = false := by rw [BitVec.msb_eq_decide]; simp; omega
  apply BitVec.eq_of_toNat_eq
  simp [IntOp.shrsi, BitVec.sshiftRight_eq_of_msb_false h1, Nat.shiftRight_eq_div_pow]
  omega

theorem pay62_at (v15 : Vec Ideal S16x20 .i32) (b : Fin 16) (i : Fin 20) (q : ℕ) (hq : q < 32000) (h : v15 (ix2 b i) = BitVec.ofNat 32 q) :
    k0_pay62 v15 (ix2 b ⟨i.val, by omega⟩) = BitVec.ofNat 32 (q % 128) := by
  pointwise [k0_pay62]
  rw [pay60_at, h]
  apply BitVec.eq_of_toNat_eq
  simp only [IntOp.andi, BitVec.toNat_and, BitVec.toNat_ofNat]
  rw [Nat.mod_eq_of_lt (show q < 2 ^ 32 by omega), show 127 % 2 ^ 32 = 2 ^ 7 - 1 from rfl, Nat.and_two_pow_sub_one_eq_mod]
  omega

end Cert.KernelIdeal.Gen

end
-- ==== Proof.Val.Step.lean ====
module

public import proofs.«01_k».proof.Proof.Body.State
public import proofs.«01_k».proof.Proof.Val.Pay

@[expose] public section

set_option maxRecDepth 16384

/-! What one step of the kernel leaves, read at an index, over the extended reals. -/

noncomputable section

namespace Cert.KernelIdeal.Gen

open Idealize.ShloMosaic Idealize.ShloMosaic.TcCoe Idealize.ShloMosaic.Tactic

/-- The penalized logit of row `b`, lane `l` in the step's chunk `j`, from the windows and the scratch. -/
def zAt (i : grid0.Coords) (x8 : Vec Ideal S1x640 .f32) (x9 : Vec Ideal S12288x640 .fp8e4m3) (s0 : Vec Ideal S32x12288 .fp8e4m3)
    (s1 : Vec Ideal S4096x128 .f32) (s2 : Vec Ideal S4x16x128 .f32) (j : Fin 5) (b : Fin 16) (l : Fin 128) : EReal :=
  pen (dotAt s0 x9 b ⟨128 * j.val + l.val, by omega⟩ * s2 (ix3 0 b l) * x8 (ix2 0 ⟨128 * j.val + l.val, by omega⟩))
    (s1 (ix2 ⟨80 * (i 0).val + 16 * j.val + b.val, by have := (i 0).isLt; have : (i 0).val < 50 := this; omega⟩ l)) (s2 (ix3 1 b l)) (s2 (ix3 2 b l)) (s2 (ix3 3 b l))

/-- Chunk 0 of the step's logits. -/
theorem zC0 (c : Dev nD) (i : grid0.Coords) (a8 : Memref sig .tc .vmem S16x20 .i32) (h8 : a8.IsWhole) (a9 : Memref sig .tc .vmem S1x640 .f32) (h9 : a9.IsWhole) (a10 : Memref sig .tc .vmem S12288x640 .fp8e4m3) (h10 : a10.IsWhole) (a14 : Memref sig .tc .vmem S32x12288 .fp8e4m3) (h14 : a14.IsWhole) (a15 : Memref sig .tc .vmem S4096x128 .f32) (h15 : a15.IsWhole) (a16 : Memref sig .tc .vmem S4x16x128 .f32) (h16 : a16.IsWhole) (a19 : Memref sig .tc .vmem S16x128 .f32) (h19 : a19.IsWhole) (x7 : Vec Ideal S16x20 .i32) (x8 : Vec Ideal S1x640 .f32) (x9 : Vec Ideal S12288x640 .fp8e4m3) (s0 : Vec Ideal S32x12288 .fp8e4m3) (s1 : Vec Ideal S4096x128 .f32) (s2 : Vec Ideal S4x16x128 .f32) (s5 : Vec Ideal S16x128 .f32) (b : Fin 16) (l : Fin 128) :
    stepRunC.sl.r c i a8 h8 a9 h9 a10 h10 a14 h14 a15 h15 a16 h16 a19 h19 x7 x8 x9 s0 s1 s2 s5 (ix2 b l) = zAt i x8 x9 s0 s1 s2 0 b l := by
  have e : k0_off1 i 0#32 = ![80 * (i 0).val + 16 * 0, 0] := k0_off1_eq i 0
  delta stepRunC.sl.r
  rw [chunk0]
  simp only [View.readAt_eq_ld, h9.read_unread, h10.read_unread, h14.read_unread, h15.read_unread, h16.read_unread, e, dotAt]
  pointwise [zAt, dotAt]
  refine congrArg (fun z => pen _ z _ _ _) (congrArg s1 (congrArg₂ ix2 (Fin.ext ?_) (Fin.ext ?_)))
  · simp [e]
  · simp [e]

/-- Chunk 1 of the step's logits. -/
theorem zC1 (c : Dev nD) (i : grid0.Coords) (a8 : Memref sig .tc .vmem S16x20 .i32) (h8 : a8.IsWhole) (a9 : Memref sig .tc .vmem S1x640 .f32) (h9 : a9.IsWhole) (a10 : Memref sig .tc .vmem S12288x640 .fp8e4m3) (h10 : a10.IsWhole) (a14 : Memref sig .tc .vmem S32x12288 .fp8e4m3) (h14 : a14.IsWhole) (a15 : Memref sig .tc .vmem S4096x128 .f32) (h15 : a15.IsWhole) (a16 : Memref sig .tc .vmem S4x16x128 .f32) (h16 : a16.IsWhole) (a19 : Memref sig .tc .vmem S16x128 .f32) (h19 : a19.IsWhole) (x7 : Vec Ideal S16x20 .i32) (x8 : Vec Ideal S1x640 .f32) (x9 : Vec Ideal S12288x640 .fp8e4m3) (s0 : Vec Ideal S32x12288 .fp8e4m3) (s1 : Vec Ideal S4096x128 .f32) (s2 : Vec Ideal S4x16x128 .f32) (s5 : Vec Ideal S16x128 .f32) (b : Fin 16) (l : Fin 128) :
    stepRunC.sl.r_4 c i a8 h8 a9 h9 a10 h10 a14 h14 a15 h15 a16 h16 a19 h19 x7 x8 x9 s0 s1 s2 s5 (ix2 b l) = zAt i x8 x9 s0 s1 s2 1 b l := by
  have e : k0_off1 i 1#32 = ![80 * (i 0).val + 16 * 1, 0] := k0_off1_eq i 1
  delta stepRunC.sl.r_4 stepRunC.sl.r_2 stepRunC.sl.r_3
  rw [chunk1]
  simp only [View.readAt_eq_ld, h9.read_unread, h10.read_unread, h14.read_unread, h15.read_unread, h16.read_unread, e, dotAt]
  pointwise [zAt, dotAt]
  refine congrArg (fun z => pen _ z _ _ _) (congrArg s1 (congrArg₂ ix2 (Fin.ext ?_) (Fin.ext ?_)))
  · simp [e]
  · simp [e]

/-- Chunk 2 of the step's logits. -/
theorem zC2 (c : Dev nD) (i : grid0.Coords) (a9 : Memref sig .tc .vmem S1x640 .f32) (h9 : a9.IsWhole) (a10 : Memref sig .tc .vmem S12288x640 .fp8e4m3) (h10 : a10.IsWhole) (a14 : Memref sig .tc .vmem S32x12288 .fp8e4m3) (h14 : a14.IsWhole) (a15 : Memref sig .tc .vmem S4096x128 .f32) (h15 : a15.IsWhole) (a16 : Memref sig .tc .vmem S4x16x128 .f32) (h16 : a16.IsWhole) (x8 : Vec Ideal S1x640 .f32) (x9 : Vec Ideal S12288x640 .fp8e4m3) (s0 : Vec Ideal S32x12288 .fp8e4m3) (s1 : Vec Ideal S4096x128 .f32) (s2 : Vec Ideal S4x16x128 .f32) (b : Fin 16) (l : Fin 128) :
    stepRunC.sl.r_8 c i a9 h9 a10 h10 a14 h14 a15 h15 a16 h16 x8 x9 s0 s1 s2 (ix2 b l) = zAt i x8 x9 s0 s1 s2 2 b l := by
  have e : k0_off1 i 2#32 = ![80 * (i 0).val + 16 * 2, 0] := k0_off1_eq i 2
  delta stepRunC.sl.r_8 stepRunC.sl.r_6 stepRunC.sl.r_7
  rw [chunk2]
  simp only [View.readAt_eq_ld, h9.read_unread, h10.read_unread, h14.read_unread, h15.read_unread, h16.read_unread, e, dotAt]
  pointwise [zAt, dotAt]
  refine congrArg (fun z => pen _ z _ _ _) (congrArg s1 (congrArg₂ ix2 (Fin.ext ?_) (Fin.ext ?_)))
  · simp [e]
  · simp [e]

/-- Chunk 3 of the step's logits. -/
theorem zC3 (c : Dev nD) (i : grid0.Coords) (a9 : Memref sig .tc .vmem S1x640 .f32) (h9 : a9.IsWhole) (a10 : Memref sig .tc .vmem S12288x640 .fp8e4m3) (h10 : a10.IsWhole) (a14 : Memref sig .tc .vmem S32x12288 .fp8e4m3) (h14 : a14.IsWhole) (a15 : Memref sig .tc .vmem S4096x128 .f32) (h15 : a15.IsWhole) (a16 : Memref sig .tc .vmem S4x16x128 .f32) (h16 : a16.IsWhole) (x8 : Vec Ideal S1x640 .f32) (x9 : Vec Ideal S12288x640 .fp8e4m3) (s0 : Vec Ideal S32x12288 .fp8e4m3) (s1 : Vec Ideal S4096x128 .f32) (s2 : Vec Ideal S4x16x128 .f32) (b : Fin 16) (l : Fin 128) :
    stepRunC.sl.r_10 c i a9 h9 a10 h10 a14 h14 a15 h15 a16 h16 x8 x9 s0 s1 s2 (ix2 b l) = zAt i x8 x9 s0 s1 s2 3 b l := by
  have e : k0_off1 i 3#32 = ![80 * (i 0).val + 16 * 3, 0] := k0_off1_eq i 3
  delta stepRunC.sl.r_10
  rw [chunk3]
  simp only [View.readAt_eq_ld, h9.read_unread, h10.read_unread, h14.read_unread, h15.read_unread, h16.read_unread, e, dotAt]
  pointwise [zAt, dotAt]
  refine congrArg (fun z => pen _ z _ _ _) (congrArg s1 (congrArg₂ ix2 (Fin.ext ?_) (Fin.ext ?_)))
  · simp [e]
  · simp [e]

/-- Chunk 4 of the step's logits. -/
theorem zC4 (c : Dev nD) (i : grid0.Coords) (a9 : Memref sig .tc .vmem S1x640 .f32) (h9 : a9.IsWhole) (a10 : Memref sig .tc .vmem S12288x640 .fp8e4m3) (h10 : a10.IsWhole) (a14 : Memref sig .tc .vmem S32x12288 .fp8e4m3) (h14 : a14.IsWhole) (a15 : Memref sig .tc .vmem S4096x128 .f32) (h15 : a15.IsWhole) (a16 : Memref sig .tc .vmem S4x16x128 .f32) (h16 : a16.IsWhole) (x8 : Vec Ideal S1x640 .f32) (x9 : Vec Ideal S12288x640 .fp8e4m3) (s0 : Vec Ideal S32x12288 .fp8e4m3) (s1 : Vec Ideal S4096x128 .f32) (s2 : Vec Ideal S4x16x128 .f32) (b : Fin 16) (l : Fin 128) :
    stepRunC.sl.r_13 c i a9 h9 a10 h10 a14 h14 a15 h15 a16 h16 x8 x9 s0 s1 s2 (ix2 b l) = zAt i x8 x9 s0 s1 s2 4 b l := by
  have e : k0_off1 i 4#32 = ![80 * (i 0).val + 16 * 4, 0] := k0_off1_eq i 4
  delta stepRunC.sl.r_13
  rw [chunk4]
  simp only [View.readAt_eq_ld, h9.read_unread, h10.read_unread, h14.read_unread, h15.read_unread, h16.read_unread, e, dotAt]
  pointwise [zAt, dotAt]
  refine congrArg (fun z => pen _ z _ _ _) (congrArg s1 (congrArg₂ ix2 (Fin.ext ?_) (Fin.ext ?_)))
  · simp [e]
  · simp [e]

/-- Chunk 0 of the step's logits. -/
theorem zB0 (c : Dev nD) (i : grid0.Coords) (a8 : Memref sig .tc .vmem S16x20 .i32) (h8 : a8.IsWhole) (a9 : Memref sig .tc .vmem S1x640 .f32) (h9 : a9.IsWhole) (a10 : Memref sig .tc .vmem S12288x640 .fp8e4m3) (h10 : a10.IsWhole) (a14 : Memref sig .tc .vmem S32x12288 .fp8e4m3) (h14 : a14.IsWhole) (a15 : Memref sig .tc .vmem S4096x128 .f32) (h15 : a15.IsWhole) (a16 : Memref sig .tc .vmem S4x16x128 .f32) (h16 : a16.IsWhole) (a19 : Memref sig .tc .vmem S16x128 .f32) (h19 : a19.IsWhole) (x7 : Vec Ideal S16x20 .i32) (x8 : Vec Ideal S1x640 .f32) (x9 : Vec Ideal S12288x640 .fp8e4m3) (s0 : Vec Ideal S32x12288 .fp8e4m3) (s1 : Vec Ideal S4096x128 .f32) (s2 : Vec Ideal S4x16x128 .f32) (s5 : Vec Ideal S16x128 .f32) (b : Fin 16) (l : Fin 128) :
    stepRunB.sl.r c i a8 h8 a9 h9 a10 h10 a14 h14 a15 h15 a16 h16 a19 h19 x7 x8 x9 s0 s1 s2 s5 (ix2 b l) = zAt i x8 x9 s0 s1 s2 0 b l := by
  have e : k0_off1 i 0#32 = ![80 * (i 0).val + 16 * 0, 0] := k0_off1_eq i 0
  delta stepRunB.sl.r
  rw [chunk0]
  simp only [View.readAt_eq_ld, h9.read_unread, h10.read_unread, h14.read_unread, h15.read_unread, h16.read_unread, e, dotAt]
  pointwise [zAt, dotAt]
  refine congrArg (fun z => pen _ z _ _ _) (congrArg s1 (congrArg₂ ix2 (Fin.ext ?_) (Fin.ext ?_)))
  · simp [e]
  · simp [e]

/-- Chunk 1 of the step's logits. -/
theorem zB1 (c : Dev nD) (i : grid0.Coords) (a8 : Memref sig .tc .vmem S16x20 .i32) (h8 : a8.IsWhole) (a9 : Memref sig .tc .vmem S1x640 .f32) (h9 : a9.IsWhole) (a10 : Memref sig .tc .vmem S12288x640 .fp8e4m3) (h10 : a10.IsWhole) (a14 : Memref sig .tc .vmem S32x12288 .fp8e4m3) (h14 : a14.IsWhole) (a15 : Memref sig .tc .vmem S4096x128 .f32) (h15 : a15.IsWhole) (a16 : Memref sig .tc .vmem S4x16x128 .f32) (h16 : a16.IsWhole) (a19 : Memref sig .tc .vmem S16x128 .f32) (h19 : a19.IsWhole) (x7 : Vec Ideal S16x20 .i32) (x8 : Vec Ideal S1x640 .f32) (x9 : Vec Ideal S12288x640 .fp8e4m3) (s0 : Vec Ideal S32x12288 .fp8e4m3) (s1 : Vec Ideal S4096x128 .f32) (s2 : Vec Ideal S4x16x128 .f32) (s5 : Vec Ideal S16x128 .f32) (b : Fin 16) (l : Fin 128) :
    stepRunB.sl.r_4 c i a8 h8 a9 h9 a10 h10 a14 h14 a15 h15 a16 h16 a19 h19 x7 x8 x9 s0 s1 s2 s5 (ix2 b l) = zAt i x8 x9 s0 s1 s2 1 b l := by
  have e : k0_off1 i 1#32 = ![80 * (i 0).val + 16 * 1, 0] := k0_off1_eq i 1
  delta stepRunB.sl.r_4 stepRunB.sl.r_2 stepRunB.sl.r_3
  rw [chunk1]
  simp only [View.readAt_eq_ld, h9.read_unread, h10.read_unread, h14.read_unread, h15.read_unread, h16.read_unread, e, dotAt]
  pointwise [zAt, dotAt]
  refine congrArg (fun z => pen _ z _ _ _) (congrArg s1 (congrArg₂ ix2 (Fin.ext ?_) (Fin.ext ?_)))
  · simp [e]
  · simp [e]

/-- Chunk 2 of the step's logits. -/
theorem zB2 (c : Dev nD) (i : grid0.Coords) (a9 : Memref sig .tc .vmem S1x640 .f32) (h9 : a9.IsWhole) (a10 : Memref sig .tc .vmem S12288x640 .fp8e4m3) (h10 : a10.IsWhole) (a14 : Memref sig .tc .vmem S32x12288 .fp8e4m3) (h14 : a14.IsWhole) (a15 : Memref sig .tc .vmem S4096x128 .f32) (h15 : a15.IsWhole) (a16 : Memref sig .tc .vmem S4x16x128 .f32) (h16 : a16.IsWhole) (x8 : Vec Ideal S1x640 .f32) (x9 : Vec Ideal S12288x640 .fp8e4m3) (s0 : Vec Ideal S32x12288 .fp8e4m3) (s1 : Vec Ideal S4096x128 .f32) (s2 : Vec Ideal S4x16x128 .f32) (b : Fin 16) (l : Fin 128) :
    stepRunB.sl.r_8 c i a9 h9 a10 h10 a14 h14 a15 h15 a16 h16 x8 x9 s0 s1 s2 (ix2 b l) = zAt i x8 x9 s0 s1 s2 2 b l := by
  have e : k0_off1 i 2#32 = ![80 * (i 0).val + 16 * 2, 0] := k0_off1_eq i 2
  delta stepRunB.sl.r_8 stepRunB.sl.r_6 stepRunB.sl.r_7
  rw [chunk2]
  simp only [View.readAt_eq_ld, h9.read_unread, h10.read_unread, h14.read_unread, h15.read_unread, h16.read_unread, e, dotAt]
  pointwise [zAt, dotAt]
  refine congrArg (fun z => pen _ z _ _ _) (congrArg s1 (congrArg₂ ix2 (Fin.ext ?_) (Fin.ext ?_)))
  · simp [e]
  · simp [e]

/-- Chunk 3 of the step's logits. -/
theorem zB3 (c : Dev nD) (i : grid0.Coords) (a9 : Memref sig .tc .vmem S1x640 .f32) (h9 : a9.IsWhole) (a10 : Memref sig .tc .vmem S12288x640 .fp8e4m3) (h10 : a10.IsWhole) (a14 : Memref sig .tc .vmem S32x12288 .fp8e4m3) (h14 : a14.IsWhole) (a15 : Memref sig .tc .vmem S4096x128 .f32) (h15 : a15.IsWhole) (a16 : Memref sig .tc .vmem S4x16x128 .f32) (h16 : a16.IsWhole) (x8 : Vec Ideal S1x640 .f32) (x9 : Vec Ideal S12288x640 .fp8e4m3) (s0 : Vec Ideal S32x12288 .fp8e4m3) (s1 : Vec Ideal S4096x128 .f32) (s2 : Vec Ideal S4x16x128 .f32) (b : Fin 16) (l : Fin 128) :
    stepRunB.sl.r_10 c i a9 h9 a10 h10 a14 h14 a15 h15 a16 h16 x8 x9 s0 s1 s2 (ix2 b l) = zAt i x8 x9 s0 s1 s2 3 b l := by
  have e : k0_off1 i 3#32 = ![80 * (i 0).val + 16 * 3, 0] := k0_off1_eq i 3
  delta stepRunB.sl.r_10
  rw [chunk3]
  simp only [View.readAt_eq_ld, h9.read_unread, h10.read_unread, h14.read_unread, h15.read_unread, h16.read_unread, e, dotAt]
  pointwise [zAt, dotAt]
  refine congrArg (fun z => pen _ z _ _ _) (congrArg s1 (congrArg₂ ix2 (Fin.ext ?_) (Fin.ext ?_)))
  · simp [e]
  · simp [e]

/-- Chunk 4 of the step's logits. -/
theorem zB4 (c : Dev nD) (i : grid0.Coords) (a9 : Memref sig .tc .vmem S1x640 .f32) (h9 : a9.IsWhole) (a10 : Memref sig .tc .vmem S12288x640 .fp8e4m3) (h10 : a10.IsWhole) (a14 : Memref sig .tc .vmem S32x12288 .fp8e4m3) (h14 : a14.IsWhole) (a15 : Memref sig .tc .vmem S4096x128 .f32) (h15 : a15.IsWhole) (a16 : Memref sig .tc .vmem S4x16x128 .f32) (h16 : a16.IsWhole) (x8 : Vec Ideal S1x640 .f32) (x9 : Vec Ideal S12288x640 .fp8e4m3) (s0 : Vec Ideal S32x12288 .fp8e4m3) (s1 : Vec Ideal S4096x128 .f32) (s2 : Vec Ideal S4x16x128 .f32) (b : Fin 16) (l : Fin 128) :
    stepRunB.sl.r_13 c i a9 h9 a10 h10 a14 h14 a15 h15 a16 h16 x8 x9 s0 s1 s2 (ix2 b l) = zAt i x8 x9 s0 s1 s2 4 b l := by
  have e : k0_off1 i 4#32 = ![80 * (i 0).val + 16 * 4, 0] := k0_off1_eq i 4
  delta stepRunB.sl.r_13
  rw [chunk4]
  simp only [View.readAt_eq_ld, h9.read_unread, h10.read_unread, h14.read_unread, h15.read_unread, h16.read_unread, e, dotAt]
  pointwise [zAt, dotAt]
  refine congrArg (fun z => pen _ z _ _ _) (congrArg s1 (congrArg₂ ix2 (Fin.ext ?_) (Fin.ext ?_)))
  · simp [e]
  · simp [e]

/-- The picked logits after the step, of candidate `q` in row `b`. -/
theorem pickC (c : Dev nD) (i : grid0.Coords) (a8 : Memref sig .tc .vmem S16x20 .i32) (h8 : a8.IsWhole) (a9 : Memref sig .tc .vmem S1x640 .f32) (h9 : a9.IsWhole) (a10 : Memref sig .tc .vmem S12288x640 .fp8e4m3) (h10 : a10.IsWhole) (a14 : Memref sig .tc .vmem S32x12288 .fp8e4m3) (h14 : a14.IsWhole) (a15 : Memref sig .tc .vmem S4096x128 .f32) (h15 : a15.IsWhole) (a16 : Memref sig .tc .vmem S4x16x128 .f32) (h16 : a16.IsWhole) (a19 : Memref sig .tc .vmem S16x128 .f32) (h19 : a19.IsWhole) (x7 : Vec Ideal S16x20 .i32) (x8 : Vec Ideal S1x640 .f32) (x9 : Vec Ideal S12288x640 .fp8e4m3) (s0 : Vec Ideal S32x12288 .fp8e4m3) (s1 : Vec Ideal S4096x128 .f32) (s2 : Vec Ideal S4x16x128 .f32) (s5 : Vec Ideal S16x128 .f32) (b : Fin 16) (n : Fin 20) (q : ℕ) (hq : q < 32000) (hx : x7 (ix2 b n) = BitVec.ofNat 32 q) :
    k0_pay1 (stepRunC.sl.r_12 c i a8 h8 a9 h9 a10 h10 a14 h14 a15 h15 a16 h16 a19 h19 x7 x8 x9 s0 s1 s2 s5) (stepRunC.sl.r_14 c i a8 h8 x7) (stepRunC.sl.r_15 c i a8 h8 a9 h9 a10 h10 a14 h14 a15 h15 a16 h16 x7 x8 x9 s0 s1 s2) (ix2 b ⟨n.val, by omega⟩)
      = if q / 128 = (i 0).val * 5 + 4 then zAt i x8 x9 s0 s1 s2 4 b ⟨q % 128, Nat.mod_lt _ (by decide)⟩
        else if q / 128 = (i 0).val * 5 + 3 then zAt i x8 x9 s0 s1 s2 3 b ⟨q % 128, Nat.mod_lt _ (by decide)⟩
        else if q / 128 = (i 0).val * 5 + 2 then zAt i x8 x9 s0 s1 s2 2 b ⟨q % 128, Nat.mod_lt _ (by decide)⟩
        else if q / 128 = (i 0).val * 5 + 1 then zAt i x8 x9 s0 s1 s2 1 b ⟨q % 128, Nat.mod_lt _ (by decide)⟩
        else if q / 128 = (i 0).val * 5 then zAt i x8 x9 s0 s1 s2 0 b ⟨q % 128, Nat.mod_lt _ (by decide)⟩
        else s5 (ix2 b ⟨n.val, by omega⟩) := by
  have hi : (i 0).val < 50 := (i 0).isLt
  have hX : (View.readAt (Elt Ideal) a8.view (Rect.unit (s := S16x20) ![0, 0] ![16, 20] inb_S16x20_S16x20_0_0).toLoadRect (h8.unread x7) : Vec Ideal S16x20 .i32) (ix2 b n) = BitVec.ofNat 32 q := by
    rw [View.readAt_eq_ld, h8.read_unread]
    pointwise []
    exact hx
  have h61 := pay61_at _ b n q hq hX
  have h62 := pay62_at _ b n q hq hX
  have z4 := zC4 c i a9 h9 a10 h10 a14 h14 a15 h15 a16 h16 x8 x9 s0 s1 s2 b ⟨q % 128, Nat.mod_lt _ (by decide)⟩
  have z3 := zC3 c i a9 h9 a10 h10 a14 h14 a15 h15 a16 h16 x8 x9 s0 s1 s2 b ⟨q % 128, Nat.mod_lt _ (by decide)⟩
  have z2 := zC2 c i a9 h9 a10 h10 a14 h14 a15 h15 a16 h16 x8 x9 s0 s1 s2 b ⟨q % 128, Nat.mod_lt _ (by decide)⟩
  have z1 := zC1 c i a8 h8 a9 h9 a10 h10 a14 h14 a15 h15 a16 h16 a19 h19 x7 x8 x9 s0 s1 s2 s5 b ⟨q % 128, Nat.mod_lt _ (by decide)⟩
  have z0 := zC0 c i a8 h8 a9 h9 a10 h10 a14 h14 a15 h15 a16 h16 a19 h19 x7 x8 x9 s0 s1 s2 s5 b ⟨q % 128, Nat.mod_lt _ (by decide)⟩
  rw [← z4, ← z3, ← z2, ← z1, ← z0]
  delta stepRunC.sl.r_12 stepRunC.sl.r_14 stepRunC.sl.r_15 stepRunC.sl.r_9 stepRunC.sl.r_11
  rw [pay1_at _ _ _ _ _ _ _ _ _ _ _ b ⟨n.val, by omega⟩ q ((i 0).val * 5 + 4) hq (by omega) h61 h62 (pay78_at _ _ _ _),
    pay76_at (k0_pay61 _) _ _ _ _ b ⟨n.val, by omega⟩ q ((i 0).val * 5 + 3) hq (by omega) h61 h62 (pay75_at _ _ _ _)]
  have ev : stepRunC.sl.v96 i = BitVec.ofNat 32 ((i 0).val * 5 + 2) := by
    delta stepRunC.sl.v96; rw [BitVec.ofNat_add, BitVec.ofNat_mul]; rfl
  rw [ev, pay73_at _ _ _ _ _ _ b ⟨n.val, by omega⟩ q ((i 0).val * 5 + 2) hq (by omega) h61 h62]
  have ev1 : stepRunC.sl.v60 c i a8 h8 a9 h9 a10 h10 a14 h14 a16 h16 a19 h19 x7 x8 x9 s0 s2 s5 = BitVec.ofNat 32 ((i 0).val * 5 + 1) := by
    delta stepRunC.sl.v60; rw [BitVec.ofNat_add, BitVec.ofNat_mul]; rfl
  delta stepRunC.sl.r_5
  rw [ev1, pay69_at _ _ _ _ _ _ _ _ _ b ⟨n.val, by omega⟩ q ((i 0).val * 5 + 1) hq (by omega) h61 h62]
  delta stepRunC.sl.r_1
  dsimp only
  have ev0 : Scalar.addi (Scalar.muli (BitVec.ofNat 32 (i 0).val) 5#32) 0#32 = BitVec.ofNat 32 ((i 0).val * 5) := by
    rw [BitVec.ofNat_mul]; apply BitVec.eq_of_toNat_eq; simp [Scalar.addi, Scalar.muli, IntOp.addi, IntOp.muli]
  rw [ev0, pay65_at _ _ _ _ _ _ _ _ _ b ⟨n.val, by omega⟩ q ((i 0).val * 5) hq (by omega) h61 h62]
  have h5 : (View.readAt (Elt Ideal) a19.view (Rect.unit (s := S16x128) ![0, 0] ![16, 128] inb_S16x128_S16x128_0_0).toLoadRect (h19.unread s5) : Vec Ideal S16x128 .f32) (ix2 b ⟨n.val, by omega⟩) = s5 (ix2 b ⟨n.val, by omega⟩) := by
    rw [View.readAt_eq_ld, h19.read_unread]
    pointwise []
  rw [← h5]
  delta stepRunC.sl.r_4 stepRunC.sl.r_8 stepRunC.sl.r stepRunC.sl.r_13
  rfl

/-- The picked logits after the step, of candidate `q` in row `b`. -/
theorem pickB (c : Dev nD) (i : grid0.Coords) (a8 : Memref sig .tc .vmem S16x20 .i32) (h8 : a8.IsWhole) (a9 : Memref sig .tc .vmem S1x640 .f32) (h9 : a9.IsWhole) (a10 : Memref sig .tc .vmem S12288x640 .fp8e4m3) (h10 : a10.IsWhole) (a14 : Memref sig .tc .vmem S32x12288 .fp8e4m3) (h14 : a14.IsWhole) (a15 : Memref sig .tc .vmem S4096x128 .f32) (h15 : a15.IsWhole) (a16 : Memref sig .tc .vmem S4x16x128 .f32) (h16 : a16.IsWhole) (a19 : Memref sig .tc .vmem S16x128 .f32) (h19 : a19.IsWhole) (x7 : Vec Ideal S16x20 .i32) (x8 : Vec Ideal S1x640 .f32) (x9 : Vec Ideal S12288x640 .fp8e4m3) (s0 : Vec Ideal S32x12288 .fp8e4m3) (s1 : Vec Ideal S4096x128 .f32) (s2 : Vec Ideal S4x16x128 .f32) (s5 : Vec Ideal S16x128 .f32) (b : Fin 16) (n : Fin 20) (q : ℕ) (hq : q < 32000) (hx : x7 (ix2 b n) = BitVec.ofNat 32 q) :
    k0_pay1 (stepRunB.sl.r_12 c i a8 h8 a9 h9 a10 h10 a14 h14 a15 h15 a16 h16 a19 h19 x7 x8 x9 s0 s1 s2 s5) (stepRunB.sl.r_14 c i a8 h8 x7) (stepRunB.sl.r_15 c i a8 h8 a9 h9 a10 h10 a14 h14 a15 h15 a16 h16 x7 x8 x9 s0 s1 s2) (ix2 b ⟨n.val, by omega⟩)
      = if q / 128 = (i 0).val * 5 + 4 then zAt i x8 x9 s0 s1 s2 4 b ⟨q % 128, Nat.mod_lt _ (by decide)⟩
        else if q / 128 = (i 0).val * 5 + 3 then zAt i x8 x9 s0 s1 s2 3 b ⟨q % 128, Nat.mod_lt _ (by decide)⟩
        else if q / 128 = (i 0).val * 5 + 2 then zAt i x8 x9 s0 s1 s2 2 b ⟨q % 128, Nat.mod_lt _ (by decide)⟩
        else if q / 128 = (i 0).val * 5 + 1 then zAt i x8 x9 s0 s1 s2 1 b ⟨q % 128, Nat.mod_lt _ (by decide)⟩
        else if q / 128 = (i 0).val * 5 then zAt i x8 x9 s0 s1 s2 0 b ⟨q % 128, Nat.mod_lt _ (by decide)⟩
        else s5 (ix2 b ⟨n.val, by omega⟩) := by
  have hi : (i 0).val < 50 := (i 0).isLt
  have hX : (View.readAt (Elt Ideal) a8.view (Rect.unit (s := S16x20) ![0, 0] ![16, 20] inb_S16x20_S16x20_0_0).toLoadRect (h8.unread x7) : Vec Ideal S16x20 .i32) (ix2 b n) = BitVec.ofNat 32 q := by
    rw [View.readAt_eq_ld, h8.read_unread]
    pointwise []
    exact hx
  have h61 := pay61_at _ b n q hq hX
  have h62 := pay62_at _ b n q hq hX
  have z4 := zB4 c i a9 h9 a10 h10 a14 h14 a15 h15 a16 h16 x8 x9 s0 s1 s2 b ⟨q % 128, Nat.mod_lt _ (by decide)⟩
  have z3 := zB3 c i a9 h9 a10 h10 a14 h14 a15 h15 a16 h16 x8 x9 s0 s1 s2 b ⟨q % 128, Nat.mod_lt _ (by decide)⟩
  have z2 := zB2 c i a9 h9 a10 h10 a14 h14 a15 h15 a16 h16 x8 x9 s0 s1 s2 b ⟨q % 128, Nat.mod_lt _ (by decide)⟩
  have z1 := zB1 c i a8 h8 a9 h9 a10 h10 a14 h14 a15 h15 a16 h16 a19 h19 x7 x8 x9 s0 s1 s2 s5 b ⟨q % 128, Nat.mod_lt _ (by decide)⟩
  have z0 := zB0 c i a8 h8 a9 h9 a10 h10 a14 h14 a15 h15 a16 h16 a19 h19 x7 x8 x9 s0 s1 s2 s5 b ⟨q % 128, Nat.mod_lt _ (by decide)⟩
  rw [← z4, ← z3, ← z2, ← z1, ← z0]
  delta stepRunB.sl.r_12 stepRunB.sl.r_14 stepRunB.sl.r_15 stepRunB.sl.r_9 stepRunB.sl.r_11
  rw [pay1_at _ _ _ _ _ _ _ _ _ _ _ b ⟨n.val, by omega⟩ q ((i 0).val * 5 + 4) hq (by omega) h61 h62 (pay78_at _ _ _ _),
    pay76_at (k0_pay61 _) _ _ _ _ b ⟨n.val, by omega⟩ q ((i 0).val * 5 + 3) hq (by omega) h61 h62 (pay75_at _ _ _ _)]
  have ev : stepRunB.sl.v96 i = BitVec.ofNat 32 ((i 0).val * 5 + 2) := by
    delta stepRunB.sl.v96; rw [BitVec.ofNat_add, BitVec.ofNat_mul]; rfl
  rw [ev, pay73_at _ _ _ _ _ _ b ⟨n.val, by omega⟩ q ((i 0).val * 5 + 2) hq (by omega) h61 h62]
  have ev1 : stepRunB.sl.v60 c i a8 h8 a9 h9 a10 h10 a14 h14 a16 h16 a19 h19 x7 x8 x9 s0 s2 s5 = BitVec.ofNat 32 ((i 0).val * 5 + 1) := by
    delta stepRunB.sl.v60; rw [BitVec.ofNat_add, BitVec.ofNat_mul]; rfl
  delta stepRunB.sl.r_5
  rw [ev1, pay69_at _ _ _ _ _ _ _ _ _ b ⟨n.val, by omega⟩ q ((i 0).val * 5 + 1) hq (by omega) h61 h62]
  delta stepRunB.sl.r_1
  dsimp only
  have ev0 : Scalar.addi (Scalar.muli (BitVec.ofNat 32 (i 0).val) 5#32) 0#32 = BitVec.ofNat 32 ((i 0).val * 5) := by
    rw [BitVec.ofNat_mul]; apply BitVec.eq_of_toNat_eq; simp [Scalar.addi, Scalar.muli, IntOp.addi, IntOp.muli]
  rw [ev0, pay65_at _ _ _ _ _ _ _ _ _ b ⟨n.val, by omega⟩ q ((i 0).val * 5) hq (by omega) h61 h62]
  have h5 : (View.readAt (Elt Ideal) a19.view (Rect.unit (s := S16x128) ![0, 0] ![16, 128] inb_S16x128_S16x128_0_0).toLoadRect (h19.unread s5) : Vec Ideal S16x128 .f32) (ix2 b ⟨n.val, by omega⟩) = s5 (ix2 b ⟨n.val, by omega⟩) := by
    rw [View.readAt_eq_ld, h19.read_unread]
    pointwise []
  rw [← h5]
  delta stepRunB.sl.r_4 stepRunB.sl.r_8 stepRunB.sl.r stepRunB.sl.r_13
  rfl

end Cert.KernelIdeal.Gen

end
-- ==== Proof.Val.Step2.lean ====
module

public import proofs.«01_k».proof.Proof.Val.Step
public import Idealize.ShloMosaic.Lib.Pipeline.Value
public import Idealize.ShloMosaic.Lib.Pipeline.ReadBack

@[expose] public section

set_option maxRecDepth 16384

/-! The scratch and the results after one point, at an index, from the scratch before it. -/

noncomputable section

namespace Cert.KernelIdeal.Gen

open Idealize.ShloMosaic Idealize.ShloMosaic.TcCoe Idealize.ShloMosaic.Tactic

variable (m : (ℓ : Loc nD τ sig) → Buf (Elt Ideal) ℓ)

/-- The penalized logit of row `b`, lane `l`, chunk `j` of point `t`, from scratch `s`. -/
abbrev zT (c : Dev nD) (t : Fin cfg0.N) (s : St Ideal) (j : Fin 5) (b : Fin 16) (l : Fin 128) : EReal :=
  zAt (grid0.coords t) (iblk m c 8 t) (iblk m c 9 t) s.s0 s.s1 s.s2 j b l

/-- The running maximum after five more values. -/
def max5 (x : EReal) (z : Fin 5 → EReal) : EReal := max (max (max (max (max x (z 0)) (z 1)) (z 2)) (z 3)) (z 4)

/-- The running sum after five more values, over the new maximum `M`. -/
def sum5 (x y M : EReal) (z : Fin 5 → EReal) : EReal :=
  y * Ideal.exp (x - M) + Ideal.exp (z 0 - M) + Ideal.exp (z 1 - M) + Ideal.exp (z 2 - M) + Ideal.exp (z 3 - M) + Ideal.exp (z 4 - M)

/-- The picked value after five more chunks, starting at chunk `n`, for a candidate in chunk `q`. -/
def pick5 (x : EReal) (q n : ℕ) (z : Fin 5 → EReal) : EReal :=
  if q = n * 5 + 4 then z 4 else if q = n * 5 + 3 then z 3 else if q = n * 5 + 2 then z 2 else if q = n * 5 + 1 then z 1 else if q = n * 5 then z 0 else x

theorem zero2 : (![0, 0] : Fin 2 → ℕ) = fun _ => 0 := by decide

theorem ld16 (inb : ∀ a, (![0, 0] : Fin 2 → ℕ) a + (![16, 128] : Fin 2 → ℕ) a ≤ S16x128.size a) (X : Vec Ideal S16x128 .f32) (y : S16x128.Idx) :
    View.ld X (Rect.unit (s := S16x128) ![0, 0] ![16, 128] inb) y = X y := congrFun (View.ld_unit_zero zero2 inb X) y

theorem stepB_s3 (c : Dev nD) (t : Fin cfg0.N) (h : ¬cond0_1 (grid0.coords t)) (s : St Ideal) (b : Fin 16) (l : Fin 128) :
    (stepStB m c t h s).s3 (ix2 b l) = max5 (s.s3 (ix2 b l)) (fun j => zT m c t s j b l) := by
  dsimp only [stepStB]
  rw [View.read_writes_eq_canon _ _ _ (bcovS3 m c t h s)]
  delta stepBAt stepRunB
  dsimp only
  rw [View.canon_unit_zero zero2, pay5_at, zB0, zB1, zB2, zB3, zB4]
  simp only [View.readAt_eq_ld, Memref.IsWhole.read_unread, read_unread_whole]
  pointwise [max5, sum5]

theorem stepB_s4 (c : Dev nD) (t : Fin cfg0.N) (h : ¬cond0_1 (grid0.coords t)) (s : St Ideal) (b : Fin 16) (l : Fin 128) :
    (stepStB m c t h s).s4 (ix2 b l) = sum5 (s.s3 (ix2 b l)) (s.s4 (ix2 b l)) (max5 (s.s3 (ix2 b l)) (fun j => zT m c t s j b l)) (fun j => zT m c t s j b l) := by
  dsimp only [stepStB]
  rw [View.read_writes_eq_canon _ _ _ (bcovS4 m c t h s)]
  delta stepBAt stepRunB
  dsimp only
  rw [View.canon_unit_zero zero2, pay6_at, pay4_at _ _ _ _ _ _ _ _ _ _ (pay3_at _ _ _ _ _ _ _ _), zB0, zB1, zB2, zB3, zB4]
  simp only [View.readAt_eq_ld, Memref.IsWhole.read_unread, read_unread_whole]
  pointwise [max5, sum5]

theorem stepB_s5 (c : Dev nD) (t : Fin cfg0.N) (h : ¬cond0_1 (grid0.coords t)) (s : St Ideal) (b : Fin 16) (n : Fin 20) (q : ℕ) (hq : q < 32000) (hx : iblk m c 7 t (ix2 b n) = BitVec.ofNat 32 q) :
    (stepStB m c t h s).s5 (ix2 b ⟨n.val, by omega⟩)
      = pick5 (s.s5 (ix2 b ⟨n.val, by omega⟩)) (q / 128) (grid0.coords t 0).val (fun j => zT m c t s j b ⟨q % 128, Nat.mod_lt _ (by decide)⟩) := by
  dsimp only [stepStB]
  rw [View.read_writes_eq_canon _ _ _ (bcovS5 m c t h s)]
  delta stepBAt stepRunB
  dsimp only
  rw [View.canon_unit_zero zero2, pay2_eq, pickB _ _ _ _ _ _ _ _ _ _ _ _ _ _ _ _ _ _ _ _ _ _ _ b n q hq hx]
  rfl

/-- The logits block the point writes. -/
theorem stepB_12 (c : Dev nD) (t : Fin cfg0.N) (h : ¬cond0_1 (grid0.coords t)) (s : St Ideal) (y : S16x640.Idx) :
    VO0_12.read (Elt Ideal) (VO0_12.writes (Elt Ideal) VO0_12.junk ((stepBAt m c t h s).1)) y
      = zT m c t s ⟨(y 1).val / 128, by have : (y 1).val < 640 := (y 1).isLt; omega⟩ (y 0) ⟨(y 1).val % 128, Nat.mod_lt _ (by decide)⟩ := by
  have hG : ∀ (j : Fin 5) (b : Fin 16) (l : Fin 128) (y : S16x640.Idx), (y 0).val = b.val → (y 1).val = 128 * j.val + l.val →
      zT m c t s ⟨(y 1).val / 128, by have : (y 1).val < 640 := (y 1).isLt; omega⟩ (y 0) ⟨(y 1).val % 128, Nat.mod_lt _ (by decide)⟩ = zT m c t s j b l := by
    intro j b l y h0 h1
    have e0 : y 0 = b := Fin.ext h0
    have e1 : (⟨(y 1).val / 128, by have : (y 1).val < 640 := (y 1).isLt; omega⟩ : Fin 5) = j := Fin.ext (by simp only; omega)
    have e2 : (⟨(y 1).val % 128, Nat.mod_lt _ (by decide)⟩ : Fin 128) = l := Fin.ext (by simp only; omega)
    rw [e0, e1, e2]
  refine View.read_writes_apply_of_pieces _ _ (fun y => zT m c t s ⟨(y 1).val / 128, by have : (y 1).val < 640 := (y 1).isLt; omega⟩ (y 0) ⟨(y 1).val % 128, Nat.mod_lt _ (by decide)⟩) _ ?_ y (bcov12 m c t h s y)
  delta stepBAt stepRunB
  dsimp only
  intro p hp x
  simp only [List.mem_cons, List.not_mem_nil, or_false] at hp
  rcases hp with rfl | rfl | rfl | rfl | rfl
  · refine Eq.trans ?_ (hG 4 (x 0) (x 1) _ (show 0 + 1 * (x 0).val = (x 0).val by omega) (show 512 + 1 * (x 1).val = 128 * 4 + (x 1).val by omega)).symm
    refine Eq.trans ?_ (zB4 c (grid0.coords t) (ms0_8 t) (hs0_8 t) (ms0_9 t) (hs0_9 t) scM0_0 (Memref.isWhole_whole _) scM0_1 (Memref.isWhole_whole _) scM0_2 (Memref.isWhole_whole _) (iblk m c 8 t) (iblk m c 9 t) s.s0 s.s1 s.s2 (x 0) (x 1))
    delta stepRunB.sl.r_13
    exact congrArg _ (eq_ix2 x)
  · refine Eq.trans ?_ (hG 3 (x 0) (x 1) _ (show 0 + 1 * (x 0).val = (x 0).val by omega) (show 384 + 1 * (x 1).val = 128 * 3 + (x 1).val by omega)).symm
    refine Eq.trans ?_ (zB3 c (grid0.coords t) (ms0_8 t) (hs0_8 t) (ms0_9 t) (hs0_9 t) scM0_0 (Memref.isWhole_whole _) scM0_1 (Memref.isWhole_whole _) scM0_2 (Memref.isWhole_whole _) (iblk m c 8 t) (iblk m c 9 t) s.s0 s.s1 s.s2 (x 0) (x 1))
    delta stepRunB.sl.r_10
    exact congrArg _ (eq_ix2 x)
  · refine Eq.trans ?_ (hG 2 (x 0) (x 1) _ (show 0 + 1 * (x 0).val = (x 0).val by omega) (show 256 + 1 * (x 1).val = 128 * 2 + (x 1).val by omega)).symm
    refine Eq.trans ?_ (zB2 c (grid0.coords t) (ms0_8 t) (hs0_8 t) (ms0_9 t) (hs0_9 t) scM0_0 (Memref.isWhole_whole _) scM0_1 (Memref.isWhole_whole _) scM0_2 (Memref.isWhole_whole _) (iblk m c 8 t) (iblk m c 9 t) s.s0 s.s1 s.s2 (x 0) (x 1))
    delta stepRunB.sl.r_8
    exact congrArg _ (eq_ix2 x)
  · refine Eq.trans ?_ (hG 1 (x 0) (x 1) _ (show 0 + 1 * (x 0).val = (x 0).val by omega) (show 128 + 1 * (x 1).val = 128 * 1 + (x 1).val by omega)).symm
    refine Eq.trans ?_ (zB1 c (grid0.coords t) (ms0_7 t) (hs0_7 t) (ms0_8 t) (hs0_8 t) (ms0_9 t) (hs0_9 t) scM0_0 (Memref.isWhole_whole _) scM0_1 (Memref.isWhole_whole _) scM0_2 (Memref.isWhole_whole _) scM0_5 (Memref.isWhole_whole _) (iblk m c 7 t) (iblk m c 8 t) (iblk m c 9 t) s.s0 s.s1 s.s2 s.s5 (x 0) (x 1))
    delta stepRunB.sl.r_4
    exact congrArg _ (eq_ix2 x)
  · refine Eq.trans ?_ (hG 0 (x 0) (x 1) _ (show 0 + 1 * (x 0).val = (x 0).val by omega) (show 0 + 1 * (x 1).val = 128 * 0 + (x 1).val by omega)).symm
    refine Eq.trans ?_ (zB0 c (grid0.coords t) (ms0_7 t) (hs0_7 t) (ms0_8 t) (hs0_8 t) (ms0_9 t) (hs0_9 t) scM0_0 (Memref.isWhole_whole _) scM0_1 (Memref.isWhole_whole _) scM0_2 (Memref.isWhole_whole _) scM0_5 (Memref.isWhole_whole _) (iblk m c 7 t) (iblk m c 8 t) (iblk m c 9 t) s.s0 s.s1 s.s2 s.s5 (x 0) (x 1))
    delta stepRunB.sl.r
    exact congrArg _ (eq_ix2 x)

theorem stepC_s3 (c : Dev nD) (t : Fin cfg0.N) (h : cond0_1 (grid0.coords t)) (s : St Ideal) (b : Fin 16) (l : Fin 128) :
    (stepStC m c t h s).s3 (ix2 b l) = max5 (s.s3 (ix2 b l)) (fun j => zT m c t s j b l) := by
  dsimp only [stepStC]
  rw [View.read_writes_eq_canon _ _ _ (ccovS3 m c t h s)]
  delta stepCAt stepRunC
  dsimp only
  rw [View.canon_unit_zero zero2, pay5_at, zC0, zC1, zC2, zC3, zC4]
  simp only [View.readAt_eq_ld, Memref.IsWhole.read_unread, read_unread_whole]
  pointwise [max5, sum5]

theorem stepC_s4 (c : Dev nD) (t : Fin cfg0.N) (h : cond0_1 (grid0.coords t)) (s : St Ideal) (b : Fin 16) (l : Fin 128) :
    (stepStC m c t h s).s4 (ix2 b l) = sum5 (s.s3 (ix2 b l)) (s.s4 (ix2 b l)) (max5 (s.s3 (ix2 b l)) (fun j => zT m c t s j b l)) (fun j => zT m c t s j b l) := by
  dsimp only [stepStC]
  rw [View.read_writes_eq_canon _ _ _ (ccovS4 m c t h s)]
  delta stepCAt stepRunC
  dsimp only
  rw [View.canon_unit_zero zero2, pay6_at, pay4_at _ _ _ _ _ _ _ _ _ _ (pay3_at _ _ _ _ _ _ _ _), zC0, zC1, zC2, zC3, zC4]
  simp only [View.readAt_eq_ld, Memref.IsWhole.read_unread, read_unread_whole]
  pointwise [max5, sum5]

theorem stepC_s5 (c : Dev nD) (t : Fin cfg0.N) (h : cond0_1 (grid0.coords t)) (s : St Ideal) (b : Fin 16) (n : Fin 20) (q : ℕ) (hq : q < 32000) (hx : iblk m c 7 t (ix2 b n) = BitVec.ofNat 32 q) :
    (stepStC m c t h s).s5 (ix2 b ⟨n.val, by omega⟩)
      = pick5 (s.s5 (ix2 b ⟨n.val, by omega⟩)) (q / 128) (grid0.coords t 0).val (fun j => zT m c t s j b ⟨q % 128, Nat.mod_lt _ (by decide)⟩) := by
  dsimp only [stepStC]
  rw [View.read_writes_eq_canon _ _ _ (ccovS5 m c t h s)]
  delta stepCAt stepRunC
  dsimp only
  rw [View.canon_unit_zero zero2, pay2_eq, pickC _ _ _ _ _ _ _ _ _ _ _ _ _ _ _ _ _ _ _ _ _ _ _ b n q hq hx]
  rfl

/-- The logits block the point writes. -/
theorem stepC_12 (c : Dev nD) (t : Fin cfg0.N) (h : cond0_1 (grid0.coords t)) (s : St Ideal) (y : S16x640.Idx) :
    VO0_12.read (Elt Ideal) (VO0_12.writes (Elt Ideal) VO0_12.junk ((stepCAt m c t h s).2.2.1)) y
      = zT m c t s ⟨(y 1).val / 128, by have : (y 1).val < 640 := (y 1).isLt; omega⟩ (y 0) ⟨(y 1).val % 128, Nat.mod_lt _ (by decide)⟩ := by
  have hG : ∀ (j : Fin 5) (b : Fin 16) (l : Fin 128) (y : S16x640.Idx), (y 0).val = b.val → (y 1).val = 128 * j.val + l.val →
      zT m c t s ⟨(y 1).val / 128, by have : (y 1).val < 640 := (y 1).isLt; omega⟩ (y 0) ⟨(y 1).val % 128, Nat.mod_lt _ (by decide)⟩ = zT m c t s j b l := by
    intro j b l y h0 h1
    have e0 : y 0 = b := Fin.ext h0
    have e1 : (⟨(y 1).val / 128, by have : (y 1).val < 640 := (y 1).isLt; omega⟩ : Fin 5) = j := Fin.ext (by simp only; omega)
    have e2 : (⟨(y 1).val % 128, Nat.mod_lt _ (by decide)⟩ : Fin 128) = l := Fin.ext (by simp only; omega)
    rw [e0, e1, e2]
  refine View.read_writes_apply_of_pieces _ _ (fun y => zT m c t s ⟨(y 1).val / 128, by have : (y 1).val < 640 := (y 1).isLt; omega⟩ (y 0) ⟨(y 1).val % 128, Nat.mod_lt _ (by decide)⟩) _ ?_ y (ccov12 m c t h s y)
  delta stepCAt stepRunC
  dsimp only
  intro p hp x
  simp only [List.mem_cons, List.not_mem_nil, or_false] at hp
  rcases hp with rfl | rfl | rfl | rfl | rfl
  · refine Eq.trans ?_ (hG 4 (x 0) (x 1) _ (show 0 + 1 * (x 0).val = (x 0).val by omega) (show 512 + 1 * (x 1).val = 128 * 4 + (x 1).val by omega)).symm
    refine Eq.trans ?_ (zC4 c (grid0.coords t) (ms0_8 t) (hs0_8 t) (ms0_9 t) (hs0_9 t) scM0_0 (Memref.isWhole_whole _) scM0_1 (Memref.isWhole_whole _) scM0_2 (Memref.isWhole_whole _) (iblk m c 8 t) (iblk m c 9 t) s.s0 s.s1 s.s2 (x 0) (x 1))
    delta stepRunC.sl.r_13
    exact congrArg _ (eq_ix2 x)
  · refine Eq.trans ?_ (hG 3 (x 0) (x 1) _ (show 0 + 1 * (x 0).val = (x 0).val by omega) (show 384 + 1 * (x 1).val = 128 * 3 + (x 1).val by omega)).symm
    refine Eq.trans ?_ (zC3 c (grid0.coords t) (ms0_8 t) (hs0_8 t) (ms0_9 t) (hs0_9 t) scM0_0 (Memref.isWhole_whole _) scM0_1 (Memref.isWhole_whole _) scM0_2 (Memref.isWhole_whole _) (iblk m c 8 t) (iblk m c 9 t) s.s0 s.s1 s.s2 (x 0) (x 1))
    delta stepRunC.sl.r_10
    exact congrArg _ (eq_ix2 x)
  · refine Eq.trans ?_ (hG 2 (x 0) (x 1) _ (show 0 + 1 * (x 0).val = (x 0).val by omega) (show 256 + 1 * (x 1).val = 128 * 2 + (x 1).val by omega)).symm
    refine Eq.trans ?_ (zC2 c (grid0.coords t) (ms0_8 t) (hs0_8 t) (ms0_9 t) (hs0_9 t) scM0_0 (Memref.isWhole_whole _) scM0_1 (Memref.isWhole_whole _) scM0_2 (Memref.isWhole_whole _) (iblk m c 8 t) (iblk m c 9 t) s.s0 s.s1 s.s2 (x 0) (x 1))
    delta stepRunC.sl.r_8
    exact congrArg _ (eq_ix2 x)
  · refine Eq.trans ?_ (hG 1 (x 0) (x 1) _ (show 0 + 1 * (x 0).val = (x 0).val by omega) (show 128 + 1 * (x 1).val = 128 * 1 + (x 1).val by omega)).symm
    refine Eq.trans ?_ (zC1 c (grid0.coords t) (ms0_7 t) (hs0_7 t) (ms0_8 t) (hs0_8 t) (ms0_9 t) (hs0_9 t) scM0_0 (Memref.isWhole_whole _) scM0_1 (Memref.isWhole_whole _) scM0_2 (Memref.isWhole_whole _) scM0_5 (Memref.isWhole_whole _) (iblk m c 7 t) (iblk m c 8 t) (iblk m c 9 t) s.s0 s.s1 s.s2 s.s5 (x 0) (x 1))
    delta stepRunC.sl.r_4
    exact congrArg _ (eq_ix2 x)
  · refine Eq.trans ?_ (hG 0 (x 0) (x 1) _ (show 0 + 1 * (x 0).val = (x 0).val by omega) (show 0 + 1 * (x 1).val = 128 * 0 + (x 1).val by omega)).symm
    refine Eq.trans ?_ (zC0 c (grid0.coords t) (ms0_7 t) (hs0_7 t) (ms0_8 t) (hs0_8 t) (ms0_9 t) (hs0_9 t) scM0_0 (Memref.isWhole_whole _) scM0_1 (Memref.isWhole_whole _) scM0_2 (Memref.isWhole_whole _) scM0_5 (Memref.isWhole_whole _) (iblk m c 7 t) (iblk m c 8 t) (iblk m c 9 t) s.s0 s.s1 s.s2 s.s5 (x 0) (x 1))
    delta stepRunC.sl.r
    exact congrArg _ (eq_ix2 x)

/-- The row of logsumexps the last point writes. -/
theorem stepC_10 (c : Dev nD) (t : Fin cfg0.N) (h : cond0_1 (grid0.coords t)) (s : St Ideal) (z : Fin 1) (b : Fin 16) :
    VO0_10.read (Elt Ideal) (VO0_10.writes (Elt Ideal) VO0_10.junk ((stepCAt m c t h s).1)) (ix2 z b)
      = Ideal.log (∑ l : Fin 128, (stepStC m c t h s).s4 (ix2 b l) * Ideal.exp ((stepStC m c t h s).s3 (ix2 b l) - Finset.univ.sup fun l : Fin 128 => (stepStC m c t h s).s3 (ix2 b l)))
        + Finset.univ.sup fun l : Fin 128 => (stepStC m c t h s).s3 (ix2 b l) := by
  rw [View.read_writes_eq_canon _ _ _ (ccov10 m c t h s)]
  simp only [stepC_s3, stepC_s4]
  delta stepCAt stepRunC
  dsimp only
  rw [View.canon_unit_zero zero2, pay9_at, pay7_at]
  simp only [pay3_at, pay4_at _ _ _ _ _ _ _ _ _ _ (pay3_at _ _ _ _ _ _ _ _), zC0, zC1, zC2, zC3, zC4]
  simp only [View.readAt_eq_ld, Memref.IsWhole.read_unread, read_unread_whole]
  pointwise [max5, sum5]

/-- The candidates' log-probabilities the last point writes. -/
theorem stepC_11 (c : Dev nD) (t : Fin cfg0.N) (h : cond0_1 (grid0.coords t)) (s : St Ideal) (b : Fin 16) (n : Fin 20) :
    VO0_11.read (Elt Ideal) (VO0_11.writes (Elt Ideal) VO0_11.junk ((stepCAt m c t h s).2.1)) (ix2 b n)
      = (stepStC m c t h s).s5 (ix2 b ⟨n.val, by omega⟩) - VO0_10.read (Elt Ideal) (VO0_10.writes (Elt Ideal) VO0_10.junk ((stepCAt m c t h s).1)) (ix2 0 b) := by
  rw [View.read_writes_eq_canon _ _ _ (ccov11 m c t h s), View.read_writes_eq_canon _ _ _ (ccov10 m c t h s)]
  dsimp only [stepStC]
  rw [View.read_writes_eq_canon _ _ _ (ccovS5 m c t h s)]
  delta stepCAt stepRunC
  dsimp only
  rw [View.canon_unit_zero zero2, View.canon_unit_zero zero2, View.canon_unit_zero zero2, pay9_at, pay8_at, pay2_eq]

end Cert.KernelIdeal.Gen

end
-- ==== Proof.Val.Init.lean ====
module

public import proofs.«01_k».proof.Proof.Body.State
public import Idealize.ShloMosaic.Lib.Pointwise
public import Idealize.ShloMosaic.Lib.Pipeline.Value
public import Idealize.ShloMosaic.Lib.Pipeline.ReadBack

@[expose] public section

set_option maxRecDepth 16384

/-! What the first point fills the scratch with, at an index. -/

noncomputable section

namespace Cert.KernelIdeal.Gen

open Idealize.ShloMosaic Idealize.ShloMosaic.TcCoe Idealize.ShloMosaic.Tactic

variable (m : (ℓ : Loc nD τ sig) → Buf (Elt Ideal) ℓ)

/-- How often chunk `h`, lane `l` occurs in row `b`'s history. -/
def cnt (x0 : Vec Ideal S16 .i32) (x6 : Vec Ideal S16x1024 .i32) (b : Fin 16) (h l : ℕ) : EReal :=
  ∑ x : Fin 1024,
    (FloatOps.sitofp (F := Ideal) .f32 (BitVec.setWidth 32 (IntOp.cmpi .eq (BitVec.ofNat 32 h)
      (Scalar.select (IntOp.cmpi .slt (BitVec.ofNat 32 x.val) (x0 (ix1 b))) (IntOp.shrsi .vector (x6 (ix2 b x)) 7#32) 4294967295#32))) : EReal) *
    (FloatOps.sitofp (F := Ideal) .f32 (BitVec.setWidth 32 (IntOp.cmpi .eq (BitVec.ofNat 32 l) (IntOp.andi (x6 (ix2 b x)) 127#32))) : EReal)

theorem count0 (c : Dev nD) (a0 : Memref sig .tc .smem S16 .i32) (h0 : a0.IsWhole) (a6 : Memref sig .tc .vmem S16x1024 .i32) (h6 : a6.IsWhole) (x0 : Vec Ideal S16 .i32) (x6 : Vec Ideal S16x1024 .i32) (h : Fin 256) (l : Fin 128) :
    k0_pay29 (F := Ideal) (View.readAt (Elt Ideal) a6.view (Rect.unit (s := S16x1024) ![0, 0] ![1, 1024] inb_S16x1024_S1x1024_0_0).toLoadRect (h6.unread x6)) (initRun.sl.r_71 c a0 h0 x0) (ix2 h l) = cnt x0 x6 0 h.val l.val := by
  delta initRun.sl.r_71 initRun.sl.r_72 initRun.sl.r_73 initRun.sl.r_74 initRun.sl.r_75 initRun.sl.r_76 initRun.sl.r_77 initRun.sl.r_78 initRun.sl.r_79 initRun.sl.r_80 initRun.sl.r_81 initRun.sl.r_82 initRun.sl.r_83 initRun.sl.r_84 initRun.sl.r_85 initRun.sl.r_86 initRun.sl.r_87 initRun.sl.r_88 initRun.sl.r_89 initRun.sl.r_90 initRun.sl.r_91 initRun.sl.r_92 initRun.sl.r_93 initRun.sl.r_94 initRun.sl.r_95 initRun.sl.r_96 initRun.sl.r_97 initRun.sl.r_98 initRun.sl.r_99 initRun.sl.r_100 initRun.sl.v584 initRun.sl.v585 initRun.sl.v586 initRun.sl.cst_235
  simp only [View.readAt_eq_ld, h0.read_unread, h6.read_unread]
  pointwise [k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, cnt]

theorem count1 (c : Dev nD) (a0 : Memref sig .tc .smem S16 .i32) (h0 : a0.IsWhole) (a6 : Memref sig .tc .vmem S16x1024 .i32) (h6 : a6.IsWhole) (x0 : Vec Ideal S16 .i32) (x6 : Vec Ideal S16x1024 .i32) (h : Fin 256) (l : Fin 128) :
    k0_pay30 (F := Ideal) (initRun.sl.v584) (initRun.sl.v585) (initRun.sl.v586) (View.readAt (Elt Ideal) a6.view (Rect.unit (s := S16x1024) ![1, 0] ![1, 1024] inb_S16x1024_S1x1024_1_0).toLoadRect (h6.unread x6)) (initRun.sl.r_72 c a0 h0 x0) (ix2 h l) = cnt x0 x6 1 h.val l.val := by
  delta initRun.sl.r_71 initRun.sl.r_72 initRun.sl.r_73 initRun.sl.r_74 initRun.sl.r_75 initRun.sl.r_76 initRun.sl.r_77 initRun.sl.r_78 initRun.sl.r_79 initRun.sl.r_80 initRun.sl.r_81 initRun.sl.r_82 initRun.sl.r_83 initRun.sl.r_84 initRun.sl.r_85 initRun.sl.r_86 initRun.sl.r_87 initRun.sl.r_88 initRun.sl.r_89 initRun.sl.r_90 initRun.sl.r_91 initRun.sl.r_92 initRun.sl.r_93 initRun.sl.r_94 initRun.sl.r_95 initRun.sl.r_96 initRun.sl.r_97 initRun.sl.r_98 initRun.sl.r_99 initRun.sl.r_100 initRun.sl.v584 initRun.sl.v585 initRun.sl.v586 initRun.sl.cst_235
  simp only [View.readAt_eq_ld, h0.read_unread, h6.read_unread]
  pointwise [k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, cnt]

theorem count2 (c : Dev nD) (a0 : Memref sig .tc .smem S16 .i32) (h0 : a0.IsWhole) (a6 : Memref sig .tc .vmem S16x1024 .i32) (h6 : a6.IsWhole) (x0 : Vec Ideal S16 .i32) (x6 : Vec Ideal S16x1024 .i32) (h : Fin 256) (l : Fin 128) :
    k0_pay33 (F := Ideal) (initRun.sl.r_74 c a0 h0 a6 h6 x0 x6) (initRun.sl.r_75 c a6 h6 x6) (initRun.sl.cst_235) (ix2 h l) = cnt x0 x6 2 h.val l.val := by
  delta initRun.sl.r_71 initRun.sl.r_72 initRun.sl.r_73 initRun.sl.r_74 initRun.sl.r_75 initRun.sl.r_76 initRun.sl.r_77 initRun.sl.r_78 initRun.sl.r_79 initRun.sl.r_80 initRun.sl.r_81 initRun.sl.r_82 initRun.sl.r_83 initRun.sl.r_84 initRun.sl.r_85 initRun.sl.r_86 initRun.sl.r_87 initRun.sl.r_88 initRun.sl.r_89 initRun.sl.r_90 initRun.sl.r_91 initRun.sl.r_92 initRun.sl.r_93 initRun.sl.r_94 initRun.sl.r_95 initRun.sl.r_96 initRun.sl.r_97 initRun.sl.r_98 initRun.sl.r_99 initRun.sl.r_100 initRun.sl.v584 initRun.sl.v585 initRun.sl.v586 initRun.sl.cst_235
  simp only [View.readAt_eq_ld, h0.read_unread, h6.read_unread]
  pointwise [k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, cnt]

theorem count3 (c : Dev nD) (a0 : Memref sig .tc .smem S16 .i32) (h0 : a0.IsWhole) (a6 : Memref sig .tc .vmem S16x1024 .i32) (h6 : a6.IsWhole) (x0 : Vec Ideal S16 .i32) (x6 : Vec Ideal S16x1024 .i32) (h : Fin 256) (l : Fin 128) :
    k0_pay34 (F := Ideal) (initRun.sl.v584) (initRun.sl.v585) (initRun.sl.v586) (View.readAt (Elt Ideal) a6.view (Rect.unit (s := S16x1024) ![3, 0] ![1, 1024] inb_S16x1024_S1x1024_3_0).toLoadRect (h6.unread x6)) (initRun.sl.r_76 c a0 h0 x0) (ix2 h l) = cnt x0 x6 3 h.val l.val := by
  delta initRun.sl.r_71 initRun.sl.r_72 initRun.sl.r_73 initRun.sl.r_74 initRun.sl.r_75 initRun.sl.r_76 initRun.sl.r_77 initRun.sl.r_78 initRun.sl.r_79 initRun.sl.r_80 initRun.sl.r_81 initRun.sl.r_82 initRun.sl.r_83 initRun.sl.r_84 initRun.sl.r_85 initRun.sl.r_86 initRun.sl.r_87 initRun.sl.r_88 initRun.sl.r_89 initRun.sl.r_90 initRun.sl.r_91 initRun.sl.r_92 initRun.sl.r_93 initRun.sl.r_94 initRun.sl.r_95 initRun.sl.r_96 initRun.sl.r_97 initRun.sl.r_98 initRun.sl.r_99 initRun.sl.r_100 initRun.sl.v584 initRun.sl.v585 initRun.sl.v586 initRun.sl.cst_235
  simp only [View.readAt_eq_ld, h0.read_unread, h6.read_unread]
  pointwise [k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, cnt]

theorem count4 (c : Dev nD) (a0 : Memref sig .tc .smem S16 .i32) (h0 : a0.IsWhole) (a6 : Memref sig .tc .vmem S16x1024 .i32) (h6 : a6.IsWhole) (x0 : Vec Ideal S16 .i32) (x6 : Vec Ideal S16x1024 .i32) (h : Fin 256) (l : Fin 128) :
    k0_pay37 (F := Ideal) (initRun.sl.v586) (initRun.sl.r_78 c a6 h6 x6) (initRun.sl.r_79 c a0 h0 a6 h6 x0 x6) (ix2 h l) = cnt x0 x6 4 h.val l.val := by
  delta initRun.sl.r_71 initRun.sl.r_72 initRun.sl.r_73 initRun.sl.r_74 initRun.sl.r_75 initRun.sl.r_76 initRun.sl.r_77 initRun.sl.r_78 initRun.sl.r_79 initRun.sl.r_80 initRun.sl.r_81 initRun.sl.r_82 initRun.sl.r_83 initRun.sl.r_84 initRun.sl.r_85 initRun.sl.r_86 initRun.sl.r_87 initRun.sl.r_88 initRun.sl.r_89 initRun.sl.r_90 initRun.sl.r_91 initRun.sl.r_92 initRun.sl.r_93 initRun.sl.r_94 initRun.sl.r_95 initRun.sl.r_96 initRun.sl.r_97 initRun.sl.r_98 initRun.sl.r_99 initRun.sl.r_100 initRun.sl.v584 initRun.sl.v585 initRun.sl.v586 initRun.sl.cst_235
  simp only [View.readAt_eq_ld, h0.read_unread, h6.read_unread]
  pointwise [k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, cnt]

theorem count5 (c : Dev nD) (a0 : Memref sig .tc .smem S16 .i32) (h0 : a0.IsWhole) (a6 : Memref sig .tc .vmem S16x1024 .i32) (h6 : a6.IsWhole) (x0 : Vec Ideal S16 .i32) (x6 : Vec Ideal S16x1024 .i32) (h : Fin 256) (l : Fin 128) :
    k0_pay38 (F := Ideal) (initRun.sl.v584) (initRun.sl.v585) (initRun.sl.v586) (View.readAt (Elt Ideal) a6.view (Rect.unit (s := S16x1024) ![5, 0] ![1, 1024] inb_S16x1024_S1x1024_5_0).toLoadRect (h6.unread x6)) (initRun.sl.r_80 c a0 h0 x0) (ix2 h l) = cnt x0 x6 5 h.val l.val := by
  delta initRun.sl.r_71 initRun.sl.r_72 initRun.sl.r_73 initRun.sl.r_74 initRun.sl.r_75 initRun.sl.r_76 initRun.sl.r_77 initRun.sl.r_78 initRun.sl.r_79 initRun.sl.r_80 initRun.sl.r_81 initRun.sl.r_82 initRun.sl.r_83 initRun.sl.r_84 initRun.sl.r_85 initRun.sl.r_86 initRun.sl.r_87 initRun.sl.r_88 initRun.sl.r_89 initRun.sl.r_90 initRun.sl.r_91 initRun.sl.r_92 initRun.sl.r_93 initRun.sl.r_94 initRun.sl.r_95 initRun.sl.r_96 initRun.sl.r_97 initRun.sl.r_98 initRun.sl.r_99 initRun.sl.r_100 initRun.sl.v584 initRun.sl.v585 initRun.sl.v586 initRun.sl.cst_235
  simp only [View.readAt_eq_ld, h0.read_unread, h6.read_unread]
  pointwise [k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, cnt]

theorem count6 (c : Dev nD) (a0 : Memref sig .tc .smem S16 .i32) (h0 : a0.IsWhole) (a6 : Memref sig .tc .vmem S16x1024 .i32) (h6 : a6.IsWhole) (x0 : Vec Ideal S16 .i32) (x6 : Vec Ideal S16x1024 .i32) (h : Fin 256) (l : Fin 128) :
    k0_pay41 (F := Ideal) (initRun.sl.v585) (initRun.sl.v586) (initRun.sl.r_82 c a6 h6 x6) (initRun.sl.r_83 c a0 h0 x0) (initRun.sl.r_84 c a6 h6 x6) 4294967295#32 (ix2 h l) = cnt x0 x6 6 h.val l.val := by
  delta initRun.sl.r_71 initRun.sl.r_72 initRun.sl.r_73 initRun.sl.r_74 initRun.sl.r_75 initRun.sl.r_76 initRun.sl.r_77 initRun.sl.r_78 initRun.sl.r_79 initRun.sl.r_80 initRun.sl.r_81 initRun.sl.r_82 initRun.sl.r_83 initRun.sl.r_84 initRun.sl.r_85 initRun.sl.r_86 initRun.sl.r_87 initRun.sl.r_88 initRun.sl.r_89 initRun.sl.r_90 initRun.sl.r_91 initRun.sl.r_92 initRun.sl.r_93 initRun.sl.r_94 initRun.sl.r_95 initRun.sl.r_96 initRun.sl.r_97 initRun.sl.r_98 initRun.sl.r_99 initRun.sl.r_100 initRun.sl.v584 initRun.sl.v585 initRun.sl.v586 initRun.sl.cst_235
  simp only [View.readAt_eq_ld, h0.read_unread, h6.read_unread]
  pointwise [k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, cnt]

theorem count7 (c : Dev nD) (a0 : Memref sig .tc .smem S16 .i32) (h0 : a0.IsWhole) (a6 : Memref sig .tc .vmem S16x1024 .i32) (h6 : a6.IsWhole) (x0 : Vec Ideal S16 .i32) (x6 : Vec Ideal S16x1024 .i32) (h : Fin 256) (l : Fin 128) :
    k0_pay42 (F := Ideal) (initRun.sl.v584) (initRun.sl.v585) (initRun.sl.v586) (View.readAt (Elt Ideal) a6.view (Rect.unit (s := S16x1024) ![7, 0] ![1, 1024] inb_S16x1024_S1x1024_7_0).toLoadRect (h6.unread x6)) (initRun.sl.r_85 c a0 h0 x0) (ix2 h l) = cnt x0 x6 7 h.val l.val := by
  delta initRun.sl.r_71 initRun.sl.r_72 initRun.sl.r_73 initRun.sl.r_74 initRun.sl.r_75 initRun.sl.r_76 initRun.sl.r_77 initRun.sl.r_78 initRun.sl.r_79 initRun.sl.r_80 initRun.sl.r_81 initRun.sl.r_82 initRun.sl.r_83 initRun.sl.r_84 initRun.sl.r_85 initRun.sl.r_86 initRun.sl.r_87 initRun.sl.r_88 initRun.sl.r_89 initRun.sl.r_90 initRun.sl.r_91 initRun.sl.r_92 initRun.sl.r_93 initRun.sl.r_94 initRun.sl.r_95 initRun.sl.r_96 initRun.sl.r_97 initRun.sl.r_98 initRun.sl.r_99 initRun.sl.r_100 initRun.sl.v584 initRun.sl.v585 initRun.sl.v586 initRun.sl.cst_235
  simp only [View.readAt_eq_ld, h0.read_unread, h6.read_unread]
  pointwise [k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, cnt]

theorem count8 (c : Dev nD) (a0 : Memref sig .tc .smem S16 .i32) (h0 : a0.IsWhole) (a6 : Memref sig .tc .vmem S16x1024 .i32) (h6 : a6.IsWhole) (x0 : Vec Ideal S16 .i32) (x6 : Vec Ideal S16x1024 .i32) (h : Fin 256) (l : Fin 128) :
    k0_pay43 (F := Ideal) (initRun.sl.v584) (initRun.sl.v585) (initRun.sl.v586) (initRun.sl.r_86 c a6 h6 x6) (initRun.sl.r_87 c a0 h0 x0) (ix2 h l) = cnt x0 x6 8 h.val l.val := by
  delta initRun.sl.r_71 initRun.sl.r_72 initRun.sl.r_73 initRun.sl.r_74 initRun.sl.r_75 initRun.sl.r_76 initRun.sl.r_77 initRun.sl.r_78 initRun.sl.r_79 initRun.sl.r_80 initRun.sl.r_81 initRun.sl.r_82 initRun.sl.r_83 initRun.sl.r_84 initRun.sl.r_85 initRun.sl.r_86 initRun.sl.r_87 initRun.sl.r_88 initRun.sl.r_89 initRun.sl.r_90 initRun.sl.r_91 initRun.sl.r_92 initRun.sl.r_93 initRun.sl.r_94 initRun.sl.r_95 initRun.sl.r_96 initRun.sl.r_97 initRun.sl.r_98 initRun.sl.r_99 initRun.sl.r_100 initRun.sl.v584 initRun.sl.v585 initRun.sl.v586 initRun.sl.cst_235
  simp only [View.readAt_eq_ld, h0.read_unread, h6.read_unread]
  pointwise [k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, cnt]

theorem count9 (c : Dev nD) (a0 : Memref sig .tc .smem S16 .i32) (h0 : a0.IsWhole) (a6 : Memref sig .tc .vmem S16x1024 .i32) (h6 : a6.IsWhole) (x0 : Vec Ideal S16 .i32) (x6 : Vec Ideal S16x1024 .i32) (h : Fin 256) (l : Fin 128) :
    k0_pay45 (F := Ideal) (initRun.sl.r_89 c a0 h0 a6 h6 x0 x6) (ix2 h l) = cnt x0 x6 9 h.val l.val := by
  delta initRun.sl.r_71 initRun.sl.r_72 initRun.sl.r_73 initRun.sl.r_74 initRun.sl.r_75 initRun.sl.r_76 initRun.sl.r_77 initRun.sl.r_78 initRun.sl.r_79 initRun.sl.r_80 initRun.sl.r_81 initRun.sl.r_82 initRun.sl.r_83 initRun.sl.r_84 initRun.sl.r_85 initRun.sl.r_86 initRun.sl.r_87 initRun.sl.r_88 initRun.sl.r_89 initRun.sl.r_90 initRun.sl.r_91 initRun.sl.r_92 initRun.sl.r_93 initRun.sl.r_94 initRun.sl.r_95 initRun.sl.r_96 initRun.sl.r_97 initRun.sl.r_98 initRun.sl.r_99 initRun.sl.r_100 initRun.sl.v584 initRun.sl.v585 initRun.sl.v586 initRun.sl.cst_235
  simp only [View.readAt_eq_ld, h0.read_unread, h6.read_unread]
  pointwise [k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, cnt]

theorem count10 (c : Dev nD) (a0 : Memref sig .tc .smem S16 .i32) (h0 : a0.IsWhole) (a6 : Memref sig .tc .vmem S16x1024 .i32) (h6 : a6.IsWhole) (x0 : Vec Ideal S16 .i32) (x6 : Vec Ideal S16x1024 .i32) (h : Fin 256) (l : Fin 128) :
    k0_pay46 (F := Ideal) (initRun.sl.v584) (initRun.sl.v585) (initRun.sl.v586) (View.readAt (Elt Ideal) a6.view (Rect.unit (s := S16x1024) ![10, 0] ![1, 1024] inb_S16x1024_S1x1024_10_0).toLoadRect (h6.unread x6)) (initRun.sl.r_90 c a0 h0 x0) (ix2 h l) = cnt x0 x6 10 h.val l.val := by
  delta initRun.sl.r_71 initRun.sl.r_72 initRun.sl.r_73 initRun.sl.r_74 initRun.sl.r_75 initRun.sl.r_76 initRun.sl.r_77 initRun.sl.r_78 initRun.sl.r_79 initRun.sl.r_80 initRun.sl.r_81 initRun.sl.r_82 initRun.sl.r_83 initRun.sl.r_84 initRun.sl.r_85 initRun.sl.r_86 initRun.sl.r_87 initRun.sl.r_88 initRun.sl.r_89 initRun.sl.r_90 initRun.sl.r_91 initRun.sl.r_92 initRun.sl.r_93 initRun.sl.r_94 initRun.sl.r_95 initRun.sl.r_96 initRun.sl.r_97 initRun.sl.r_98 initRun.sl.r_99 initRun.sl.r_100 initRun.sl.v584 initRun.sl.v585 initRun.sl.v586 initRun.sl.cst_235
  simp only [View.readAt_eq_ld, h0.read_unread, h6.read_unread]
  pointwise [k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, cnt]

theorem count11 (c : Dev nD) (a0 : Memref sig .tc .smem S16 .i32) (h0 : a0.IsWhole) (a6 : Memref sig .tc .vmem S16x1024 .i32) (h6 : a6.IsWhole) (x0 : Vec Ideal S16 .i32) (x6 : Vec Ideal S16x1024 .i32) (h : Fin 256) (l : Fin 128) :
    k0_pay49 (F := Ideal) (initRun.sl.v586) (initRun.sl.r_92 c a6 h6 x6) (initRun.sl.r_93 c a0 h0 a6 h6 x0 x6) (ix2 h l) = cnt x0 x6 11 h.val l.val := by
  delta initRun.sl.r_71 initRun.sl.r_72 initRun.sl.r_73 initRun.sl.r_74 initRun.sl.r_75 initRun.sl.r_76 initRun.sl.r_77 initRun.sl.r_78 initRun.sl.r_79 initRun.sl.r_80 initRun.sl.r_81 initRun.sl.r_82 initRun.sl.r_83 initRun.sl.r_84 initRun.sl.r_85 initRun.sl.r_86 initRun.sl.r_87 initRun.sl.r_88 initRun.sl.r_89 initRun.sl.r_90 initRun.sl.r_91 initRun.sl.r_92 initRun.sl.r_93 initRun.sl.r_94 initRun.sl.r_95 initRun.sl.r_96 initRun.sl.r_97 initRun.sl.r_98 initRun.sl.r_99 initRun.sl.r_100 initRun.sl.v584 initRun.sl.v585 initRun.sl.v586 initRun.sl.cst_235
  simp only [View.readAt_eq_ld, h0.read_unread, h6.read_unread]
  pointwise [k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, cnt]

theorem count12 (c : Dev nD) (a0 : Memref sig .tc .smem S16 .i32) (h0 : a0.IsWhole) (a6 : Memref sig .tc .vmem S16x1024 .i32) (h6 : a6.IsWhole) (x0 : Vec Ideal S16 .i32) (x6 : Vec Ideal S16x1024 .i32) (h : Fin 256) (l : Fin 128) :
    k0_pay50 (F := Ideal) (initRun.sl.v584) (initRun.sl.v585) (initRun.sl.v586) (View.readAt (Elt Ideal) a6.view (Rect.unit (s := S16x1024) ![12, 0] ![1, 1024] inb_S16x1024_S1x1024_12_0).toLoadRect (h6.unread x6)) (initRun.sl.r_94 c a0 h0 x0) (ix2 h l) = cnt x0 x6 12 h.val l.val := by
  delta initRun.sl.r_71 initRun.sl.r_72 initRun.sl.r_73 initRun.sl.r_74 initRun.sl.r_75 initRun.sl.r_76 initRun.sl.r_77 initRun.sl.r_78 initRun.sl.r_79 initRun.sl.r_80 initRun.sl.r_81 initRun.sl.r_82 initRun.sl.r_83 initRun.sl.r_84 initRun.sl.r_85 initRun.sl.r_86 initRun.sl.r_87 initRun.sl.r_88 initRun.sl.r_89 initRun.sl.r_90 initRun.sl.r_91 initRun.sl.r_92 initRun.sl.r_93 initRun.sl.r_94 initRun.sl.r_95 initRun.sl.r_96 initRun.sl.r_97 initRun.sl.r_98 initRun.sl.r_99 initRun.sl.r_100 initRun.sl.v584 initRun.sl.v585 initRun.sl.v586 initRun.sl.cst_235
  simp only [View.readAt_eq_ld, h0.read_unread, h6.read_unread]
  pointwise [k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, cnt]

theorem count13 (c : Dev nD) (a0 : Memref sig .tc .smem S16 .i32) (h0 : a0.IsWhole) (a6 : Memref sig .tc .vmem S16x1024 .i32) (h6 : a6.IsWhole) (x0 : Vec Ideal S16 .i32) (x6 : Vec Ideal S16x1024 .i32) (h : Fin 256) (l : Fin 128) :
    k0_pay52 (F := Ideal) (initRun.sl.v585) (initRun.sl.v586) (initRun.sl.r_96 c a6 h6 x6) (initRun.sl.r_97 c a0 h0 a6 h6 x0 x6) (ix2 h l) = cnt x0 x6 13 h.val l.val := by
  delta initRun.sl.r_71 initRun.sl.r_72 initRun.sl.r_73 initRun.sl.r_74 initRun.sl.r_75 initRun.sl.r_76 initRun.sl.r_77 initRun.sl.r_78 initRun.sl.r_79 initRun.sl.r_80 initRun.sl.r_81 initRun.sl.r_82 initRun.sl.r_83 initRun.sl.r_84 initRun.sl.r_85 initRun.sl.r_86 initRun.sl.r_87 initRun.sl.r_88 initRun.sl.r_89 initRun.sl.r_90 initRun.sl.r_91 initRun.sl.r_92 initRun.sl.r_93 initRun.sl.r_94 initRun.sl.r_95 initRun.sl.r_96 initRun.sl.r_97 initRun.sl.r_98 initRun.sl.r_99 initRun.sl.r_100 initRun.sl.v584 initRun.sl.v585 initRun.sl.v586 initRun.sl.cst_235
  simp only [View.readAt_eq_ld, h0.read_unread, h6.read_unread]
  pointwise [k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, cnt]

theorem count14 (c : Dev nD) (a0 : Memref sig .tc .smem S16 .i32) (h0 : a0.IsWhole) (a6 : Memref sig .tc .vmem S16x1024 .i32) (h6 : a6.IsWhole) (x0 : Vec Ideal S16 .i32) (x6 : Vec Ideal S16x1024 .i32) (h : Fin 256) (l : Fin 128) :
    k0_pay53 (F := Ideal) (initRun.sl.v584) (initRun.sl.v585) (initRun.sl.v586) (View.readAt (Elt Ideal) a6.view (Rect.unit (s := S16x1024) ![14, 0] ![1, 1024] inb_S16x1024_S1x1024_14_0).toLoadRect (h6.unread x6)) (initRun.sl.r_98 c a0 h0 x0) (ix2 h l) = cnt x0 x6 14 h.val l.val := by
  delta initRun.sl.r_71 initRun.sl.r_72 initRun.sl.r_73 initRun.sl.r_74 initRun.sl.r_75 initRun.sl.r_76 initRun.sl.r_77 initRun.sl.r_78 initRun.sl.r_79 initRun.sl.r_80 initRun.sl.r_81 initRun.sl.r_82 initRun.sl.r_83 initRun.sl.r_84 initRun.sl.r_85 initRun.sl.r_86 initRun.sl.r_87 initRun.sl.r_88 initRun.sl.r_89 initRun.sl.r_90 initRun.sl.r_91 initRun.sl.r_92 initRun.sl.r_93 initRun.sl.r_94 initRun.sl.r_95 initRun.sl.r_96 initRun.sl.r_97 initRun.sl.r_98 initRun.sl.r_99 initRun.sl.r_100 initRun.sl.v584 initRun.sl.v585 initRun.sl.v586 initRun.sl.cst_235
  simp only [View.readAt_eq_ld, h0.read_unread, h6.read_unread]
  pointwise [k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, cnt]

theorem count15 (c : Dev nD) (a0 : Memref sig .tc .smem S16 .i32) (h0 : a0.IsWhole) (a6 : Memref sig .tc .vmem S16x1024 .i32) (h6 : a6.IsWhole) (x0 : Vec Ideal S16 .i32) (x6 : Vec Ideal S16x1024 .i32) (h : Fin 256) (l : Fin 128) :
    k0_pay54 (F := Ideal) (initRun.sl.v584) (initRun.sl.v585) (initRun.sl.v586) (initRun.sl.r_100 c a6 h6 x6) (initRun.sl.r_99 c a0 h0 x0) (ix2 h l) = cnt x0 x6 15 h.val l.val := by
  delta initRun.sl.r_71 initRun.sl.r_72 initRun.sl.r_73 initRun.sl.r_74 initRun.sl.r_75 initRun.sl.r_76 initRun.sl.r_77 initRun.sl.r_78 initRun.sl.r_79 initRun.sl.r_80 initRun.sl.r_81 initRun.sl.r_82 initRun.sl.r_83 initRun.sl.r_84 initRun.sl.r_85 initRun.sl.r_86 initRun.sl.r_87 initRun.sl.r_88 initRun.sl.r_89 initRun.sl.r_90 initRun.sl.r_91 initRun.sl.r_92 initRun.sl.r_93 initRun.sl.r_94 initRun.sl.r_95 initRun.sl.r_96 initRun.sl.r_97 initRun.sl.r_98 initRun.sl.r_99 initRun.sl.r_100 initRun.sl.v584 initRun.sl.v585 initRun.sl.v586 initRun.sl.cst_235
  simp only [View.readAt_eq_ld, h0.read_unread, h6.read_unread]
  pointwise [k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, cnt]

theorem col0 (c : Dev nD) (a : Memref sig .tc .smem S16 .f32) (ha : a.IsWhole) (x : Vec Ideal S16 .f32) (b : Fin 16) (l : Fin 128) : k0_pay14 (F := Ideal) (initRun.sl.r_16 c a ha x) (k0_pay13 (initRun.sl.v248)) (initRun.sl.r_17 c a ha x) (ix3 0 b l) = x (ix1 b) := by
  delta initRun.sl.r initRun.sl.r_1 initRun.sl.r_2 initRun.sl.r_3 initRun.sl.r_4 initRun.sl.r_5 initRun.sl.r_6 initRun.sl.r_7 initRun.sl.r_8 initRun.sl.r_9 initRun.sl.r_10 initRun.sl.r_11 initRun.sl.r_12 initRun.sl.r_13 initRun.sl.r_14 initRun.sl.r_15 initRun.sl.r_16 initRun.sl.r_17 initRun.sl.r_18 initRun.sl.r_19 initRun.sl.r_20 initRun.sl.r_21 initRun.sl.r_22 initRun.sl.r_23 initRun.sl.r_24 initRun.sl.r_25 initRun.sl.r_26 initRun.sl.r_27 initRun.sl.r_28 initRun.sl.r_29 initRun.sl.r_30 initRun.sl.r_31 initRun.sl.r_32 initRun.sl.r_33 initRun.sl.r_34 initRun.sl.r_35 initRun.sl.r_36 initRun.sl.r_37 initRun.sl.r_38 initRun.sl.r_39 initRun.sl.r_40 initRun.sl.r_41 initRun.sl.r_42 initRun.sl.r_43 initRun.sl.r_44 initRun.sl.r_45 initRun.sl.r_46 initRun.sl.r_47 initRun.sl.r_48 initRun.sl.r_49 initRun.sl.r_50 initRun.sl.r_51 initRun.sl.r_52 initRun.sl.r_53 initRun.sl.r_54 initRun.sl.r_55 initRun.sl.r_56 initRun.sl.r_57 initRun.sl.r_58 initRun.sl.r_59 initRun.sl.r_60 initRun.sl.r_61 initRun.sl.r_62 initRun.sl.r_63 initRun.sl.r_64 initRun.sl.r_65 initRun.sl.r_66 initRun.sl.r_67 initRun.sl.r_68 initRun.sl.r_69 initRun.sl.r_70 initRun.sl.v248
  simp only [View.readAt_eq_ld, ha.read_unread]
  pointwise [k0_pay11, k0_pay12, k0_pay13, k0_pay14, k0_pay15, k0_pay16, k0_pay17, k0_pay18, k0_pay19, k0_pay20, k0_pay21, k0_pay22, k0_pay23, k0_pay24]
  fin_cases b <;> rfl

theorem col1 (c : Dev nD) (a : Memref sig .tc .smem S16 .f32) (ha : a.IsWhole) (x : Vec Ideal S16 .f32) (b : Fin 16) (l : Fin 128) : k0_pay18 (F := Ideal) (initRun.sl.r_35 c a ha x) (ix3 0 b l) = x (ix1 b) := by
  delta initRun.sl.r initRun.sl.r_1 initRun.sl.r_2 initRun.sl.r_3 initRun.sl.r_4 initRun.sl.r_5 initRun.sl.r_6 initRun.sl.r_7 initRun.sl.r_8 initRun.sl.r_9 initRun.sl.r_10 initRun.sl.r_11 initRun.sl.r_12 initRun.sl.r_13 initRun.sl.r_14 initRun.sl.r_15 initRun.sl.r_16 initRun.sl.r_17 initRun.sl.r_18 initRun.sl.r_19 initRun.sl.r_20 initRun.sl.r_21 initRun.sl.r_22 initRun.sl.r_23 initRun.sl.r_24 initRun.sl.r_25 initRun.sl.r_26 initRun.sl.r_27 initRun.sl.r_28 initRun.sl.r_29 initRun.sl.r_30 initRun.sl.r_31 initRun.sl.r_32 initRun.sl.r_33 initRun.sl.r_34 initRun.sl.r_35 initRun.sl.r_36 initRun.sl.r_37 initRun.sl.r_38 initRun.sl.r_39 initRun.sl.r_40 initRun.sl.r_41 initRun.sl.r_42 initRun.sl.r_43 initRun.sl.r_44 initRun.sl.r_45 initRun.sl.r_46 initRun.sl.r_47 initRun.sl.r_48 initRun.sl.r_49 initRun.sl.r_50 initRun.sl.r_51 initRun.sl.r_52 initRun.sl.r_53 initRun.sl.r_54 initRun.sl.r_55 initRun.sl.r_56 initRun.sl.r_57 initRun.sl.r_58 initRun.sl.r_59 initRun.sl.r_60 initRun.sl.r_61 initRun.sl.r_62 initRun.sl.r_63 initRun.sl.r_64 initRun.sl.r_65 initRun.sl.r_66 initRun.sl.r_67 initRun.sl.r_68 initRun.sl.r_69 initRun.sl.r_70 initRun.sl.v248
  simp only [View.readAt_eq_ld, ha.read_unread]
  pointwise [k0_pay11, k0_pay12, k0_pay13, k0_pay14, k0_pay15, k0_pay16, k0_pay17, k0_pay18, k0_pay19, k0_pay20, k0_pay21, k0_pay22, k0_pay23, k0_pay24]
  fin_cases b <;> rfl

theorem col2 (c : Dev nD) (a : Memref sig .tc .smem S16 .f32) (ha : a.IsWhole) (x : Vec Ideal S16 .f32) (b : Fin 16) (l : Fin 128) : k0_pay21 (F := Ideal) (initRun.sl.r_53 c a ha x) (ix3 0 b l) = x (ix1 b) := by
  delta initRun.sl.r initRun.sl.r_1 initRun.sl.r_2 initRun.sl.r_3 initRun.sl.r_4 initRun.sl.r_5 initRun.sl.r_6 initRun.sl.r_7 initRun.sl.r_8 initRun.sl.r_9 initRun.sl.r_10 initRun.sl.r_11 initRun.sl.r_12 initRun.sl.r_13 initRun.sl.r_14 initRun.sl.r_15 initRun.sl.r_16 initRun.sl.r_17 initRun.sl.r_18 initRun.sl.r_19 initRun.sl.r_20 initRun.sl.r_21 initRun.sl.r_22 initRun.sl.r_23 initRun.sl.r_24 initRun.sl.r_25 initRun.sl.r_26 initRun.sl.r_27 initRun.sl.r_28 initRun.sl.r_29 initRun.sl.r_30 initRun.sl.r_31 initRun.sl.r_32 initRun.sl.r_33 initRun.sl.r_34 initRun.sl.r_35 initRun.sl.r_36 initRun.sl.r_37 initRun.sl.r_38 initRun.sl.r_39 initRun.sl.r_40 initRun.sl.r_41 initRun.sl.r_42 initRun.sl.r_43 initRun.sl.r_44 initRun.sl.r_45 initRun.sl.r_46 initRun.sl.r_47 initRun.sl.r_48 initRun.sl.r_49 initRun.sl.r_50 initRun.sl.r_51 initRun.sl.r_52 initRun.sl.r_53 initRun.sl.r_54 initRun.sl.r_55 initRun.sl.r_56 initRun.sl.r_57 initRun.sl.r_58 initRun.sl.r_59 initRun.sl.r_60 initRun.sl.r_61 initRun.sl.r_62 initRun.sl.r_63 initRun.sl.r_64 initRun.sl.r_65 initRun.sl.r_66 initRun.sl.r_67 initRun.sl.r_68 initRun.sl.r_69 initRun.sl.r_70 initRun.sl.v248
  simp only [View.readAt_eq_ld, ha.read_unread]
  pointwise [k0_pay11, k0_pay12, k0_pay13, k0_pay14, k0_pay15, k0_pay16, k0_pay17, k0_pay18, k0_pay19, k0_pay20, k0_pay21, k0_pay22, k0_pay23, k0_pay24]
  fin_cases b <;> rfl

theorem col3 (c : Dev nD) (a : Memref sig .tc .smem S16 .f32) (ha : a.IsWhole) (x : Vec Ideal S16 .f32) (b : Fin 16) (l : Fin 128) : k0_pay24 (F := Ideal) (initRun.sl.v248) (initRun.sl.r_63 c a ha x) k0_pay23 (initRun.sl.r_62 c a ha x) (initRun.sl.r_64 c a ha x) (initRun.sl.r_65 c a ha x) (initRun.sl.r_66 c a ha x) (initRun.sl.r_67 c a ha x) (initRun.sl.r_68 c a ha x) (initRun.sl.r_69 c a ha x) (initRun.sl.r_70 c a ha x) (ix3 0 b l) = x (ix1 b) := by
  delta initRun.sl.r initRun.sl.r_1 initRun.sl.r_2 initRun.sl.r_3 initRun.sl.r_4 initRun.sl.r_5 initRun.sl.r_6 initRun.sl.r_7 initRun.sl.r_8 initRun.sl.r_9 initRun.sl.r_10 initRun.sl.r_11 initRun.sl.r_12 initRun.sl.r_13 initRun.sl.r_14 initRun.sl.r_15 initRun.sl.r_16 initRun.sl.r_17 initRun.sl.r_18 initRun.sl.r_19 initRun.sl.r_20 initRun.sl.r_21 initRun.sl.r_22 initRun.sl.r_23 initRun.sl.r_24 initRun.sl.r_25 initRun.sl.r_26 initRun.sl.r_27 initRun.sl.r_28 initRun.sl.r_29 initRun.sl.r_30 initRun.sl.r_31 initRun.sl.r_32 initRun.sl.r_33 initRun.sl.r_34 initRun.sl.r_35 initRun.sl.r_36 initRun.sl.r_37 initRun.sl.r_38 initRun.sl.r_39 initRun.sl.r_40 initRun.sl.r_41 initRun.sl.r_42 initRun.sl.r_43 initRun.sl.r_44 initRun.sl.r_45 initRun.sl.r_46 initRun.sl.r_47 initRun.sl.r_48 initRun.sl.r_49 initRun.sl.r_50 initRun.sl.r_51 initRun.sl.r_52 initRun.sl.r_53 initRun.sl.r_54 initRun.sl.r_55 initRun.sl.r_56 initRun.sl.r_57 initRun.sl.r_58 initRun.sl.r_59 initRun.sl.r_60 initRun.sl.r_61 initRun.sl.r_62 initRun.sl.r_63 initRun.sl.r_64 initRun.sl.r_65 initRun.sl.r_66 initRun.sl.r_67 initRun.sl.r_68 initRun.sl.r_69 initRun.sl.r_70 initRun.sl.v248
  simp only [View.readAt_eq_ld, ha.read_unread]
  pointwise [k0_pay11, k0_pay12, k0_pay13, k0_pay14, k0_pay15, k0_pay16, k0_pay17, k0_pay18, k0_pay19, k0_pay20, k0_pay21, k0_pay22, k0_pay23, k0_pay24]
  fin_cases b <;> rfl

theorem pay10_at (v0 : Vec Ideal S16x12288 .fp8e4m3) (b : Fin 16) (k : Fin 12288) : k0_pay10 v0 (ix2 ⟨b.val, by omega⟩ k) = v0 (ix2 b k) := by
  pointwise [k0_pay10]

theorem pay2625_at (b : Fin 16) (l : Fin 128) : k0_pay26 (F := Ideal) k0_pay25 (ix2 b l) = (⊥ : EReal) := by
  pointwise [k0_pay26, k0_pay25]
  simp [Ideal.ofBits, Ideal.ieee]

theorem pay27_at (b : Fin 16) (l : Fin 128) : k0_pay27 (F := Ideal) (ix2 b l) = (0 : EReal) := by
  pointwise [k0_pay27]

theorem pay28_at (b : Fin 16) (l : Fin 128) : k0_pay28 (F := Ideal) (ix2 b l) = (0 : EReal) := by
  pointwise [k0_pay28]

theorem zero2' : (![0, 0] : Fin 2 → ℕ) = fun _ => 0 := by decide

theorem init_s0 (c : Dev nD) (t : Fin cfg0.N) (b : Fin 16) (k : Fin 12288) :
    (initSt m c t).s0 (ix2 ⟨b.val, by omega⟩ k) = iblk m c 5 t (ix2 b k) := by
  dsimp only [initSt]
  rw [View.read_writes_eq_canon _ _ _ (icov0 m c t)]
  delta initAt initRun
  dsimp only
  rw [View.canon_unit_zero zero2', pay10_at]
  simp only [View.readAt_eq_ld, Memref.IsWhole.read_unread]
  pointwise []

theorem init_s3 (c : Dev nD) (t : Fin cfg0.N) (b : Fin 16) (l : Fin 128) : (initSt m c t).s3 (ix2 b l) = (⊥ : EReal) := by
  dsimp only [initSt]
  rw [View.read_writes_eq_canon _ _ _ (icov3 m c t)]
  delta initAt initRun
  dsimp only
  rw [View.canon_unit_zero zero2', pay2625_at]

theorem init_s4 (c : Dev nD) (t : Fin cfg0.N) (b : Fin 16) (l : Fin 128) : (initSt m c t).s4 (ix2 b l) = (0 : EReal) := by
  dsimp only [initSt]
  rw [View.read_writes_eq_canon _ _ _ (icov4 m c t)]
  delta initAt initRun
  dsimp only
  rw [View.canon_unit_zero zero2', pay27_at]

theorem init_s5 (c : Dev nD) (t : Fin cfg0.N) (b : Fin 16) (l : Fin 128) : (initSt m c t).s5 (ix2 b l) = (0 : EReal) := by
  dsimp only [initSt]
  rw [View.read_writes_eq_canon _ _ _ (icov5 m c t)]
  delta initAt initRun
  dsimp only
  rw [View.canon_unit_zero zero2', pay28_at]

/-- The count scratch: row `16 h + b` holds chunk `h` of row `b`. -/
theorem init_s1 (c : Dev nD) (t : Fin cfg0.N) (y : S4096x128.Idx) :
    (initSt m c t).s1 y = cnt (iblk m c 0 t) (iblk m c 6 t) ⟨(y 0).val % 16, Nat.mod_lt _ (by decide)⟩ ((y 0).val / 16) (y 1).val := by
  dsimp only [initSt]
  refine View.read_writes_apply_of_pieces _ _ (fun y : S4096x128.Idx => cnt (iblk m c 0 t) (iblk m c 6 t) ⟨(y 0).val % 16, Nat.mod_lt _ (by decide)⟩ ((y 0).val / 16) (y 1).val) _ ?_ y (icov1 m c t y)
  have hG : ∀ (b h l : ℕ) (hb : b < 16) (y : S4096x128.Idx), (y 0).val = b + 16 * h → (y 1).val = 0 + 1 * l →
      cnt (iblk m c 0 t) (iblk m c 6 t) ⟨(y 0).val % 16, Nat.mod_lt _ (by decide)⟩ ((y 0).val / 16) (y 1).val = cnt (iblk m c 0 t) (iblk m c 6 t) ⟨b, hb⟩ h l := by
    intro b h l hb y h0 h1
    have e0 : (⟨(y 0).val % 16, Nat.mod_lt _ (by decide)⟩ : Fin 16) = ⟨b, hb⟩ := Fin.ext (by simp only; omega)
    have e1 : (y 0).val / 16 = h := by omega
    have e2 : (y 1).val = l := by omega
    rw [e0, e1, e2]
  delta initAt initRun
  dsimp only
  intro p hp x
  simp only [List.mem_cons, List.not_mem_nil, or_false] at hp
  rcases hp with rfl | rfl | rfl | rfl | rfl | rfl | rfl | rfl | rfl | rfl | rfl | rfl | rfl | rfl | rfl | rfl
  · refine Eq.trans ?_ (hG 15 (x 0).val (x 1).val (by decide) _ rfl rfl).symm
    refine Eq.trans (congrArg _ (eq_ix2 x)) (count15 c (ms0_0 t) (hs0_0 t) (ms0_6 t) (hs0_6 t) (iblk m c 0 t) (iblk m c 6 t) (x 0) (x 1))
  · refine Eq.trans ?_ (hG 14 (x 0).val (x 1).val (by decide) _ rfl rfl).symm
    refine Eq.trans (congrArg _ (eq_ix2 x)) (count14 c (ms0_0 t) (hs0_0 t) (ms0_6 t) (hs0_6 t) (iblk m c 0 t) (iblk m c 6 t) (x 0) (x 1))
  · refine Eq.trans ?_ (hG 13 (x 0).val (x 1).val (by decide) _ rfl rfl).symm
    refine Eq.trans (congrArg _ (eq_ix2 x)) (count13 c (ms0_0 t) (hs0_0 t) (ms0_6 t) (hs0_6 t) (iblk m c 0 t) (iblk m c 6 t) (x 0) (x 1))
  · refine Eq.trans ?_ (hG 12 (x 0).val (x 1).val (by decide) _ rfl rfl).symm
    refine Eq.trans (congrArg _ (eq_ix2 x)) (count12 c (ms0_0 t) (hs0_0 t) (ms0_6 t) (hs0_6 t) (iblk m c 0 t) (iblk m c 6 t) (x 0) (x 1))
  · refine Eq.trans ?_ (hG 11 (x 0).val (x 1).val (by decide) _ rfl rfl).symm
    refine Eq.trans (congrArg _ (eq_ix2 x)) (count11 c (ms0_0 t) (hs0_0 t) (ms0_6 t) (hs0_6 t) (iblk m c 0 t) (iblk m c 6 t) (x 0) (x 1))
  · refine Eq.trans ?_ (hG 10 (x 0).val (x 1).val (by decide) _ rfl rfl).symm
    refine Eq.trans (congrArg _ (eq_ix2 x)) (count10 c (ms0_0 t) (hs0_0 t) (ms0_6 t) (hs0_6 t) (iblk m c 0 t) (iblk m c 6 t) (x 0) (x 1))
  · refine Eq.trans ?_ (hG 9 (x 0).val (x 1).val (by decide) _ rfl rfl).symm
    refine Eq.trans (congrArg _ (eq_ix2 x)) (count9 c (ms0_0 t) (hs0_0 t) (ms0_6 t) (hs0_6 t) (iblk m c 0 t) (iblk m c 6 t) (x 0) (x 1))
  · refine Eq.trans ?_ (hG 8 (x 0).val (x 1).val (by decide) _ rfl rfl).symm
    refine Eq.trans (congrArg _ (eq_ix2 x)) (count8 c (ms0_0 t) (hs0_0 t) (ms0_6 t) (hs0_6 t) (iblk m c 0 t) (iblk m c 6 t) (x 0) (x 1))
  · refine Eq.trans ?_ (hG 7 (x 0).val (x 1).val (by decide) _ rfl rfl).symm
    refine Eq.trans (congrArg _ (eq_ix2 x)) (count7 c (ms0_0 t) (hs0_0 t) (ms0_6 t) (hs0_6 t) (iblk m c 0 t) (iblk m c 6 t) (x 0) (x 1))
  · refine Eq.trans ?_ (hG 6 (x 0).val (x 1).val (by decide) _ rfl rfl).symm
    refine Eq.trans (congrArg _ (eq_ix2 x)) (count6 c (ms0_0 t) (hs0_0 t) (ms0_6 t) (hs0_6 t) (iblk m c 0 t) (iblk m c 6 t) (x 0) (x 1))
  · refine Eq.trans ?_ (hG 5 (x 0).val (x 1).val (by decide) _ rfl rfl).symm
    refine Eq.trans (congrArg _ (eq_ix2 x)) (count5 c (ms0_0 t) (hs0_0 t) (ms0_6 t) (hs0_6 t) (iblk m c 0 t) (iblk m c 6 t) (x 0) (x 1))
  · refine Eq.trans ?_ (hG 4 (x 0).val (x 1).val (by decide) _ rfl rfl).symm
    refine Eq.trans (congrArg _ (eq_ix2 x)) (count4 c (ms0_0 t) (hs0_0 t) (ms0_6 t) (hs0_6 t) (iblk m c 0 t) (iblk m c 6 t) (x 0) (x 1))
  · refine Eq.trans ?_ (hG 3 (x 0).val (x 1).val (by decide) _ rfl rfl).symm
    refine Eq.trans (congrArg _ (eq_ix2 x)) (count3 c (ms0_0 t) (hs0_0 t) (ms0_6 t) (hs0_6 t) (iblk m c 0 t) (iblk m c 6 t) (x 0) (x 1))
  · refine Eq.trans ?_ (hG 2 (x 0).val (x 1).val (by decide) _ rfl rfl).symm
    refine Eq.trans (congrArg _ (eq_ix2 x)) (count2 c (ms0_0 t) (hs0_0 t) (ms0_6 t) (hs0_6 t) (iblk m c 0 t) (iblk m c 6 t) (x 0) (x 1))
  · refine Eq.trans ?_ (hG 1 (x 0).val (x 1).val (by decide) _ rfl rfl).symm
    refine Eq.trans (congrArg _ (eq_ix2 x)) (count1 c (ms0_0 t) (hs0_0 t) (ms0_6 t) (hs0_6 t) (iblk m c 0 t) (iblk m c 6 t) (x 0) (x 1))
  · refine Eq.trans ?_ (hG 0 (x 0).val (x 1).val (by decide) _ rfl rfl).symm
    refine Eq.trans (congrArg _ (eq_ix2 x)) (count0 c (ms0_0 t) (hs0_0 t) (ms0_6 t) (hs0_6 t) (iblk m c 0 t) (iblk m c 6 t) (x 0) (x 1))

/-- The per-row parameters: tile 0 the row scale, 1 the repetition, 2 the frequency, 3 the presence penalty. -/
def colG (x1 x4 x3 x2 : Vec Ideal S16 .f32) (k : ℕ) : Vec Ideal S16 .f32 := if k = 0 then x1 else if k = 1 then x4 else if k = 2 then x3 else x2

theorem one3 (x : S1x16x128.Idx) : (x 0).val = 0 ∧ x = ix3 0 (x 1) (x 2) := by
  have h : (x 0).val < 1 := (x 0).isLt
  have h0 : x 0 = (0 : Fin 1) := Fin.ext (by show (x 0).val = 0; omega)
  exact ⟨by omega, (eq_ix3 x).trans (congrArg (fun z => ix3 z (x 1) (x 2)) h0)⟩

theorem init_s2 (c : Dev nD) (t : Fin cfg0.N) (y : S4x16x128.Idx) :
    (initSt m c t).s2 y = colG (iblk m c 1 t) (iblk m c 4 t) (iblk m c 3 t) (iblk m c 2 t) (y 0).val (ix1 (y 1)) := by
  dsimp only [initSt]
  refine View.read_writes_apply_of_pieces _ _ (fun y : S4x16x128.Idx => colG (iblk m c 1 t) (iblk m c 4 t) (iblk m c 3 t) (iblk m c 2 t) (y 0).val (ix1 (y 1))) _ ?_ y (icov2 m c t y)
  have hG : ∀ (k : ℕ) (b : Fin 16) (y : S4x16x128.Idx), (y 0).val = k → (y 1).val = b.val →
      colG (iblk m c 1 t) (iblk m c 4 t) (iblk m c 3 t) (iblk m c 2 t) (y 0).val (ix1 (y 1)) = colG (iblk m c 1 t) (iblk m c 4 t) (iblk m c 3 t) (iblk m c 2 t) k (ix1 b) := by
    intro k b y h0 h1
    have e1 : y 1 = b := Fin.ext h1
    rw [h0, e1]
  delta initAt initRun
  dsimp only
  intro p hp x
  simp only [List.mem_cons, List.not_mem_nil, or_false] at hp
  rcases hp with rfl | rfl | rfl | rfl
  · refine Eq.trans ?_ (hG 3 (x 1) _ (show 3 + 1 * (x 0).val = 3 by rw [(one3 x).1]) (show 0 + 1 * (x 1).val = (x 1).val by omega)).symm
    exact Eq.trans (congrArg _ (one3 x).2) (col3 c (ms0_2 t) (hs0_2 t) (iblk m c 2 t) (x 1) (x 2))
  · refine Eq.trans ?_ (hG 2 (x 1) _ (show 2 + 1 * (x 0).val = 2 by rw [(one3 x).1]) (show 0 + 1 * (x 1).val = (x 1).val by omega)).symm
    exact Eq.trans (congrArg _ (one3 x).2) (col2 c (ms0_3 t) (hs0_3 t) (iblk m c 3 t) (x 1) (x 2))
  · refine Eq.trans ?_ (hG 1 (x 1) _ (show 1 + 1 * (x 0).val = 1 by rw [(one3 x).1]) (show 0 + 1 * (x 1).val = (x 1).val by omega)).symm
    exact Eq.trans (congrArg _ (one3 x).2) (col1 c (ms0_4 t) (hs0_4 t) (iblk m c 4 t) (x 1) (x 2))
  · refine Eq.trans ?_ (hG 0 (x 1) _ (show 0 + 1 * (x 0).val = 0 by rw [(one3 x).1]) (show 0 + 1 * (x 1).val = (x 1).val by omega)).symm
    exact Eq.trans (congrArg _ (one3 x).2) (col0 c (ms0_1 t) (hs0_1 t) (iblk m c 1 t) (x 1) (x 2))

end Cert.KernelIdeal.Gen

end
-- ==== Proof.Val.Spec.lean ====
module

public import proofs.«01_k».proof.Proof.Val.Pay

@[expose] public section

/-! The values both programs compute, over plain tables of extended reals: the penalized logits, the number of times a
    token occurs in a row's history, and the logsumexp of a row. -/

noncomputable section

namespace Cert.Val

open Idealize.ShloMosaic

/-- How often token `v` occurs among the first `len b` history tokens of row `b`. -/
def hits (ids : Fin 16 → Fin 1024 → BitVec 32) (len : Fin 16 → BitVec 32) (b : Fin 16) (v : Fin 32000) : EReal :=
  ∑ x : Fin 1024, if (x.val : ℤ) < (len b).toInt ∧ (ids b x).toInt = (v.val : ℤ) then (1 : EReal) else 0

/-- The penalized logit of row `b`, token `v`. -/
def logit (x : Fin 16 → Fin 12288 → EReal) (w : Fin 12288 → Fin 32000 → EReal) (xs : Fin 16 → EReal) (ws : Fin 32000 → EReal)
    (cn : Fin 16 → Fin 32000 → EReal) (rep freq pres : Fin 16 → EReal) (b : Fin 16) (v : Fin 32000) : EReal :=
  Cert.KernelIdeal.Gen.pen ((∑ k, x b k * w k v) * xs b * ws v) (cn b v) (rep b) (freq b) (pres b)

/-- The logsumexp of a row. -/
def lse (g : Fin 32000 → EReal) : EReal :=
  Ideal.log (∑ v, Ideal.exp (g v - Finset.univ.sup g)) + Finset.univ.sup g

/-- The token a word names. -/
def tok (w : BitVec 32) : Fin 32000 := ⟨w.toNat % 32000, Nat.mod_lt _ (by decide)⟩

theorem tok_eq (w : BitVec 32) (h0 : 0 ≤ w.toInt) (h1 : w.toInt < 32000) : w = BitVec.ofNat 32 (tok w).val := by
  have h := BitVec.toInt_eq_toNat_cond w
  have hw := w.isLt
  have e : w.toNat % 32000 = w.toNat := by
    apply Nat.mod_eq_of_lt
    split at h <;> omega
  show w = BitVec.ofNat 32 (w.toNat % 32000)
  rw [e, BitVec.ofNat_toNat, BitVec.setWidth_eq]

/-- The first result: every row's logsumexp. -/
def lseRow (g : Fin 16 → Fin 32000 → EReal) : Cert.KernelIdeal.S1x16.Idx → EReal := fun y => lse (g (y 1))

/-- The second result: the log probabilities of the candidate tokens. -/
def picked (g : Fin 16 → Fin 32000 → EReal) (ids : Fin 16 → Fin 20 → BitVec 32) : Cert.KernelIdeal.S16x20.Idx → EReal :=
  fun y => g (y 0) (tok (ids (y 0) (y 1))) - lse (g (y 0))

/-- The third result: the penalized logits. -/
def logits (g : Fin 16 → Fin 32000 → EReal) : Cert.KernelIdeal.S16x32000.Idx → EReal := fun y => g (y 0) (y 1)

end Cert.Val

end
-- ==== Proof.Val.Online.lean ====
module

public import Idealize.ShloMosaic.Lib.Pointwise

@[expose] public section

/-! The logsumexp taken chunk by chunk, with a running maximum, is the logsumexp taken at once: over all extended reals. -/

noncomputable section

namespace Cert.Val

open Idealize.ShloMosaic

theorem exp_bot : Ideal.exp ⊥ = 0 := rfl
theorem exp_coe (r : ℝ) : Ideal.exp (r : EReal) = ((Real.exp r : ℝ) : EReal) := rfl

theorem exp_nonneg (x : EReal) : 0 ≤ Ideal.exp x := by
  induction x with
  | bot => exact le_rfl
  | coe r => rw [exp_coe]; exact EReal.coe_nonneg.mpr (Real.exp_pos r).le
  | top => exact le_top

/-- Moving the exponent's base from `M` up to `M'`. -/
theorem exp_rebase (z M M' : EReal) (h1 : z ≤ M) (h2 : M ≤ M') : Ideal.exp (z - M) * Ideal.exp (M - M') = Ideal.exp (z - M') := by
  induction M' with
  | top => rw [EReal.sub_top, EReal.sub_top, exp_bot, mul_zero]
  | bot =>
    have hM : M = ⊥ := le_bot_iff.mp h2
    subst hM
    have hz : z = ⊥ := le_bot_iff.mp h1
    subst hz
    rw [EReal.bot_sub, exp_bot, mul_zero]
  | coe r' =>
    induction M with
    | top => exact absurd h2 (by simp)
    | bot =>
      have hz : z = ⊥ := le_bot_iff.mp h1
      subst hz
      rw [EReal.bot_sub, EReal.bot_sub, exp_bot, mul_zero]
    | coe r =>
      induction z with
      | top => exact absurd h1 (by simp)
      | bot => rw [EReal.bot_sub, EReal.bot_sub, exp_bot, zero_mul]
      | coe x =>
        rw [← EReal.coe_sub, ← EReal.coe_sub, ← EReal.coe_sub, exp_coe, exp_coe, exp_coe, ← EReal.coe_mul, ← Real.exp_add]
        congr 2; ring_nf

/-- A sum of exponentials times a nonnegative factor. -/
theorem sum_mul {ι : Type*} (s : Finset ι) (f : ι → EReal) (hf : ∀ i ∈ s, 0 ≤ f i) (c : EReal) :
    (∑ i ∈ s, f i) * c = ∑ i ∈ s, f i * c := by
  classical
  induction s using Finset.induction_on with
  | empty => simp
  | insert a s ha ih =>
    rw [Finset.sum_insert ha, Finset.sum_insert ha,
      EReal.right_distrib_of_nonneg (hf a (Finset.mem_insert_self a s)) (Finset.sum_nonneg fun i hi => hf i (Finset.mem_insert_of_mem hi)),
      ih fun i hi => hf i (Finset.mem_insert_of_mem hi)]

/-- A sum of exponentials from base `M`, moved to base `M'`. -/
theorem sum_rebase {ι : Type*} (s : Finset ι) (f : ι → EReal) (M M' : EReal) (hf : ∀ i ∈ s, f i ≤ M) (h : M ≤ M') :
    (∑ i ∈ s, Ideal.exp (f i - M)) * Ideal.exp (M - M') = ∑ i ∈ s, Ideal.exp (f i - M') := by
  rw [sum_mul s _ fun i _ => exp_nonneg _]
  exact Finset.sum_congr rfl fun i hi => exp_rebase _ _ _ (hf i hi) h

/-- The running maximum over the first `n` chunks. -/
def mx (f : ℕ → EReal) (n : ℕ) : EReal := (Finset.range n).sup f
/-- The running sum over the first `n` chunks. -/
def sm (f : ℕ → EReal) (n : ℕ) : EReal := ∑ i ∈ Finset.range n, Ideal.exp (f i - mx f n)

theorem mx_zero (f : ℕ → EReal) : mx f 0 = ⊥ := rfl
theorem sm_zero (f : ℕ → EReal) : sm f 0 = 0 := rfl
theorem mx_succ (f : ℕ → EReal) (n : ℕ) : mx f (n + 1) = max (mx f n) (f n) := by
  unfold mx; rw [Finset.range_add_one, Finset.sup_insert]; exact max_comm _ _
theorem le_mx (f : ℕ → EReal) (n i : ℕ) (h : i ∈ Finset.range n) : f i ≤ mx f n := Finset.le_sup h

/-- Five more chunks: the maximum. -/
theorem mx_five (f : ℕ → EReal) (n : ℕ) :
    max (max (max (max (max (mx f n) (f n)) (f (n + 1))) (f (n + 2))) (f (n + 3))) (f (n + 4)) = mx f (n + 5) := by
  rw [mx_succ f (n + 4), mx_succ f (n + 3), mx_succ f (n + 2), mx_succ f (n + 1), mx_succ f n]

/-- Five more chunks: the sum. -/
theorem sm_five (f : ℕ → EReal) (n : ℕ) :
    sm f n * Ideal.exp (mx f n - mx f (n + 5)) + Ideal.exp (f n - mx f (n + 5)) + Ideal.exp (f (n + 1) - mx f (n + 5))
      + Ideal.exp (f (n + 2) - mx f (n + 5)) + Ideal.exp (f (n + 3) - mx f (n + 5)) + Ideal.exp (f (n + 4) - mx f (n + 5)) = sm f (n + 5) := by
  have hm : mx f n ≤ mx f (n + 5) := Finset.sup_mono (Finset.range_mono (by omega))
  unfold sm
  rw [sum_rebase _ _ _ _ (le_mx f n) hm]
  simp only [Finset.sum_range_succ]

/-- The lanes' maxima and sums, joined over the 128 lanes, are the row's. -/
theorem lanes_join (g : Fin 32000 → EReal) (f : Fin 128 → ℕ → EReal) (hf : ∀ (l : Fin 128) (i : ℕ) (hi : i < 250), f l i = g ⟨i * 128 + l.val, by omega⟩) :
    Finset.univ.sup (fun l => mx (f l) 250) = Finset.univ.sup g
      ∧ ∑ l, sm (f l) 250 * Ideal.exp (mx (f l) 250 - Finset.univ.sup g) = ∑ v, Ideal.exp (g v - Finset.univ.sup g) := by
  have hle : ∀ l, mx (f l) 250 ≤ Finset.univ.sup g := fun l => Finset.sup_le fun i hi => by
    rw [hf l i (Finset.mem_range.mp hi)]; exact Finset.le_sup (Finset.mem_univ _)
  refine ⟨le_antisymm (Finset.sup_le fun l _ => hle l) (Finset.sup_le fun v _ => ?_), ?_⟩
  · have h1 : v.val / 128 < 250 := by have := v.isLt; omega
    have e := hf ⟨v.val % 128, by omega⟩ (v.val / 128) h1
    have ev : (⟨v.val / 128 * 128 + v.val % 128, by have := v.isLt; omega⟩ : Fin 32000) = v := Fin.ext (by show v.val / 128 * 128 + v.val % 128 = v.val; omega)
    rw [show g v = f ⟨v.val % 128, by omega⟩ (v.val / 128) by rw [e]; exact congrArg g ev.symm]
    exact le_trans (le_mx _ 250 _ (Finset.mem_range.mpr h1)) (Finset.le_sup (f := fun l => mx (f l) 250) (Finset.mem_univ _))
  · have e : ∀ l, sm (f l) 250 * Ideal.exp (mx (f l) 250 - Finset.univ.sup g) = ∑ i : Fin 250, Ideal.exp (g ⟨i.val * 128 + l.val, by omega⟩ - Finset.univ.sup g) := fun l => by
      unfold sm
      rw [sum_rebase _ _ _ _ (le_mx _ _) (hle l), Finset.sum_range]
      exact Finset.sum_congr rfl fun i _ => by rw [hf l i.val i.isLt]
    rw [Finset.sum_congr rfl fun l _ => e l, Finset.sum_comm, Fin.sum_univ_tiles 250 128 (by decide) fun v => Ideal.exp (g v - Finset.univ.sup g)]

/-- `fold max` from the least element is the supremum. -/
theorem fold_max_eq {n : ℕ} (f : Fin n → EReal) : Finset.univ.fold max (⊥ : EReal) f = Finset.univ.sup f := rfl

end Cert.Val

end
-- ==== Proof.Val.Blocks.lean ====
module

public import proofs.«01_k».proof.Proof.Val.Step2
public import proofs.«01_k».proof.Proof.Val.Init
public import proofs.«01_k».proof.Proof.Val.Spec
public import proofs.«01_k».proof.Proof.Val.Online
public import Idealize.ShloMosaic.Lib.StableHlo.ReadAt

@[expose] public section

set_option maxRecDepth 16384

/-! What each input block holds, in terms of the arguments. -/

noncomputable section

namespace Cert.KernelIdeal.Gen

open Idealize.ShloMosaic Idealize.ShloMosaic.TcCoe Idealize.ShloMosaic.Tactic

variable (m : (ℓ : Loc nD τ sig) → Buf (Elt Ideal) ℓ)

theorem idx0_0 : ∀ t : Fin cfg0.N, win0_0.index t (0 : Fin 1) = 0 :=
  (by decide +kernel : ∀ t : Fin grid0.N, _)

theorem iblk_0 (c : Dev nD) (t : Fin cfg0.N) : iblk m c 0 t = m ((c : Thread nD τ).loc main_arg5) := by
  have e := idx0_0 t
  funext y
  show V m c main_arg5 (((cfg0.win 0).blk t).view.emb y) = _
  rw [V_main_arg5]
  refine congrArg (m ((c : Thread nD τ).loc main_arg5)) ?_
  funext a; apply Fin.ext
  match a with
  | ⟨0, _⟩ => show win0_0.index t (0 : Fin 1) * 16 + 1 * (y 0).val = (y 0).val; rw [e]; omega

theorem idx0_1 : ∀ t : Fin cfg0.N, win0_1.index t (0 : Fin 1) = 0 :=
  (by decide +kernel : ∀ t : Fin grid0.N, _)

theorem iblk_1 (c : Dev nD) (t : Fin cfg0.N) : iblk m c 1 t = m ((c : Thread nD τ).loc main_arg1) := by
  have e := idx0_1 t
  funext y
  show V m c main_arg1 (((cfg0.win 1).blk t).view.emb y) = _
  rw [V_main_arg1]
  refine congrArg (m ((c : Thread nD τ).loc main_arg1)) ?_
  funext a; apply Fin.ext
  match a with
  | ⟨0, _⟩ => show win0_1.index t (0 : Fin 1) * 16 + 1 * (y 0).val = (y 0).val; rw [e]; omega

theorem idx0_2 : ∀ t : Fin cfg0.N, win0_2.index t (0 : Fin 1) = 0 :=
  (by decide +kernel : ∀ t : Fin grid0.N, _)

theorem iblk_2 (c : Dev nD) (t : Fin cfg0.N) : iblk m c 2 t = m ((c : Thread nD τ).loc main_arg6) := by
  have e := idx0_2 t
  funext y
  show V m c main_arg6 (((cfg0.win 2).blk t).view.emb y) = _
  rw [V_main_arg6]
  refine congrArg (m ((c : Thread nD τ).loc main_arg6)) ?_
  funext a; apply Fin.ext
  match a with
  | ⟨0, _⟩ => show win0_2.index t (0 : Fin 1) * 16 + 1 * (y 0).val = (y 0).val; rw [e]; omega

theorem idx0_3 : ∀ t : Fin cfg0.N, win0_3.index t (0 : Fin 1) = 0 :=
  (by decide +kernel : ∀ t : Fin grid0.N, _)

theorem iblk_3 (c : Dev nD) (t : Fin cfg0.N) : iblk m c 3 t = m ((c : Thread nD τ).loc main_arg7) := by
  have e := idx0_3 t
  funext y
  show V m c main_arg7 (((cfg0.win 3).blk t).view.emb y) = _
  rw [V_main_arg7]
  refine congrArg (m ((c : Thread nD τ).loc main_arg7)) ?_
  funext a; apply Fin.ext
  match a with
  | ⟨0, _⟩ => show win0_3.index t (0 : Fin 1) * 16 + 1 * (y 0).val = (y 0).val; rw [e]; omega

theorem idx0_4 : ∀ t : Fin cfg0.N, win0_4.index t (0 : Fin 1) = 0 :=
  (by decide +kernel : ∀ t : Fin grid0.N, _)

theorem iblk_4 (c : Dev nD) (t : Fin cfg0.N) : iblk m c 4 t = m ((c : Thread nD τ).loc main_arg8) := by
  have e := idx0_4 t
  funext y
  show V m c main_arg8 (((cfg0.win 4).blk t).view.emb y) = _
  rw [V_main_arg8]
  refine congrArg (m ((c : Thread nD τ).loc main_arg8)) ?_
  funext a; apply Fin.ext
  match a with
  | ⟨0, _⟩ => show win0_4.index t (0 : Fin 1) * 16 + 1 * (y 0).val = (y 0).val; rw [e]; omega

theorem idx0_5 : ∀ t : Fin cfg0.N, win0_5.index t (0 : Fin 2) = 0 ∧ win0_5.index t (1 : Fin 2) = 0 :=
  (by decide +kernel : ∀ t : Fin grid0.N, _)

theorem iblk_5 (c : Dev nD) (t : Fin cfg0.N) : iblk m c 5 t = m ((c : Thread nD τ).loc main_arg0) := by
  have e := idx0_5 t
  funext y
  show V m c main_arg0 (((cfg0.win 5).blk t).view.emb y) = _
  rw [V_main_arg0]
  refine congrArg (m ((c : Thread nD τ).loc main_arg0)) ?_
  funext a; apply Fin.ext
  match a with
  | ⟨0, _⟩ => show win0_5.index t (0 : Fin 2) * 16 + 1 * (y 0).val = (y 0).val; rw [e.1]; omega
  | ⟨1, _⟩ => show win0_5.index t (1 : Fin 2) * 12288 + 1 * (y 1).val = (y 1).val; rw [e.2]; omega

theorem idx0_6 : ∀ t : Fin cfg0.N, win0_6.index t (0 : Fin 2) = 0 ∧ win0_6.index t (1 : Fin 2) = 0 :=
  (by decide +kernel : ∀ t : Fin grid0.N, _)

theorem iblk_6 (c : Dev nD) (t : Fin cfg0.N) : iblk m c 6 t = m ((c : Thread nD τ).loc main_arg4) := by
  have e := idx0_6 t
  funext y
  show V m c main_arg4 (((cfg0.win 6).blk t).view.emb y) = _
  rw [V_main_arg4]
  refine congrArg (m ((c : Thread nD τ).loc main_arg4)) ?_
  funext a; apply Fin.ext
  match a with
  | ⟨0, _⟩ => show win0_6.index t (0 : Fin 2) * 16 + 1 * (y 0).val = (y 0).val; rw [e.1]; omega
  | ⟨1, _⟩ => show win0_6.index t (1 : Fin 2) * 1024 + 1 * (y 1).val = (y 1).val; rw [e.2]; omega

theorem idx0_7 : ∀ t : Fin cfg0.N, win0_7.index t (0 : Fin 2) = 0 ∧ win0_7.index t (1 : Fin 2) = 0 :=
  (by decide +kernel : ∀ t : Fin grid0.N, _)

theorem iblk_7 (c : Dev nD) (t : Fin cfg0.N) : iblk m c 7 t = m ((c : Thread nD τ).loc main_arg9) := by
  have e := idx0_7 t
  funext y
  show V m c main_arg9 (((cfg0.win 7).blk t).view.emb y) = _
  rw [V_main_arg9]
  refine congrArg (m ((c : Thread nD τ).loc main_arg9)) ?_
  funext a; apply Fin.ext
  match a with
  | ⟨0, _⟩ => show win0_7.index t (0 : Fin 2) * 16 + 1 * (y 0).val = (y 0).val; rw [e.1]; omega
  | ⟨1, _⟩ => show win0_7.index t (1 : Fin 2) * 20 + 1 * (y 1).val = (y 1).val; rw [e.2]; omega

theorem idx0_8 : ∀ t : Fin cfg0.N, win0_8.index t (0 : Fin 2) = 0 ∧ win0_8.index t (1 : Fin 2) = t.val :=
  (by decide +kernel : ∀ t : Fin grid0.N, _)
theorem idx0_9 : ∀ t : Fin cfg0.N, win0_9.index t (0 : Fin 2) = 0 ∧ win0_9.index t (1 : Fin 2) = t.val :=
  (by decide +kernel : ∀ t : Fin grid0.N, _)

theorem iblk_9 (c : Dev nD) (t : Fin cfg0.N) (k : Fin 12288) (u : Fin 640) (v : Fin 32000) (hv : v.val = t.val * 640 + u.val) :
    iblk m c 9 t (ix2 k u) = m ((c : Thread nD τ).loc main_arg2) (ix2 k v) := by
  have e := idx0_9 t
  show V m c main_arg2 (((cfg0.win 9).blk t).view.emb (ix2 k u)) = _
  rw [V_main_arg2]
  refine congrArg (m ((c : Thread nD τ).loc main_arg2)) ?_
  funext a; apply Fin.ext
  match a with
  | ⟨0, _⟩ => show win0_9.index t (0 : Fin 2) * 12288 + 1 * k.val = k.val; rw [e.1]; omega
  | ⟨1, _⟩ => show win0_9.index t (1 : Fin 2) * 640 + 1 * u.val = v.val; rw [e.2, hv]; omega

theorem V_v0 (c : Dev nD) (v : Fin 32000) : V m c main_v0 (ix2 0 v) = m ((c : Thread nD τ).loc main_arg3) (ix1 v) := by
  show StableHlo.after hostOps0 (fun b => m (c, b)) main_v0 (ix2 0 v) = _
  after_reads_at

theorem iblk_8 (c : Dev nD) (t : Fin cfg0.N) (u : Fin 640) (v : Fin 32000) (hv : v.val = t.val * 640 + u.val) :
    iblk m c 8 t (ix2 0 u) = m ((c : Thread nD τ).loc main_arg3) (ix1 v) := by
  have e := idx0_8 t
  rw [← V_v0 m c v]
  show V m c main_v0 (((cfg0.win 8).blk t).view.emb (ix2 0 u)) = _
  refine congrArg (V m c main_v0) ?_
  funext a; apply Fin.ext
  match a with
  | ⟨0, _⟩ => show win0_8.index t (0 : Fin 2) * 1 + 1 * 0 = 0; rw [e.1]
  | ⟨1, _⟩ => show win0_8.index t (1 : Fin 2) * 640 + 1 * u.val = v.val; rw [e.2, hv]; omega

end Cert.KernelIdeal.Gen

end
-- ==== Proof.Val.Count.lean ====
module

public import proofs.«01_k».proof.Proof.Val.Init
public import proofs.«01_k».proof.Proof.Val.Spec

@[expose] public section

/-! The kernel's histogram entry is the number of occurrences. -/

noncomputable section

namespace Cert.KernelIdeal.Gen

open Idealize.ShloMosaic Idealize.ShloMosaic.TcCoe Idealize.ShloMosaic.Tactic

theorem toNat_of_nonneg (w : BitVec 32) (h : 0 ≤ w.toInt) : w.toNat < 2 ^ 31 ∧ w.toInt = (w.toNat : ℤ) := by
  have e := BitVec.toInt_eq_toNat_cond w
  have hw := w.isLt
  split at e <;> omega

/-- The chunk number of a token. -/
theorem chunkOf (w : BitVec 32) (h : 0 ≤ w.toInt) : IntOp.shrsi .vector w 7#32 = BitVec.ofNat 32 (w.toNat / 128) := by
  have hm : w.msb = false := by
    have := (toNat_of_nonneg w h).1
    rw [BitVec.msb_eq_decide]; simp; omega
  apply BitVec.eq_of_toNat_eq
  have hb : w.toNat / 128 < 2 ^ 32 := by have := w.isLt; omega
  simp only [IntOp.shrsi]
  simp [BitVec.toNat_sshiftRight_of_msb_false hm, Nat.shiftRight_eq_div_pow]
  omega

/-- The lane of a token. -/
theorem laneOf (w : BitVec 32) : IntOp.andi w 127#32 = BitVec.ofNat 32 (w.toNat % 128) := by
  apply BitVec.eq_of_toNat_eq
  have hb : w.toNat % 128 < 2 ^ 32 := by have := w.isLt; omega
  simp only [IntOp.andi, BitVec.toNat_and, BitVec.toNat_ofNat, Nat.mod_eq_of_lt hb]
  exact Nat.and_two_pow_sub_one_eq_mod _ 7

theorem sitofp_if (p : Prop) [Decidable p] :
    (FloatOps.sitofp (F := Ideal) .f32 (BitVec.setWidth 32 (if p then 1#1 else 0#1)) : EReal) = if p then 1 else 0 := by
  by_cases h : p <;> simp [h, FloatOps.sitofp]

theorem slt_ofNat (x : ℕ) (hx : x < 2 ^ 31) (w : BitVec 32) :
    IntOp.cmpi .slt (BitVec.ofNat 32 x) w = if (x : ℤ) < w.toInt then 1#1 else 0#1 := by
  have e : (BitVec.ofNat 32 x).toInt = (x : ℤ) := by
    rw [BitVec.toInt_ofNat']
    simp only [Int.bmod]
    omega
  simp only [IntOp.cmpi, BitVec.slt, e]
  split <;> rename_i h <;> simp [h]

theorem cnt_term (x : Fin 1024) (v : Fin 32000) (n w : BitVec 32) (hn : 0 ≤ w.toInt) :
    (FloatOps.sitofp (F := Ideal) .f32 (BitVec.setWidth 32 (IntOp.cmpi .eq (BitVec.ofNat 32 (v.val / 128))
      (Scalar.select (IntOp.cmpi .slt (BitVec.ofNat 32 x.val) n) (IntOp.shrsi .vector w 7#32) 4294967295#32))) : EReal) *
    (FloatOps.sitofp (F := Ideal) .f32 (BitVec.setWidth 32 (IntOp.cmpi .eq (BitVec.ofNat 32 (v.val % 128)) (IntOp.andi w 127#32))) : EReal)
      = if (x.val : ℤ) < n.toInt ∧ w.toInt = (v.val : ℤ) then (1 : EReal) else 0 := by
  have hw := toNat_of_nonneg w hn
  have hv := v.isLt
  rw [slt_ofNat _ (by omega), chunkOf w hn, laneOf, cmpi_eq_ofNat (v.val % 128) _ (by omega) (by omega), sitofp_if]
  by_cases h1 : (x.val : ℤ) < n.toInt
  · rw [if_pos h1]
    show (FloatOps.sitofp (F := Ideal) .f32 (BitVec.setWidth 32 (IntOp.cmpi .eq (BitVec.ofNat 32 (v.val / 128)) (BitVec.ofNat 32 (w.toNat / 128)))) : EReal) * _ = _
    rw [cmpi_eq_ofNat _ _ (by omega) (by omega), sitofp_if]
    by_cases h2 : v.val / 128 = w.toNat / 128
    · by_cases h3 : v.val % 128 = w.toNat % 128
      · rw [if_pos h2, if_pos h3, if_pos ⟨h1, by omega⟩, one_mul]
      · rw [if_pos h2, if_neg h3, if_neg (by rintro ⟨_, h⟩; omega), mul_zero]
    · rw [if_neg h2, zero_mul, if_neg (by rintro ⟨_, h⟩; omega)]
  · rw [if_neg h1, if_neg (show ¬((x.val : ℤ) < n.toInt ∧ w.toInt = (v.val : ℤ)) from fun h => h1 h.1)]
    show (FloatOps.sitofp (F := Ideal) .f32 (BitVec.setWidth 32 (IntOp.cmpi .eq (BitVec.ofNat 32 (v.val / 128)) (BitVec.ofNat 32 4294967295))) : EReal) * _ = _
    rw [cmpi_eq_ofNat _ _ (by omega) (by omega), sitofp_if, if_neg (by omega), zero_mul]

theorem cnt_eq (x0 : Vec Ideal S16 .i32) (x6 : Vec Ideal S16x1024 .i32) (b : Fin 16) (v : Fin 32000)
    (hid : ∀ b x, 0 ≤ (show BitVec 32 from x6 (ix2 b x)).toInt) :
    cnt x0 x6 b (v.val / 128) (v.val % 128) = Cert.Val.hits (fun b x => x6 (ix2 b x)) (fun b => x0 (ix1 b)) b v :=
  Finset.sum_congr rfl fun x _ => cnt_term x v (x0 (ix1 b)) (x6 (ix2 b x)) (hid b x)

end Cert.KernelIdeal.Gen

end
-- ==== Proof.Val.Inv.lean ====
module

public import proofs.«01_k».proof.Proof.Val.Blocks
public import proofs.«01_k».proof.Proof.Val.Count

@[expose] public section

set_option maxRecDepth 16384

/-! The scratch the step at a point starts from, in terms of the launch arguments. -/

noncomputable section

namespace Cert.KernelIdeal.Gen

open Idealize.ShloMosaic Idealize.ShloMosaic.TcCoe Idealize.ShloMosaic.Tactic

variable (m : (ℓ : Loc nD τ sig) → Buf (Elt Ideal) ℓ)

/-- The penalized logits of the launch arguments. -/
def logitM (c : Dev nD) (b : Fin 16) (v : Fin 32000) : EReal :=
  Cert.Val.logit (fun b k => m ((c : Thread nD τ).loc main_arg0) (ix2 b k)) (fun k v => m ((c : Thread nD τ).loc main_arg2) (ix2 k v))
    (fun b => m ((c : Thread nD τ).loc main_arg1) (ix1 b)) (fun v => m ((c : Thread nD τ).loc main_arg3) (ix1 v))
    (Cert.Val.hits (fun b x => m ((c : Thread nD τ).loc main_arg4) (ix2 b x)) (fun b => m ((c : Thread nD τ).loc main_arg5) (ix1 b)))
    (fun b => m ((c : Thread nD τ).loc main_arg8) (ix1 b)) (fun b => m ((c : Thread nD τ).loc main_arg7) (ix1 b))
    (fun b => m ((c : Thread nD τ).loc main_arg6) (ix1 b)) b v

/-- The history's tokens are not negative. -/
def IdsOk : Prop := ∀ (c : Dev nD) b x, 0 ≤ (show BitVec 32 from m ((c : Thread nD τ).loc main_arg4) (ix2 b x)).toInt

theorem coords_val : ∀ t : Fin cfg0.N, (grid0.coords t 0).val = t.val := (by decide +kernel : ∀ t : Fin grid0.N, _)

/-- What no step changes: the rows, the counts and the columns. -/
def Fixed (c : Dev nD) (s : St Ideal) : Prop :=
  (∀ (b : Fin 16) (k : Fin 12288), s.s0 (ix2 ⟨b.val, by omega⟩ k) = m ((c : Thread nD τ).loc main_arg0) (ix2 b k))
  ∧ (∀ y, s.s1 y = cnt (m ((c : Thread nD τ).loc main_arg5)) (m ((c : Thread nD τ).loc main_arg4)) ⟨(y 0).val % 16, Nat.mod_lt _ (by decide)⟩ ((y 0).val / 16) (y 1).val)
  ∧ (∀ y, s.s2 y = colG (m ((c : Thread nD τ).loc main_arg1)) (m ((c : Thread nD τ).loc main_arg8)) (m ((c : Thread nD τ).loc main_arg7)) (m ((c : Thread nD τ).loc main_arg6)) (y 0).val (ix1 (y 1)))

theorem fixed_init (c : Dev nD) (t : Fin cfg0.N) : Fixed m c (initSt m c t) := by
  refine ⟨fun b k => ?_, fun y => ?_, fun y => ?_⟩
  · rw [init_s0, iblk_5]
  · rw [init_s1, iblk_0, iblk_6]
  · rw [init_s2, iblk_1, iblk_2, iblk_3, iblk_4]

theorem fixed_step (c : Dev nD) (t : Fin cfg0.N) (s : St Ideal) (hs : Fixed m c s) : Fixed m c (stepSt m c t s) := by
  by_cases h : cond0_1 (grid0.coords t)
  · rw [stepSt_C m c t h]; exact hs
  · rw [stepSt_B m c t h]; exact hs

theorem fixed_stB (c : Dev nD) : ∀ (n : ℕ) (h : n < cfg0.N), Fixed m c (stB m c n h)
  | 0, h => fixed_init m c ⟨0, h⟩
  | n + 1, h => fixed_step m c ⟨n, Nat.lt_of_succ_lt h⟩ _ (fixed_stB c n (Nat.lt_of_succ_lt h))

/-- The step's values are the logits of its columns. -/
theorem zT_eq (hid : IdsOk m) (c : Dev nD) (t : Fin cfg0.N) (s : St Ideal) (hs : Fixed m c s) (j : Fin 5) (b : Fin 16) (l : Fin 128)
    (v : Fin 32000) (hv : v.val = t.val * 640 + (128 * j.val + l.val)) : zT m c t s j b l = logitM m c b v := by
  obtain ⟨h0, h1, h2⟩ := hs
  have ht : (grid0.coords t 0).val = t.val := coords_val t
  have hc : (s.s1 (ix2 ⟨80 * (grid0.coords t 0).val + 16 * j.val + b.val, by have := (grid0.coords t 0).isLt; have : (grid0.coords t 0).val < 50 := this; omega⟩ l) : EReal)
      = Cert.Val.hits (fun b x => m ((c : Thread nD τ).loc main_arg4) (ix2 b x)) (fun b => m ((c : Thread nD τ).loc main_arg5) (ix1 b)) b v := by
    rw [h1, ← cnt_eq _ _ b v (hid c)]
    have e0 : (⟨(80 * (grid0.coords t 0).val + 16 * j.val + b.val) % 16, Nat.mod_lt _ (by decide)⟩ : Fin 16) = b := Fin.ext (by simp only; omega)
    have e1 : (80 * (grid0.coords t 0).val + 16 * j.val + b.val) / 16 = v.val / 128 := by omega
    have e2 : l.val = v.val % 128 := by omega
    show cnt _ _ ⟨(80 * (grid0.coords t 0).val + 16 * j.val + b.val) % 16, Nat.mod_lt _ (by decide)⟩ ((80 * (grid0.coords t 0).val + 16 * j.val + b.val) / 16) l.val = _
    rw [e0, e1, e2]
  have hd : dotAt s.s0 (iblk m c 9 t) b ⟨128 * j.val + l.val, by omega⟩
      = ∑ k : Fin 12288, (show EReal from m ((c : Thread nD τ).loc main_arg0) (ix2 b k)) * (show EReal from m ((c : Thread nD τ).loc main_arg2) (ix2 k v)) := by
    unfold dotAt
    refine Finset.sum_congr rfl fun k _ => ?_
    rw [h0, iblk_9 m c t k ⟨128 * j.val + l.val, by omega⟩ v hv]
  unfold zT zAt
  rw [hc, hd, iblk_8 m c t ⟨128 * j.val + l.val, by omega⟩ v hv, h2, h2, h2, h2]
  rfl

/-- Chunk `i` of a row's logits, at a lane. -/
def chunkF (c : Dev nD) (b : Fin 16) (l : Fin 128) (i : ℕ) : EReal :=
  if h : i < 250 then logitM m c b ⟨i * 128 + l.val, by omega⟩ else ⊥

theorem zT_chunk (hid : IdsOk m) (c : Dev nD) (t : Fin cfg0.N) (s : St Ideal) (hs : Fixed m c s) (j : Fin 5) (b : Fin 16) (l : Fin 128) :
    zT m c t s j b l = chunkF m c b l (t.val * 5 + j.val) := by
  have ht : t.val < 50 := lt_of_lt_of_eq t.isLt N_0
  have hi : t.val * 5 + j.val < 250 := by omega
  unfold chunkF
  rw [dif_pos hi]
  exact zT_eq m hid c t s hs j b l ⟨(t.val * 5 + j.val) * 128 + l.val, by omega⟩ (by simp only; omega)

/-- What the running scratch holds before step `n`. -/
def RunAt (c : Dev nD) (n : ℕ) (s : St Ideal) : Prop :=
  Fixed m c s
  ∧ (∀ (b : Fin 16) (l : Fin 128), s.s3 (ix2 b l) = Cert.Val.mx (chunkF m c b l) (n * 5))
  ∧ (∀ (b : Fin 16) (l : Fin 128), s.s4 (ix2 b l) = Cert.Val.sm (chunkF m c b l) (n * 5))
  ∧ (∀ (b : Fin 16) (k : Fin 20) (q : Fin 32000), (show BitVec 32 from m ((c : Thread nD τ).loc main_arg9) (ix2 b k)) = BitVec.ofNat 32 q.val →
      s.s5 (ix2 b ⟨k.val, by omega⟩) = if q.val / 128 < n * 5 then logitM m c b q else 0)

theorem run_init (c : Dev nD) (t : Fin cfg0.N) : RunAt m c 0 (initSt m c t) := by
  refine ⟨fixed_init m c t, fun b l => ?_, fun b l => ?_, fun b k q _ => ?_⟩
  · rw [init_s3]; rfl
  · rw [init_s4]; rfl
  · rw [init_s5, if_neg (by omega)]

theorem step_s3 (c : Dev nD) (t : Fin cfg0.N) (s : St Ideal) (b : Fin 16) (l : Fin 128) :
    (stepSt m c t s).s3 (ix2 b l) = max5 (s.s3 (ix2 b l)) (fun j => zT m c t s j b l) := by
  by_cases h : cond0_1 (grid0.coords t)
  · rw [stepSt_C m c t h]; exact stepC_s3 m c t h s b l
  · rw [stepSt_B m c t h]; exact stepB_s3 m c t h s b l

theorem step_s4 (c : Dev nD) (t : Fin cfg0.N) (s : St Ideal) (b : Fin 16) (l : Fin 128) :
    (stepSt m c t s).s4 (ix2 b l) = sum5 (s.s3 (ix2 b l)) (s.s4 (ix2 b l)) (max5 (s.s3 (ix2 b l)) (fun j => zT m c t s j b l)) (fun j => zT m c t s j b l) := by
  by_cases h : cond0_1 (grid0.coords t)
  · rw [stepSt_C m c t h]; exact stepC_s4 m c t h s b l
  · rw [stepSt_B m c t h]; exact stepB_s4 m c t h s b l

theorem step_s5 (c : Dev nD) (t : Fin cfg0.N) (s : St Ideal) (b : Fin 16) (n : Fin 20) (q : ℕ) (hq : q < 32000) (hx : iblk m c 7 t (ix2 b n) = BitVec.ofNat 32 q) :
    (stepSt m c t s).s5 (ix2 b ⟨n.val, by omega⟩)
      = pick5 (s.s5 (ix2 b ⟨n.val, by omega⟩)) (q / 128) (grid0.coords t 0).val (fun j => zT m c t s j b ⟨q % 128, Nat.mod_lt _ (by decide)⟩) := by
  by_cases h : cond0_1 (grid0.coords t)
  · rw [stepSt_C m c t h]; exact stepC_s5 m c t h s b n q hq hx
  · rw [stepSt_B m c t h]; exact stepB_s5 m c t h s b n q hq hx

theorem max5_chunk (hid : IdsOk m) (c : Dev nD) (t : Fin cfg0.N) (s : St Ideal) (hs : Fixed m c s) (b : Fin 16) (l : Fin 128)
    (h3 : s.s3 (ix2 b l) = Cert.Val.mx (chunkF m c b l) (t.val * 5)) :
    max5 (s.s3 (ix2 b l)) (fun j => zT m c t s j b l) = Cert.Val.mx (chunkF m c b l) (t.val * 5 + 5) := by
  unfold max5
  simp only [zT_chunk m hid c t s hs]
  rw [h3]
  exact Cert.Val.mx_five _ _

theorem run_step (hid : IdsOk m) (c : Dev nD) (t : Fin cfg0.N) (s : St Ideal) (hs : RunAt m c t.val s) : RunAt m c (t.val + 1) (stepSt m c t s) := by
  obtain ⟨hf, h3, h4, h5⟩ := hs
  have en : (t.val + 1) * 5 = t.val * 5 + 5 := by omega
  refine ⟨fixed_step m c t s hf, fun b l => ?_, fun b l => ?_, fun b k q hq => ?_⟩
  · rw [step_s3, max5_chunk m hid c t s hf b l (h3 b l), en]
  · rw [step_s4, max5_chunk m hid c t s hf b l (h3 b l), en]
    unfold sum5
    simp only [zT_chunk m hid c t s hf]
    rw [h3, h4]
    exact Cert.Val.sm_five _ _
  · have ht : t.val < 50 := lt_of_lt_of_eq t.isLt N_0
    have hz : ∀ j : Fin 5, q.val / 128 = t.val * 5 + j.val → zT m c t s j b ⟨q.val % 128, Nat.mod_lt _ (by decide)⟩ = logitM m c b q := fun j hj =>
      zT_eq m hid c t s hf j b _ q (by simp only; omega)
    rw [step_s5 m c t s b k q.val q.isLt (by rw [iblk_7]; exact hq), coords_val, h5 b k q hq]
    unfold pick5
    by_cases e4 : q.val / 128 = t.val * 5 + 4
    · rw [if_pos e4, if_pos (by omega)]; exact hz 4 e4
    rw [if_neg e4]
    by_cases e3 : q.val / 128 = t.val * 5 + 3
    · rw [if_pos e3, if_pos (by omega)]; exact hz 3 e3
    rw [if_neg e3]
    by_cases e2 : q.val / 128 = t.val * 5 + 2
    · rw [if_pos e2, if_pos (by omega)]; exact hz 2 e2
    rw [if_neg e2]
    by_cases e1 : q.val / 128 = t.val * 5 + 1
    · rw [if_pos e1, if_pos (by omega)]; exact hz 1 e1
    rw [if_neg e1]
    by_cases e0 : q.val / 128 = t.val * 5
    · rw [if_pos e0, if_pos (by omega)]; exact hz 0 e0
    rw [if_neg e0]
    by_cases e : q.val / 128 < t.val * 5
    · rw [if_pos e, if_pos (by omega)]
    · rw [if_neg e, if_neg (by omega)]

theorem run_stB (hid : IdsOk m) (c : Dev nD) : ∀ (n : ℕ) (h : n < cfg0.N), RunAt m c n (stB m c n h)
  | 0, h => run_init m c ⟨0, h⟩
  | n + 1, h => run_step m hid c ⟨n, Nat.lt_of_succ_lt h⟩ _ (run_stB hid c n (Nat.lt_of_succ_lt h))

/-! ## What the body leaves in the output blocks -/

theorem out12_eq (hid : IdsOk m) (c : Dev nD) (t : Fin cfg0.N) (y : S16x640.Idx) (v : Fin 32000) (hv : v.val = t.val * 640 + (y 1).val) :
    out12 m c t y = logitM m c (y 0) v := by
  have hy : (y 1).val < 640 := (y 1).isLt
  have e : out12 m c t y = zT m c t (stB m c t.val t.isLt) ⟨(y 1).val / 128, by omega⟩ (y 0) ⟨(y 1).val % 128, Nat.mod_lt _ (by decide)⟩ := by
    by_cases h : cond0_1 (grid0.coords t)
    · rw [out12_C m c t h]; exact stepC_12 m c t h _ y
    · rw [out12_B m c t h]; exact stepB_12 m c t h _ y
  rw [e]
  exact zT_eq m hid c t _ (fixed_stB m c _ _) _ _ _ v (by simp only; omega)

theorem run_last (hid : IdsOk m) (c : Dev nD) (t : Fin cfg0.N) (h : cond0_1 (grid0.coords t)) (ht : t.val = 49) :
    RunAt m c 50 (stepStC m c t h (stB m c t.val t.isLt)) := by
  have := run_step m hid c t _ (run_stB m hid c t.val t.isLt)
  have e : t.val + 1 = 50 := by omega
  rw [stepSt_C m c t h, e] at this
  exact this

theorem out10_eq (hid : IdsOk m) (c : Dev nD) (t : Fin cfg0.N) (h : cond0_1 (grid0.coords t)) (ht : t.val = 49) (z : Fin 1) (b : Fin 16) :
    out10 m c t (ix2 z b) = Cert.Val.lse (logitM m c b) := by
  obtain ⟨hf, h3, h4, h5⟩ := run_last m hid c t h ht
  rw [out10_C m c t h, stepC_10]
  obtain ⟨j1, j2⟩ := Cert.Val.lanes_join (logitM m c b) (chunkF m c b) fun l i hi => by unfold chunkF; rw [dif_pos hi]
  simp only [h3, h4]
  show Ideal.log (∑ l : Fin 128, Cert.Val.sm (chunkF m c b l) 250 * Ideal.exp (Cert.Val.mx (chunkF m c b l) 250 - Finset.univ.sup fun l : Fin 128 => Cert.Val.mx (chunkF m c b l) 250))
    + (Finset.univ.sup fun l : Fin 128 => Cert.Val.mx (chunkF m c b l) 250) = _
  rw [j1, j2]
  rfl

theorem out11_eq (hid : IdsOk m) (c : Dev nD) (t : Fin cfg0.N) (h : cond0_1 (grid0.coords t)) (ht : t.val = 49) (b : Fin 16) (k : Fin 20) (q : Fin 32000)
    (hq : (show BitVec 32 from m ((c : Thread nD τ).loc main_arg9) (ix2 b k)) = BitVec.ofNat 32 q.val) :
    out11 m c t (ix2 b k) = logitM m c b q - Cert.Val.lse (logitM m c b) := by
  obtain ⟨hf, h3, h4, h5⟩ := run_last m hid c t h ht
  rw [out11_C m c t h, stepC_11, ← out10_C m c t h, out10_eq m hid c t h ht, h5 b k q hq, if_pos (by omega)]

end Cert.KernelIdeal.Gen

end
-- ==== Proof.Val.KerVal.lean ====
module

public import proofs.«01_k».proof.Proof.Val.Inv
public import Idealize.ShloMosaic.Lib.Pipeline.ValueKit.Geometry

@[expose] public section

set_option maxRecDepth 16384

/-! The kernel's results as the plain tables of `Cert.Val`. -/

noncomputable section

namespace Cert.KernelIdeal.Gen

open Idealize.ShloMosaic Idealize.ShloMosaic.TcCoe Idealize.ShloMosaic.Tactic
open Idealize.SL Idealize.SL.Sem

variable (m : (ℓ : Loc nD τ sig) → Buf (Elt Ideal) ℓ)

/-- The candidates are tokens. -/
def CandOk : Prop := ∀ (c : Dev nD) b n, 0 ≤ (show BitVec 32 from m ((c : Thread nD τ).loc main_arg9) (ix2 b n)).toInt
  ∧ (show BitVec 32 from m ((c : Thread nD τ).loc main_arg9) (ix2 b n)).toInt < 32000

theorem k_idx12 : ∀ t : Fin cfg0.N, win0_12.index t (0 : Fin 2) = 0 ∧ win0_12.index t (1 : Fin 2) = t.val := (by decide +kernel : ∀ t : Fin grid0.N, _)
theorem k_cov12 : win0_12.Covers := by decide +kernel

theorem k_emb12 (t : Fin cfg0.N) (y : ((cfg0.win 12).xblock (cfg0.grid.coords t)).Idx) :
    ((((cfg0.win 12).blk t).view.emb y : S16x32000.Idx) 0).val = (y 0).val ∧ ((((cfg0.win 12).blk t).view.emb y : S16x32000.Idx) 1).val = t.val * 640 + (y 1).val := by
  obtain ⟨e0, e1⟩ := k_idx12 t
  constructor
  · show win0_12.index t (0 : Fin 2) * 16 + 1 * (y 0).val = (y 0).val; rw [e0]; omega
  · show win0_12.index t (1 : Fin 2) * 640 + 1 * (y 1).val = _; rw [e1]; omega

theorem k_idx10 : ∀ t : Fin cfg0.N, win0_10.index t (0 : Fin 2) = 0 ∧ win0_10.index t (1 : Fin 2) = 0 := (by decide +kernel : ∀ t : Fin grid0.N, _)
theorem k_cov10 : win0_10.Covers := by decide +kernel

theorem k_emb10 (t : Fin cfg0.N) (y : ((cfg0.win 10).xblock (cfg0.grid.coords t)).Idx) :
    ((((cfg0.win 10).blk t).view.emb y : S1x16.Idx) 0).val = (y 0).val ∧ ((((cfg0.win 10).blk t).view.emb y : S1x16.Idx) 1).val = (y 1).val := by
  obtain ⟨e0, e1⟩ := k_idx10 t
  constructor
  · show win0_10.index t (0 : Fin 2) * 1 + 1 * (y 0).val = (y 0).val; rw [e0]; omega
  · show win0_10.index t (1 : Fin 2) * 16 + 1 * (y 1).val = _; rw [e1]; omega

theorem k_idx11 : ∀ t : Fin cfg0.N, win0_11.index t (0 : Fin 2) = 0 ∧ win0_11.index t (1 : Fin 2) = 0 := (by decide +kernel : ∀ t : Fin grid0.N, _)
theorem k_cov11 : win0_11.Covers := by decide +kernel

theorem k_emb11 (t : Fin cfg0.N) (y : ((cfg0.win 11).xblock (cfg0.grid.coords t)).Idx) :
    ((((cfg0.win 11).blk t).view.emb y : S16x20.Idx) 0).val = (y 0).val ∧ ((((cfg0.win 11).blk t).view.emb y : S16x20.Idx) 1).val = (y 1).val := by
  obtain ⟨e0, e1⟩ := k_idx11 t
  constructor
  · show win0_11.index t (0 : Fin 2) * 16 + 1 * (y 0).val = (y 0).val; rw [e0]; omega
  · show win0_11.index t (1 : Fin 2) * 20 + 1 * (y 1).val = _; rw [e1]; omega

/-- The third result. -/
theorem arr12 (hid : IdsOk m) (c : Dev nD) : (dats m 0 c).arrAt 12 cfg0.N = Cert.Val.logits (logitM m c) := by
  apply Pipeline.Dat.arrAt_eq_of_covers (dats m 0 c) (12 : Fin cfg0.W) (Cert.Val.logits (logitM m c)) k_cov12
  intro t hf y
  obtain ⟨e0, e1⟩ := k_emb12 t y
  refine Eq.trans (congrFun (after0_12 m c t) _) ?_
  refine (out12_eq m hid c t _ (((cfg0.win 12).blk t).view.emb y 1) e1).trans ?_
  exact congrArg (fun b => logitM m c b (((cfg0.win 12).blk t).view.emb y 1)) (Fin.ext e0.symm)

theorem last10 (t : Fin cfg0.N) (hf : t.val % 50 = 49) : t.val = 49 := by
  have ht : t.val < 50 := lt_of_lt_of_eq t.isLt N_0
  omega

/-- The first result. -/
theorem arr10 (hid : IdsOk m) (c : Dev nD) : (dats m 0 c).arrAt 10 cfg0.N = Cert.Val.lseRow (logitM m c) := by
  apply Pipeline.Dat.arrAt_eq_of_covers (dats m 0 c) (10 : Fin cfg0.W) (Cert.Val.lseRow (logitM m c)) k_cov10
  intro t hf y
  obtain ⟨e0, e1⟩ := k_emb10 t y
  have h49 := (flush0_10 t).mp hf
  refine Eq.trans (congrFun (after0_10 m c t) _) ?_
  have key := out10_eq m hid c t ((hcond0_1 t).mpr h49) (last10 t h49) (((cfg0.win 10).blk t).view.emb y 0) (((cfg0.win 10).blk t).view.emb y 1)
  refine Eq.trans (congrArg (out10 m c t) ?_) key
  funext a; apply Fin.ext
  match a with
  | ⟨0, _⟩ => exact e0.symm
  | ⟨1, _⟩ => exact e1.symm

/-- The second result. -/
theorem arr11 (hid : IdsOk m) (hcand : CandOk m) (c : Dev nD) :
    (dats m 0 c).arrAt 11 cfg0.N = Cert.Val.picked (logitM m c) (fun b n => m ((c : Thread nD τ).loc main_arg9) (ix2 b n)) := by
  apply Pipeline.Dat.arrAt_eq_of_covers (dats m 0 c) (11 : Fin cfg0.W)
    (Cert.Val.picked (logitM m c) (fun b n => m ((c : Thread nD τ).loc main_arg9) (ix2 b n))) k_cov11
  intro t hf y
  obtain ⟨e0, e1⟩ := k_emb11 t y
  have h49 := (flush0_11 t).mp hf
  refine Eq.trans (congrFun (after0_11 m c t) _) ?_
  have key := out11_eq m hid c t ((hcond0_1 t).mpr h49) (last10 t h49) (((cfg0.win 11).blk t).view.emb y 0) (((cfg0.win 11).blk t).view.emb y 1) _
    (Cert.Val.tok_eq _ (hcand c (((cfg0.win 11).blk t).view.emb y 0) (((cfg0.win 11).blk t).view.emb y 1)).1 (hcand c (((cfg0.win 11).blk t).view.emb y 0) (((cfg0.win 11).blk t).view.emb y 1)).2)
  refine Eq.trans (congrArg (out11 m c t) ?_) key
  funext a; apply Fin.ext
  match a with
  | ⟨0, _⟩ => exact e0.symm
  | ⟨1, _⟩ => exact e1.symm

/-- The kernel's run: the three results are the plain tables, and the arguments end unchanged. -/
theorem run_vals (ρ : Dev nD → PrngReg) (hid : IdsOk m) (hcand : CandOk m) :
    θ_run defs (onTc (τ := τ) (main (F := Ideal))) ⟨m, fun _ => 0, ρ⟩ (fun r => ∀ c : Dev nD,
      r.2.mem ((c.tc : Thread nD τ).loc main_v1_0) = Cert.Val.lseRow (logitM m c)
      ∧ r.2.mem ((c.tc : Thread nD τ).loc main_v1_1) = Cert.Val.picked (logitM m c) (fun b n => m ((c : Thread nD τ).loc main_arg9) (ix2 b n))
      ∧ r.2.mem ((c.tc : Thread nD τ).loc main_v1_2) = Cert.Val.logits (logitM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h c).1 10).trans (arr10 m hid c), ((h c).1 11).trans (arr11 m hid hcand c), ((h c).1 12).trans (arr12 m hid c),
    ((h c).1 5).trans (((dats m 0 c).arrAt_in 5 rfl _).trans ((A_eq m c 5).trans (V_main_arg0 m c))),
    ((h c).1 1).trans (((dats m 0 c).arrAt_in 1 rfl _).trans ((A_eq m c 1).trans (V_main_arg1 m c))),
    ((h c).1 9).trans (((dats m 0 c).arrAt_in 9 rfl _).trans ((A_eq m c 9).trans (V_main_arg2 m c))),
    ((h c).2 main_arg3 (Pipeline.mem_restRefs_of main_arg3 (by decide) (by decide))).trans (V_main_arg3 m c),
    ((h c).1 6).trans (((dats m 0 c).arrAt_in 6 rfl _).trans ((A_eq m c 6).trans (V_main_arg4 m c))),
    ((h c).1 0).trans (((dats m 0 c).arrAt_in 0 rfl _).trans ((A_eq m c 0).trans (V_main_arg5 m c))),
    ((h c).1 2).trans (((dats m 0 c).arrAt_in 2 rfl _).trans ((A_eq m c 2).trans (V_main_arg6 m c))),
    ((h c).1 3).trans (((dats m 0 c).arrAt_in 3 rfl _).trans ((A_eq m c 3).trans (V_main_arg7 m c))),
    ((h c).1 4).trans (((dats m 0 c).arrAt_in 4 rfl _).trans ((A_eq m c 4).trans (V_main_arg8 m c))),
    ((h c).1 7).trans (((dats m 0 c).arrAt_in 7 rfl _).trans ((A_eq m c 7).trans (V_main_arg9 m c)))⟩) (run_main m ρ)

end Cert.KernelIdeal.Gen

end
-- ==== Proof.Val.RefHost.lean ====
module

public import proofs.«01_k».proof.Proof.Gen.ReferenceIdeal.Frame
public import proofs.«01_k».proof.Proof.Val.Spec
public import proofs.«01_k».proof.Proof.Val.Online
public import Idealize.ShloMosaic.Lib.StableHlo.ReadAt
public import Idealize.ShloMosaic.Lib.IdealHost

@[expose] public section

set_option maxRecDepth 16384

/-! The host operations of the reference, read at an index. -/

noncomputable section

namespace Cert.ReferenceIdeal.Gen

open Idealize.ShloMosaic Idealize.ShloMosaic.TcCoe Idealize.ShloMosaic.Tactic

/-- A core's buffer contents. -/
abbrev VV := Valuation τ sig (Elt Ideal)

/-! ## Words -/

theorem slt_zero (x : BitVec 32) (h : 0 ≤ x.toInt) : IntOp.cmpi .slt x 0#32 = 0#1 := by
  simp only [IntOp.cmpi, BitVec.slt]
  rw [decide_eq_false (by simpa using h)]
  rfl

theorem wrap_nonneg (x y : BitVec 32) (h : 0 ≤ x.toInt) : Scalar.select (IntOp.cmpi .slt x 0#32) y x = x := by
  rw [slt_zero x h]; rfl

theorem toInt_small (n : ℕ) (h : n < 2 ^ 31) : (BitVec.ofNat 32 n).toInt = (n : ℤ) := by
  rw [BitVec.toInt_ofNat']
  simp only [Int.bmod]
  omega

/-! ## The scatter and the gather at an index -/

theorem scatter_lands (idx : IVec S16x1024x2 32) (b b' : Fin 16) (x : Fin 1024) (v : Fin 32000)
    (h0 : (idx (ix3 b' x 0)).toInt = (b'.val : ℤ)) :
    scatter_S16x32000_S16x1024x2_S16x1024_n_01_01_2.resultIdx? (ix2 b' x) idx = some (ix2 b v)
      ↔ b' = b ∧ (idx (ix3 b' x 1)).toInt = (v.val : ℤ) := by
  have s0 : scatter_S16x32000_S16x1024x2_S16x1024_n_01_01_2.start (ix2 b' x) idx 0 = (idx (ix3 b' x 0)).toInt := by
    unfold ScatterDims.start
    rw [dif_pos (show (0 : Fin 2) ∈ scatter_S16x32000_S16x1024x2_S16x1024_n_01_01_2.scatterDimsToOperandDims by decide)]
    congr 2
    funext a; apply Fin.ext
    match a with
    | ⟨0, _⟩ => rfl
    | ⟨1, _⟩ => rfl
    | ⟨2, _⟩ => rfl
  have s1 : scatter_S16x32000_S16x1024x2_S16x1024_n_01_01_2.start (ix2 b' x) idx 1 = (idx (ix3 b' x 1)).toInt := by
    unfold ScatterDims.start
    rw [dif_pos (show (1 : Fin 2) ∈ scatter_S16x32000_S16x1024x2_S16x1024_n_01_01_2.scatterDimsToOperandDims by decide)]
    congr 2
    funext a; apply Fin.ext
    match a with
    | ⟨0, _⟩ => rfl
    | ⟨1, _⟩ => rfl
    | ⟨2, _⟩ => rfl
  have w : ∀ a, scatter_S16x32000_S16x1024x2_S16x1024_n_01_01_2.window (ix2 b' x) a = 0 := by
    intro a
    unfold ScatterDims.window
    rw [dif_neg (by revert a; decide)]
  have hb' := b'.isLt
  have hv := v.isLt
  unfold ScatterDims.resultIdx?
  constructor
  · intro h
    split at h
    · rename_i hh
      have e := Option.some.inj h
      have e0 := congrArg Fin.val (congrFun e 0)
      have e1 := congrArg Fin.val (congrFun e 1)
      have g0 := hh 0
      have g1 := hh 1
      simp only [s0, s1, w, h0] at e0 e1 g0 g1
      have e0' : ((b'.val : ℤ) + (0 : ℕ)).toNat = b.val := e0
      have e1' : ((idx (ix3 b' x 1)).toInt + (0 : ℕ)).toNat = v.val := e1
      exact ⟨Fin.ext (by omega), by omega⟩
    · exact absurd h (by simp)
  · rintro ⟨rfl, h1⟩
    have hh : ∀ a, 0 ≤ scatter_S16x32000_S16x1024x2_S16x1024_n_01_01_2.start (ix2 b' x) idx a + scatter_S16x32000_S16x1024x2_S16x1024_n_01_01_2.window (ix2 b' x) a
        ∧ scatter_S16x32000_S16x1024x2_S16x1024_n_01_01_2.start (ix2 b' x) idx a + scatter_S16x32000_S16x1024x2_S16x1024_n_01_01_2.window (ix2 b' x) a < (S16x32000.size a : ℤ) := by
      intro a
      rw [w]
      match a with
      | ⟨0, _⟩ => show 0 ≤ scatter_S16x32000_S16x1024x2_S16x1024_n_01_01_2.start (ix2 b' x) idx 0 + (0 : ℕ) ∧ scatter_S16x32000_S16x1024x2_S16x1024_n_01_01_2.start (ix2 b' x) idx 0 + (0 : ℕ) < ((16 : ℕ) : ℤ)
                  rw [s0, h0]; omega
      | ⟨1, _⟩ => show 0 ≤ scatter_S16x32000_S16x1024x2_S16x1024_n_01_01_2.start (ix2 b' x) idx 1 + (0 : ℕ) ∧ scatter_S16x32000_S16x1024x2_S16x1024_n_01_01_2.start (ix2 b' x) idx 1 + (0 : ℕ) < ((32000 : ℕ) : ℤ)
                  rw [s1, h1]; omega
    rw [dif_pos hh]
    refine congrArg some ?_
    funext a; apply Fin.ext
    match a with
    | ⟨0, _⟩ => show (scatter_S16x32000_S16x1024x2_S16x1024_n_01_01_2.start (ix2 b' x) idx 0 + scatter_S16x32000_S16x1024x2_S16x1024_n_01_01_2.window (ix2 b' x) 0).toNat = b'.val
                rw [s0, w, h0]; omega
    | ⟨1, _⟩ => show (scatter_S16x32000_S16x1024x2_S16x1024_n_01_01_2.start (ix2 b' x) idx 1 + scatter_S16x32000_S16x1024x2_S16x1024_n_01_01_2.window (ix2 b' x) 1).toNat = v.val
                rw [s1, w, h1]; omega

theorem scatter_at (idx : IVec S16x1024x2 32) (upd : FVec Ideal S16x1024 .f32) (b : Fin 16) (v : Fin 32000)
    (h0 : ∀ b x, (idx (ix3 b x 0)).toInt = (b.val : ℤ)) :
    Host.scatterAdd (F := Ideal) (φ := .f32) scatter_S16x32000_S16x1024x2_S16x1024_n_01_01_2
        (broadcastInDim S16x32000 ![] bcast_S_S16x32000 (constant S_ FTy.f32 0#32)) idx upd (ix2 b v)
      = ∑ x : Fin 1024, if (idx (ix3 b x 1)).toInt = (v.val : ℤ) then (upd (ix2 b x) : EReal) else 0 := by
  show Ideal.hostScatterAdd scatter_S16x32000_S16x1024x2_S16x1024_n_01_01_2 _ idx upd (ix2 b v) = _
  unfold Ideal.hostScatterAdd
  have hz : (broadcastInDim S16x32000 ![] bcast_S_S16x32000 (constant (F := Ideal) S_ FTy.f32 0#32)) (ix2 b v) = (0 : EReal) := by
    pointwise []
  rw [hz, zero_add, Finset.sum_filter, sum_idx2, Finset.sum_eq_single b]
  · refine Finset.sum_congr rfl fun x _ => ?_
    exact if_congr ((scatter_lands idx b b x v (h0 b x)).trans ⟨fun h => h.2, fun h => ⟨rfl, h⟩⟩) rfl rfl
  · intro b' _ hb
    refine Finset.sum_eq_zero fun x _ => if_neg fun h => hb ((scatter_lands idx b b' x v (h0 b' x)).mp h).1
  · intro h; exact absurd (Finset.mem_univ b) h

theorem gather_at (X : Vec Ideal S16x32000 .f32) (idx : IVec S16x20x1 32) (b : Fin 16) (n : Fin 20) :
    Host.gather gather_S16x32000_S16x20x1_S16x20_n_1_0_0_1_2_11 X idx (ix2 b n)
      = X (ix2 b ⟨min (idx (ix3 b n 0)).toInt.toNat 31999, by omega⟩) := by
  unfold Host.gather
  congr 1
  funext a; apply Fin.ext
  have k0 : gather_S16x32000_S16x20x1_S16x20_n_1_0_0_1_2_11.start (ix2 b n) idx 0 + gather_S16x32000_S16x20x1_S16x20_n_1_0_0_1_2_11.batchCoord (ix2 b n) 0
      + gather_S16x32000_S16x20x1_S16x20_n_1_0_0_1_2_11.offCoord (ix2 b n) 0 = b.val := by
    rw [GatherDims.start_batching gather_S16x32000_S16x20x1_S16x20_n_1_0_0_1_2_11 (ix2 b n) idx 0 (by decide), GatherDims.offCoord_eq_zero gather_S16x32000_S16x20x1_S16x20_n_1_0_0_1_2_11 (ix2 b n) 0 (by decide)]
    unfold GatherDims.batchCoord
    rw [dif_pos (show (0 : Fin 2) ∈ gather_S16x32000_S16x20x1_S16x20_n_1_0_0_1_2_11.operandBatchingDims by decide)]
    rw [Nat.zero_add, Nat.add_zero]
    rfl
  have k1 : gather_S16x32000_S16x20x1_S16x20_n_1_0_0_1_2_11.start (ix2 b n) idx 1 + gather_S16x32000_S16x20x1_S16x20_n_1_0_0_1_2_11.batchCoord (ix2 b n) 1
      + gather_S16x32000_S16x20x1_S16x20_n_1_0_0_1_2_11.offCoord (ix2 b n) 1 = min (idx (ix3 b n 0)).toInt.toNat 31999 := by
    rw [GatherDims.batchCoord_eq_zero gather_S16x32000_S16x20x1_S16x20_n_1_0_0_1_2_11 (ix2 b n) 1 (by decide), GatherDims.offCoord_eq_zero gather_S16x32000_S16x20x1_S16x20_n_1_0_0_1_2_11 (ix2 b n) 1 (by decide)]
    unfold GatherDims.start
    rw [dif_pos (show (1 : Fin 2) ∈ gather_S16x32000_S16x20x1_S16x20_n_1_0_0_1_2_11.startIndexMap by decide)]
    have e : gather_S16x32000_S16x20x1_S16x20_n_1_0_0_1_2_11.siIdx (ix2 b n) ⟨List.idxOf (1 : Fin 2) gather_S16x32000_S16x20x1_S16x20_n_1_0_0_1_2_11.startIndexMap,
        List.idxOf_lt_length_iff.2 (by decide)⟩ = ix3 b n 0 := by
      funext a; apply Fin.ext
      match a with
      | ⟨0, _⟩ => rfl
      | ⟨1, _⟩ => rfl
      | ⟨2, _⟩ => rfl
    rw [e]
    rfl
  match a with
  | ⟨0, _⟩ => exact k0
  | ⟨1, _⟩ => exact k1

theorem ofBool_if (p : Prop) [Decidable p] : BitVec.ofBool (decide p) = if p then 1#1 else 0#1 := by
  by_cases h : p <;> simp [h]

theorem pick_one (X : Vec Ideal S16x32000 .f32) (b : Fin 16) (q : Fin 32000) (w : BitVec 32) (hw : w = BitVec.ofNat 32 q.val) (junk : EReal)
    (hlt : min (Scalar.select (IntOp.cmpi .slt w 0#32) (IntOp.addi w 32000#32) w).toInt.toNat 31999 < 32000) :
    Scalar.select
      (Finset.fold IntOp.andi (1#1)
        (fun _ : Fin 1 => IntOp.andi (IntOp.cmpi .sge (Scalar.select (IntOp.cmpi .slt w 0#32) (IntOp.addi w 32000#32) w) 0#32)
          (IntOp.cmpi .sle (Scalar.select (IntOp.cmpi .slt w 0#32) (IntOp.addi w 32000#32) w) 31999#32)) Finset.univ)
      (X (ix2 b ⟨min (Scalar.select (IntOp.cmpi .slt w 0#32) (IntOp.addi w 32000#32) w).toInt.toNat 31999, hlt⟩) : EReal) junk
      = X (ix2 b q) := by
  have hq := q.isLt
  have ht : w.toInt = (q.val : ℤ) := by rw [hw, toInt_small _ (by omega)]
  have hs : Scalar.select (IntOp.cmpi .slt w 0#32) (IntOp.addi w 32000#32) w = w := wrap_nonneg _ _ (by omega)
  have h1 : IntOp.cmpi .sge w 0#32 = 1#1 := by
    simp only [IntOp.cmpi, BitVec.sle]
    rw [decide_eq_true (by rw [ht]; simp)]; rfl
  have h2 : IntOp.cmpi .sle w 31999#32 = 1#1 := by
    simp only [IntOp.cmpi, BitVec.sle]
    rw [decide_eq_true (by rw [ht, toInt_small _ (by omega)]; omega)]; rfl
  simp only [hs, h1, h2, ht]
  have e : (⟨min ((q.val : ℤ)).toNat 31999, by omega⟩ : Fin 32000) = q := Fin.ext (by simp; omega)
  simp only [e]
  rw [show (Finset.univ : Finset (Fin 1)) = {0} from rfl, Finset.fold_singleton]
  rfl

/-! ## The operations -/

/-- The product scaled by the row's and the column's scale. -/
def scaled (V : VV) (b : Fin 16) (v : Fin 32000) : EReal :=
  (show EReal from V (Proc.devRef .tc main_v0) (ix2 b v)) * (show EReal from V (Proc.devRef .tc main_arg1) (ix1 b))
    * (show EReal from V (Proc.devRef .tc main_arg3) (ix1 v))

theorem h1_v6 (V : VV) (b : Fin 16) (v : Fin 32000) :
    StableHlo.after (hostOps1 (F := Ideal)) V (Proc.devRef .tc main_v6) (ix2 b v) = scaled V b v := by
  after_reads_at
  rfl

theorem h1_v31 (V : VV) :
    StableHlo.after (hostOps1 (F := Ideal)) V (Proc.devRef .tc main_v31)
      = Host.scatterAdd (F := Ideal) (φ := .f32) scatter_S16x32000_S16x1024x2_S16x1024_n_01_01_2
          (broadcastInDim S16x32000 ![] bcast_S_S16x32000 (constant S_ FTy.f32 0#32))
          (StableHlo.after (hostOps1 (F := Ideal)) V (Proc.devRef .tc main_v30))
          (StableHlo.after (hostOps1 (F := Ideal)) V (Proc.devRef .tc main_v13)) := by
  after_reads_simp

theorem h1_v30_0 (V : VV) (b : Fin 16) (x : Fin 1024) :
    StableHlo.after (hostOps1 (F := Ideal)) V (Proc.devRef .tc main_v30) (ix3 b x 0) = BitVec.ofNat 32 b.val := by
  after_reads_at
  exact wrap_nonneg _ _ (by rw [toInt_small _ (by omega)]; omega)

theorem h1_v30_1 (V : VV) (b : Fin 16) (x : Fin 1024) (h : 0 ≤ (show BitVec 32 from V (Proc.devRef .tc main_arg4) (ix2 b x)).toInt) :
    StableHlo.after (hostOps1 (F := Ideal)) V (Proc.devRef .tc main_v30) (ix3 b x 1) = V (Proc.devRef .tc main_arg4) (ix2 b x) := by
  after_reads_at
  exact wrap_nonneg _ _ h

theorem h1_v13 (V : VV) (b : Fin 16) (x : Fin 1024) :
    StableHlo.after (hostOps1 (F := Ideal)) V (Proc.devRef .tc main_v13) (ix2 b x)
      = if (x.val : ℤ) < (show BitVec 32 from V (Proc.devRef .tc main_arg5) (ix1 b)).toInt then (1 : EReal) else 0 := by
  after_reads_at
  have e : IntOp.cmpi .slt (BitVec.ofNat 32 x.val) (show BitVec 32 from V (Proc.devRef .tc main_arg5) (ix1 b))
      = if (x.val : ℤ) < (show BitVec 32 from V (Proc.devRef .tc main_arg5) (ix1 b)).toInt then 1#1 else 0#1 := by
    simp only [IntOp.cmpi, BitVec.slt, toInt_small x.val (by omega)]
    split <;> rename_i h <;> simp [h]
  refine (congrArg (FloatOps.uitofp (F := Ideal) FTy.f32) e).trans ?_
  split
  · show ((((1#1 : BitVec 1).toNat : ℕ) : ℝ) : EReal) = 1; simp
  · show ((((0#1 : BitVec 1).toNat : ℕ) : ℝ) : EReal) = 0; simp

theorem h1_v33 (V : VV) :
    StableHlo.after (hostOps1 (F := Ideal)) V (Proc.devRef .tc main_v33)
      = cmpf (F := Ideal) (φ := .f32) .ogt (StableHlo.after (hostOps1 (F := Ideal)) V (Proc.devRef .tc main_v31)) (broadcastInDim S16x32000 ![] bcast_S_S16x32000 (constant S_ FTy.f32 0#32)) := by
  after_reads_simp

theorem gt_zero (X : Vec Ideal S16x32000 .f32) (b : Fin 16) (v : Fin 32000) :
    cmpf (F := Ideal) (φ := .f32) .ogt X (broadcastInDim S16x32000 ![] bcast_S_S16x32000 (constant S_ FTy.f32 0#32)) (ix2 b v)
      = if (0 : EReal) < X (ix2 b v) then 1#1 else 0#1 := by
  pointwise []
  exact ofBool_if _

theorem h1_v36 (V : VV) (b : Fin 16) (v : Fin 32000) :
    StableHlo.after (hostOps1 (F := Ideal)) V (Proc.devRef .tc main_v36) (ix2 b v) = if 0 < scaled V b v then 1#1 else 0#1 := by
  after_reads_at
  exact ofBool_if _

theorem h1_v38 (V : VV) (b : Fin 16) (v : Fin 32000) :
    StableHlo.after (hostOps1 (F := Ideal)) V (Proc.devRef .tc main_v38) (ix2 b v)
      = Ideal.div (scaled V b v) (V (Proc.devRef .tc main_arg8) (ix1 b)) := by
  after_reads_at
  rfl

theorem h1_v40 (V : VV) (b : Fin 16) (v : Fin 32000) :
    StableHlo.after (hostOps1 (F := Ideal)) V (Proc.devRef .tc main_v40) (ix2 b v)
      = scaled V b v * (show EReal from V (Proc.devRef .tc main_arg8) (ix1 b)) := by
  after_reads_at
  rfl

theorem h12_v42 (V : VV) (b : Fin 16) (v : Fin 32000) :
    StableHlo.after (hostOps1_2 (F := Ideal)) (StableHlo.after (hostOps1_1 (F := Ideal)) V) (Proc.devRef .tc main_v42) (ix2 b v)
      = Scalar.select (show BitVec 1 from V (Proc.devRef .tc main_v33) (ix2 b v))
          (Scalar.select (show BitVec 1 from V (Proc.devRef .tc main_v36) (ix2 b v)) (show EReal from V (Proc.devRef .tc main_v38) (ix2 b v)) (show EReal from V (Proc.devRef .tc main_v40) (ix2 b v)))
          (show EReal from V (Proc.devRef .tc main_v6) (ix2 b v)) := by
  after_reads_at

theorem h3_v51 (V : VV) (b : Fin 16) (v : Fin 32000) :
    StableHlo.after (hostOps1_3 (F := Ideal)) V (Proc.devRef .tc main_v51) (ix2 b v)
      = (show EReal from V (Proc.devRef .tc main_v42) (ix2 b v))
        - (show EReal from V (Proc.devRef .tc main_v31) (ix2 b v)) * (show EReal from V (Proc.devRef .tc main_arg7) (ix1 b))
        - FloatOps.uitofp (F := Ideal) FTy.f32 (show BitVec 1 from V (Proc.devRef .tc main_v33) (ix2 b v))
          * (show EReal from V (Proc.devRef .tc main_arg6) (ix1 b)) := by
  after_reads_at

/-- The logsumexp, over the logits the same operations leave. -/
theorem h3_v59 (V : VV) (b : Fin 16) :
    StableHlo.after (hostOps1_3 (F := Ideal)) V (Proc.devRef .tc main_v59) (ix1 b)
      = Cert.Val.lse fun v => StableHlo.after (hostOps1_3 (F := Ideal)) V (Proc.devRef .tc main_v51) (ix2 b v) := by
  refine Eq.trans ?_ (congrArg Cert.Val.lse (funext fun v => h3_v51 V b v)).symm
  unfold Cert.Val.lse
  after_reads_at
  simp only [Cert.KernelIdeal.Gen.negInf, Cert.Val.fold_max_eq]

theorem h4_v60 (V : VV) (b : Fin 16) (n : Fin 20) (q : Fin 32000)
    (h : (show BitVec 32 from V (Proc.devRef .tc main_arg9) (ix2 b n)) = BitVec.ofNat 32 q.val) :
    StableHlo.after (hostOps1_4 (F := Ideal)) V (Proc.devRef .tc main_v60) (ix2 b n) = V (Proc.devRef .tc main_v51) (ix2 b q) := by
  after_reads_at
  rw [gather_at]
  exact pick_one (V (Proc.devRef .tc main_v51)) b q _ h _ _

theorem h5_v63 (V : VV) (b : Fin 16) (n : Fin 20) :
    StableHlo.after (hostOps1_5 (F := Ideal)) V (Proc.devRef .tc main_v63) (ix2 b n)
      = (show EReal from V (Proc.devRef .tc main_v60) (ix2 b n)) - (show EReal from V (Proc.devRef .tc main_v59) (ix1 b)) := by
  after_reads_at

theorem h5_v64 (V : VV) (b : Fin 16) :
    StableHlo.after (hostOps1_5 (F := Ideal)) V (Proc.devRef .tc main_v64) (ix2 0 b) = V (Proc.devRef .tc main_v59) (ix1 b) := by
  after_reads_at

end Cert.ReferenceIdeal.Gen

end
-- ==== Proof.Val.RefVal.lean ====
module

public import proofs.«01_k».proof.Proof.Val.RefHost
public import Idealize.ShloMosaic.Lib.Pipeline.ValueKit.Geometry

@[expose] public section

set_option maxRecDepth 16384

/-! The reference's results as the plain tables of `Cert.Val`. -/

noncomputable section

namespace Cert.ReferenceIdeal.Gen

open Idealize.ShloMosaic Idealize.ShloMosaic.TcCoe Idealize.ShloMosaic.Tactic
open Idealize.SL Idealize.SL.Sem

/-! ## The host lines, from any contents -/

/-- The contents after the first three stretches of host lines. -/
abbrev h012 (V : VV) : VV :=
  StableHlo.after (hostOps1_2 (F := Ideal)) (StableHlo.after (hostOps1_1 (F := Ideal)) (StableHlo.after (hostOps1 (F := Ideal)) V))

/-- The contents after all host lines. -/
abbrev hAll (V : VV) : VV :=
  StableHlo.after (hostOps1_5 (F := Ideal)) (StableHlo.after (hostOps1_4 (F := Ideal)) (StableHlo.after (hostOps1_3 (F := Ideal)) (h012 V)))

/-- The history counts the host lines form. -/
def hitsV (V : VV) (b : Fin 16) (v : Fin 32000) : EReal :=
  Cert.Val.hits (fun b x => V (Proc.devRef .tc main_arg4) (ix2 b x)) (fun b => V (Proc.devRef .tc main_arg5) (ix1 b)) b v

/-- The penalized logits the host lines form. -/
def logitV (V : VV) (b : Fin 16) (v : Fin 32000) : EReal :=
  Cert.KernelIdeal.Gen.pen (scaled V b v) (hitsV V b v) (V (Proc.devRef .tc main_arg8) (ix1 b)) (V (Proc.devRef .tc main_arg7) (ix1 b))
    (V (Proc.devRef .tc main_arg6) (ix1 b))

theorem h1_hits (V : VV) (b : Fin 16) (v : Fin 32000)
    (h : ∀ b x, 0 ≤ (show BitVec 32 from V (Proc.devRef .tc main_arg4) (ix2 b x)).toInt) :
    StableHlo.after (hostOps1 (F := Ideal)) V (Proc.devRef .tc main_v31) (ix2 b v) = hitsV V b v := by
  refine (congrFun (h1_v31 V) (ix2 b v)).trans ((scatter_at _ _ b v (fun b x => by rw [h1_v30_0]; exact toInt_small _ (by omega))).trans ?_)
  unfold hitsV Cert.Val.hits
  refine Finset.sum_congr rfl fun x _ => ?_
  rw [h1_v30_1 V b x (h b x), h1_v13 V b x]
  by_cases h1 : (x.val : ℤ) < (show BitVec 32 from V (Proc.devRef .tc main_arg5) (ix1 b)).toInt <;>
  by_cases h2 : (show BitVec 32 from V (Proc.devRef .tc main_arg4) (ix2 b x)).toInt = (v.val : ℤ) <;>
  simp [h1, h2]

theorem h1_gt (V : VV) (b : Fin 16) (v : Fin 32000)
    (h : ∀ b x, 0 ≤ (show BitVec 32 from V (Proc.devRef .tc main_arg4) (ix2 b x)).toInt) :
    StableHlo.after (hostOps1 (F := Ideal)) V (Proc.devRef .tc main_v33) (ix2 b v) = if 0 < hitsV V b v then 1#1 else 0#1 := by
  rw [h1_v33, gt_zero, h1_hits V b v h]

theorem h012_of (V : VV) (r : Ref sig .tc) (h2 : r ∉ hostOps1_2_W) (h1 : r ∉ hostOps1_1_W) :
    h012 V (Proc.devRef .tc r) = StableHlo.after (hostOps1 (F := Ideal)) V (Proc.devRef .tc r) := by
  unfold h012
  rw [StableHlo.after_of_writes_sub (r := r) hostOps1_2 _ hostOps1_2_writes h2,
    StableHlo.after_of_writes_sub (r := r) hostOps1_1 _ hostOps1_1_writes h1]

theorem h012_arg (V : VV) (r : Ref sig .tc) (h2 : r ∉ hostOps1_2_W) (h1 : r ∉ hostOps1_1_W) (h0 : r ∉ hostOps1_W) :
    h012 V (Proc.devRef .tc r) = V (Proc.devRef .tc r) := by
  rw [h012_of V r h2 h1, StableHlo.after_of_writes_sub (r := r) hostOps1 _ hostOps1_writes h0]

theorem h012_v42 (V : VV) (b : Fin 16) (v : Fin 32000) : h012 V (Proc.devRef .tc main_v42) (ix2 b v)
      = Scalar.select (show BitVec 1 from StableHlo.after (hostOps1 (F := Ideal)) V (Proc.devRef .tc main_v33) (ix2 b v))
          (Scalar.select (show BitVec 1 from StableHlo.after (hostOps1 (F := Ideal)) V (Proc.devRef .tc main_v36) (ix2 b v))
            (show EReal from StableHlo.after (hostOps1 (F := Ideal)) V (Proc.devRef .tc main_v38) (ix2 b v))
            (show EReal from StableHlo.after (hostOps1 (F := Ideal)) V (Proc.devRef .tc main_v40) (ix2 b v)))
          (show EReal from StableHlo.after (hostOps1 (F := Ideal)) V (Proc.devRef .tc main_v6) (ix2 b v)) :=
  h12_v42 (StableHlo.after (hostOps1 (F := Ideal)) V) b v

theorem h3_logit (V : VV) (b : Fin 16) (v : Fin 32000)
    (h : ∀ b x, 0 ≤ (show BitVec 32 from V (Proc.devRef .tc main_arg4) (ix2 b x)).toInt) :
    StableHlo.after (hostOps1_3 (F := Ideal)) (h012 V) (Proc.devRef .tc main_v51) (ix2 b v) = logitV V b v := by
  rw [h3_v51, h012_v42, h012_of V main_v31 (by decide +kernel) (by decide +kernel), h012_of V main_v33 (by decide +kernel) (by decide +kernel),
    h012_arg V main_arg7 (by decide +kernel) (by decide +kernel) (by decide +kernel),
    h012_arg V main_arg6 (by decide +kernel) (by decide +kernel) (by decide +kernel),
    h1_gt V b v h, h1_hits V b v h, h1_v36, h1_v38, h1_v40, h1_v6]
  unfold logitV Cert.KernelIdeal.Gen.pen
  by_cases hc : 0 < hitsV V b v <;> by_cases hs : 0 < scaled V b v <;>
    simp [hc, hs, Scalar.select, FloatOps.uitofp]

theorem hAll_v51 (V : VV) (b : Fin 16) (v : Fin 32000)
    (h : ∀ b x, 0 ≤ (show BitVec 32 from V (Proc.devRef .tc main_arg4) (ix2 b x)).toInt) :
    hAll V (Proc.devRef .tc main_v51) (ix2 b v) = logitV V b v := by
  unfold hAll
  rw [StableHlo.after_of_writes_sub (r := main_v51) hostOps1_5 _ hostOps1_5_writes (by decide +kernel),
    StableHlo.after_of_writes_sub (r := main_v51) hostOps1_4 _ hostOps1_4_writes (by decide +kernel)]
  exact h3_logit V b v h

theorem h34_v59 (V : VV) (b : Fin 16)
    (h : ∀ b x, 0 ≤ (show BitVec 32 from V (Proc.devRef .tc main_arg4) (ix2 b x)).toInt) :
    StableHlo.after (hostOps1_4 (F := Ideal)) (StableHlo.after (hostOps1_3 (F := Ideal)) (h012 V)) (Proc.devRef .tc main_v59) (ix1 b)
      = Cert.Val.lse (logitV V b) := by
  rw [StableHlo.after_of_writes_sub (r := main_v59) hostOps1_4 _ hostOps1_4_writes (by decide +kernel), h3_v59]
  exact congrArg Cert.Val.lse (funext fun v => h3_logit V b v h)

theorem hAll_v64 (V : VV) (b : Fin 16)
    (h : ∀ b x, 0 ≤ (show BitVec 32 from V (Proc.devRef .tc main_arg4) (ix2 b x)).toInt) :
    hAll V (Proc.devRef .tc main_v64) (ix2 0 b) = Cert.Val.lse (logitV V b) := by
  unfold hAll
  rw [h5_v64, h34_v59 V b h]

theorem hAll_v63 (V : VV) (b : Fin 16) (n : Fin 20) (q : Fin 32000)
    (h : ∀ b x, 0 ≤ (show BitVec 32 from V (Proc.devRef .tc main_arg4) (ix2 b x)).toInt)
    (hq : (show BitVec 32 from V (Proc.devRef .tc main_arg9) (ix2 b n)) = BitVec.ofNat 32 q.val) :
    hAll V (Proc.devRef .tc main_v63) (ix2 b n) = logitV V b q - Cert.Val.lse (logitV V b) := by
  unfold hAll
  rw [h5_v63, h34_v59 V b h, h4_v60 _ b n q, h3_logit V b q h]
  rw [StableHlo.after_of_writes_sub (r := main_arg9) hostOps1_3 _ hostOps1_3_writes (by decide +kernel),
    h012_arg V main_arg9 (by decide +kernel) (by decide +kernel) (by decide +kernel)]
  exact hq

/-! ## The product -/

variable (m : (ℓ : Loc nD τ sig) → Buf (Elt Ideal) ℓ)

theorem zero2R : (![0, 0] : Fin 2 → ℕ) = fun _ => 0 := by funext a; match a with | 0 => rfl | 1 => rfl

theorem out_eq (x0 : Vec Ideal S16x12288 .fp8e4m3) (x1 : Vec Ideal S12288x32000 .fp8e4m3) : out0_2 x0 x1 = k0_pay1 x0 x1 := by
  unfold out0_2
  rw [View.canon_unit_zero zero2R, View.ld_unit_zero zero2R, View.ld_unit_zero zero2R]

theorem pay_at (x0 : Vec Ideal S16x12288 .fp8e4m3) (x1 : Vec Ideal S12288x32000 .fp8e4m3) (b : Fin 16) (v : Fin 32000) :
    k0_pay1 x0 x1 (ix2 b v) = ∑ k : Fin 12288, (x0 (ix2 b k) : EReal) * x1 (ix2 k v) := by
  pointwise [k0_pay1]

theorem r_idx0 : ∀ t : Fin cfg0.N, ∀ a : Fin 2, win0_0.index t a = 0 := (by decide +kernel : ∀ t : Fin grid0.N, _)
theorem r_idx1 : ∀ t : Fin cfg0.N, ∀ a : Fin 2, win0_1.index t a = 0 := (by decide +kernel : ∀ t : Fin grid0.N, _)
theorem r_idx2 : ∀ t : Fin cfg0.N, ∀ a : Fin 2, win0_2.index t a = 0 := (by decide +kernel : ∀ t : Fin grid0.N, _)

theorem r_iblk_0 (c : Dev nD) (t : Fin cfg0.N) : iblk m c 0 t = m ((c : Thread nD τ).loc main_arg0) := by
  have e0 := r_idx0 t 0
  have e1 := r_idx0 t 1
  funext y
  show V m c main_arg0 (((cfg0.win 0).blk t).view.emb y) = _
  rw [V_main_arg0]
  refine congrArg (m ((c : Thread nD τ).loc main_arg0)) ?_
  funext a; apply Fin.ext
  match a with
  | ⟨0, _⟩ => show win0_0.index t (0 : Fin 2) * 16 + 1 * (y 0).val = (y 0).val; rw [e0]; omega
  | ⟨1, _⟩ => show win0_0.index t (1 : Fin 2) * 12288 + 1 * (y 1).val = (y 1).val; rw [e1]; omega

theorem r_iblk_1 (c : Dev nD) (t : Fin cfg0.N) : iblk m c 1 t = m ((c : Thread nD τ).loc main_arg2) := by
  have e0 := r_idx1 t 0
  have e1 := r_idx1 t 1
  funext y
  show V m c main_arg2 (((cfg0.win 1).blk t).view.emb y) = _
  rw [V_main_arg2]
  refine congrArg (m ((c : Thread nD τ).loc main_arg2)) ?_
  funext a; apply Fin.ext
  match a with
  | ⟨0, _⟩ => show win0_1.index t (0 : Fin 2) * 12288 + 1 * (y 0).val = (y 0).val; rw [e0]; omega
  | ⟨1, _⟩ => show win0_1.index t (1 : Fin 2) * 32000 + 1 * (y 1).val = (y 1).val; rw [e1]; omega

theorem r_cov : win0_2.Covers := by decide +kernel

theorem arr_prod (c : Dev nD) :
    (dats m 0 c).arrAt 2 cfg0.N
      = k0_pay1 (F := Ideal) (m ((c : Thread nD τ).loc main_arg0)) (m ((c : Thread nD τ).loc main_arg2)) := by
  have h := fun t : Fin cfg0.N => (after0_2 m c t).trans ((out_eq _ _).trans (congrArg₂ (k0_pay1 (F := Ideal)) (r_iblk_0 m c t) (r_iblk_1 m c t)))
  apply Pipeline.Dat.arrAt_eq_of_covers (dats m 0 c) (2 : Fin cfg0.W)
    (k0_pay1 (F := Ideal) (m ((c : Thread nD τ).loc main_arg0)) (m ((c : Thread nD τ).loc main_arg2))) r_cov
  intro t hf y
  refine Eq.trans (congrFun (h t) _) ?_
  refine congrArg (k0_pay1 (F := Ideal) (m ((c : Thread nD τ).loc main_arg0)) (m ((c : Thread nD τ).loc main_arg2))) ?_
  have e0 := r_idx2 t 0
  have e1 := r_idx2 t 1
  funext a; apply Fin.ext
  match a with
  | ⟨0, _⟩ => show (y 0).val = win0_2.index t (0 : Fin 2) * 16 + 1 * (y 0).val; rw [e0]; omega
  | ⟨1, _⟩ => show (y 1).val = win0_2.index t (1 : Fin 2) * 32000 + 1 * (y 1).val; rw [e1]; omega

/-! ## The run -/

/-- The contents the host lines start from. -/
abbrev V1 (c : Dev nD) : VV := Pipeline.withArrays spec0 c (V0 m c) fun w => (dats m 0 c).arrAt w cfg0.N

theorem tail_eq (c : Dev nD) (b : Ref sig .tc) :
    Pipeline.afterTail₀ cfgs (dats m) 0 (V0 m) [hostOps1, hostOps1_1, hostOps1_2, hostOps1_3, hostOps1_4, hostOps1_5] c b
      = hAll (V1 m c) (Proc.devRef .tc b) := by
  unfold Pipeline.afterTail₀ hAll h012
  rw [List.flatten_cons, List.flatten_cons, List.flatten_cons, List.flatten_cons, List.flatten_cons, List.flatten_cons, List.flatten_nil, List.append_nil,
    StableHlo.after_append, StableHlo.after_append, StableHlo.after_append, StableHlo.after_append, StableHlo.after_append]

theorem V1_v0 (c : Dev nD) : V1 m c (Proc.devRef .tc main_v0)
    = k0_pay1 (F := Ideal) (m ((c : Thread nD τ).loc main_arg0)) (m ((c : Thread nD τ).loc main_arg2)) :=
  (Pipeline.withArrays_arr spec0 (by decide) c (V0 m c) _ 2).trans (arr_prod m c)

theorem V1_of (c : Dev nD) (b : Ref sig .tc) (h : ∀ w, Pipeline.arrRef spec0 w ≠ b) : V1 m c (Proc.devRef .tc b) = m ((c : Thread nD τ).loc b) :=
  Pipeline.withArrays_of_ne spec0 c (V0 m c) _ b h

/-- The penalized logits of the launch arguments. -/
def logitM (c : Dev nD) (b : Fin 16) (v : Fin 32000) : EReal :=
  Cert.Val.logit (fun b k => m ((c : Thread nD τ).loc main_arg0) (ix2 b k)) (fun k v => m ((c : Thread nD τ).loc main_arg2) (ix2 k v))
    (fun b => m ((c : Thread nD τ).loc main_arg1) (ix1 b)) (fun v => m ((c : Thread nD τ).loc main_arg3) (ix1 v))
    (Cert.Val.hits (fun b x => m ((c : Thread nD τ).loc main_arg4) (ix2 b x)) (fun b => m ((c : Thread nD τ).loc main_arg5) (ix1 b)))
    (fun b => m ((c : Thread nD τ).loc main_arg8) (ix1 b)) (fun b => m ((c : Thread nD τ).loc main_arg7) (ix1 b))
    (fun b => m ((c : Thread nD τ).loc main_arg6) (ix1 b)) b v

theorem logit_V1 (c : Dev nD) (b : Fin 16) (v : Fin 32000) : logitV (V1 m c) b v = logitM m c b v := by
  unfold logitV hitsV scaled logitM Cert.Val.logit
  rw [V1_v0 m c, V1_of m c main_arg1 (by decide), V1_of m c main_arg3 (by decide), V1_of m c main_arg4 (by decide), V1_of m c main_arg5 (by decide),
    V1_of m c main_arg6 (by decide), V1_of m c main_arg7 (by decide), V1_of m c main_arg8 (by decide), pay_at]

/-- The reference's run: the three results are the plain tables, and the arguments end unchanged. -/
theorem run_vals (ρ : Dev nD → PrngReg)
    (hid : ∀ (c : Dev nD) b x, 0 ≤ (show BitVec 32 from m ((c : Thread nD τ).loc main_arg4) (ix2 b x)).toInt)
    (hc0 : ∀ (c : Dev nD) b n, 0 ≤ (show BitVec 32 from m ((c : Thread nD τ).loc main_arg9) (ix2 b n)).toInt)
    (hc1 : ∀ (c : Dev nD) b n, (show BitVec 32 from m ((c : Thread nD τ).loc main_arg9) (ix2 b n)).toInt < 32000) :
    θ_run defs (onTc (τ := τ) (main (F := Ideal))) ⟨m, fun _ => 0, ρ⟩ (fun r => ∀ c : Dev nD,
      r.2.mem ((c.tc : Thread nD τ).loc main_v64) = Cert.Val.lseRow (logitM m c)
      ∧ r.2.mem ((c.tc : Thread nD τ).loc main_v63) = Cert.Val.picked (logitM m c) (fun b n => m ((c : Thread nD τ).loc main_arg9) (ix2 b n))
      ∧ r.2.mem ((c.tc : Thread nD τ).loc main_v51) = Cert.Val.logits (logitM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h c => ?_) (run_main m ρ)
  have hid' : ∀ b x, 0 ≤ (show BitVec 32 from V1 m c (Proc.devRef .tc main_arg4) (ix2 b x)).toInt := by
    intro b x
    rw [V1_of m c main_arg4 (by decide)]
    exact hid c b x
  have hl : logitV (V1 m c) = logitM m c := funext fun b => funext fun v => logit_V1 m c b v
  refine ⟨((h c).2 main_v64 (Pipeline.mem_restRefs_of main_v64 (by decide) (by decide))).trans ((tail_eq m c main_v64).trans ?_), ((h c).2 main_v63 (Pipeline.mem_restRefs_of main_v63 (by decide) (by decide))).trans ((tail_eq m c main_v63).trans ?_), ((h c).2 main_v51 (Pipeline.mem_restRefs_of main_v51 (by decide) (by decide))).trans ((tail_eq m c main_v51).trans ?_),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩
  · funext y
    obtain ⟨z, b, rfl⟩ : ∃ z b, y = ix2 z b := ⟨y 0, y 1, by funext a; match a with | 0 => rfl | 1 => rfl⟩
    obtain rfl : z = 0 := Subsingleton.elim _ _
    rw [hAll_v64 (V1 m c) b hid', hl]
    rfl
  · funext y
    obtain ⟨b, n, rfl⟩ : ∃ b n, y = ix2 b n := ⟨y 0, y 1, by funext a; match a with | 0 => rfl | 1 => rfl⟩
    rw [hAll_v63 (V1 m c) b n (Cert.Val.tok (m ((c : Thread nD τ).loc main_arg9) (ix2 b n))) hid'
      (by rw [V1_of m c main_arg9 (by decide)]; exact Cert.Val.tok_eq _ (hc0 c b n) (hc1 c b n)), hl]
    rfl
  · funext y
    obtain ⟨b, v, rfl⟩ : ∃ b v, y = ix2 b v := ⟨y 0, y 1, by funext a; match a with | 0 => rfl | 1 => rfl⟩
    rw [hAll_v51 (V1 m c) b v hid', hl]
    rfl

end Cert.ReferenceIdeal.Gen

end
-- ==== Proof.Val.Algebraic.lean ====
module

public import proofs.«01_k».proof.Defs
public import proofs.«01_k».proof.Proof.Gen.Pre_ids_in_range
public import proofs.«01_k».proof.Proof.Val.KerVal
public import proofs.«01_k».proof.Proof.Val.RefVal

@[expose] public section

/-! The kernel and the reference compute the same three results. -/

noncomputable section

namespace Cert.Val

open Idealize.ShloMosaic Idealize.ShloMosaic.TcCoe Idealize.SL.Sem

theorem nonneg_of_sge (w : BitVec 32) (h : IntOp.cmpi .sge w 0#32 = 1#1) : 0 ≤ w.toInt := by
  by_contra hn
  have e : BitVec.sle 0#32 w = false := by
    simp only [BitVec.sle]
    exact decide_eq_false (by simpa using hn)
  simp only [IntOp.cmpi, e] at h
  exact absurd h (by decide)

theorem lt_of_slt (w : BitVec 32) (h : IntOp.cmpi .slt w 32000#32 = 1#1) : w.toInt < 32000 := by
  by_contra hn
  have e : BitVec.slt w 32000#32 = false := by
    simp only [BitVec.slt]
    exact decide_eq_false hn
  simp only [IntOp.cmpi, e] at h
  exact absurd h (by decide)

theorem ids_ok (m : (ℓ : Loc Cert.KernelIdeal.nD Cert.KernelIdeal.τ Cert.KernelIdeal.sig) → Buf (Elt Ideal) ℓ)
    (h : Cert.Pre_KernelIdeal_ids_in_range m) : Cert.KernelIdeal.Gen.IdsOk m :=
  fun c b x => nonneg_of_sge _ (congrFun (h c).1 (ix2 b x))

theorem cand_ok (m : (ℓ : Loc Cert.KernelIdeal.nD Cert.KernelIdeal.τ Cert.KernelIdeal.sig) → Buf (Elt Ideal) ℓ)
    (h : Cert.Pre_KernelIdeal_ids_in_range m) : Cert.KernelIdeal.Gen.CandOk m :=
  fun c b n => ⟨nonneg_of_sge _ (congrFun (h c).2.1 (ix2 b n)), lt_of_slt _ (congrFun (h c).2.2 (ix2 b n))⟩

theorem algebraic : Cert.algebraic_KernelIdeal_ReferenceIdeal_pre_ids_in_range := by
  intro m g m' g' hpre hm
  have hid := ids_ok m hpre
  have hcand := cand_ok m hpre
  have h4 : ∀ c : Dev Cert.KernelIdeal.nD, _ := fun c => (hm c).2.2.2.2.1
  have h9 : ∀ c : Dev Cert.KernelIdeal.nD, _ := fun c => (hm c).2.2.2.2.2.2.2.2.2
  have hl : ∀ c : Dev Cert.KernelIdeal.nD, Cert.ReferenceIdeal.Gen.logitM m' c = Cert.KernelIdeal.Gen.logitM m c := by
    intro c
    obtain ⟨a0, a1, a2, a3, a4, a5, a6, a7, a8, a9⟩ := hm c
    funext b v
    unfold Cert.ReferenceIdeal.Gen.logitM Cert.KernelIdeal.Gen.logitM
    rw [a0, a1, a2, a3, a4, a5, a6, a7, a8]
  have hr := Cert.ReferenceIdeal.Gen.run_vals m' g' (fun c b x => by rw [h4 c]; exact hid c b x)
    (fun c b n => by rw [h9 c]; exact (hcand c b n).1) (fun c b n => by rw [h9 c]; exact (hcand c b n).2)
  refine ⟨_, _, _, Cert.KernelIdeal.Gen.run_vals m g hid hcand, (θ_run _ _ _).mono (fun r h c => ?_) hr⟩
  obtain ⟨r0, r1, r2, rest⟩ := h c
  refine ⟨r0.trans ?_, r1.trans ?_, r2.trans ?_, rest⟩
  · rw [hl c]
  · rw [hl c, h9 c]
  · rw [hl c]

end Cert.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_ids_in_range
public import proofs.«01_k».proof.Proof.Gen.ReferenceIdeal.Skeleton
public import proofs.«01_k».proof.Proof.Gen.Pre_ids_in_range
public import proofs.«01_k».proof.Proof.Gen.ReferenceIdeal.Launch
public import proofs.«01_k».proof.Proof.Gen.Pre_ids_in_range
public import proofs.«01_k».proof.Proof.Gen.ReferenceIdeal.Points
public import proofs.«01_k».proof.Proof.Gen.Pre_ids_in_range
public import proofs.«01_k».proof.Proof.Gen.ReferenceIdeal.Frame
public import proofs.«01_k».proof.Proof.Gen.Pre_ids_in_range
public import proofs.«01_k».proof.Proof.Body.State
public import proofs.«01_k».proof.Proof.BodyK.State
public import proofs.«01_k».proof.Proof.Val.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_ids_in_range.Gen.facts,
  fun m g _ => Cert.Kernel.Gen.frame m g, fun m g _ => Cert.KernelIdeal.Gen.frame m g, fun m g _ => Cert.KernelIdeal.Gen.frame m g,
  fun m g _ => Cert.ReferenceIdeal.Gen.frame m g, fun m g _ => Cert.ReferenceIdeal.Gen.frame m g, trivial, Cert.Val.algebraic⟩

end Cert.Proof

end
